-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  IdealRules.named_const.Statement Cert.KernelIdeal.κ "minus_inf" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v18_0)) (v1 : (c : Dev Cert.Kernel2Ideal.nD) → Buf (Elt Ideal) ((c.tc : Thread Cert.Kernel2Ideal.nD Cert.Kernel2Ideal.τ).loc Cert.Kernel2Ideal.main_v18_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18_0) = v0 c
          ∧ r.2.mem ((c.tc : Thread Cert.Kernel2Ideal.nD Cert.Kernel2Ideal.τ).loc Cert.Kernel2Ideal.main_v18_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_v59) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  IdealRules.named_const.Statement Cert.Kernel3Ideal.κ "gelu_3" .f32 0xBDD2D3E8#32 (((-((2 * (6693141 / 8388608)) * (Real.log 2)⁻¹)) * (12003091 / 268435456) : ℝ) : EReal)
  ∧ IdealRules.named_const.Statement Cert.Kernel3Ideal.κ "gelu_1" .f32 0xC0135761#32 ((-((2 * (6693141 / 8388608)) * (Real.log 2)⁻¹) : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_qk.lean ====
abbrev S2x8192x8x96 : Shape := ⟨4, ![2, 8192, 8, 96]⟩
abbrev S2x8192x8x64 : Shape := ⟨4, ![2, 8192, 8, 64]⟩
abbrev S_ : Shape := ⟨0, ![]⟩

class Facts : Prop where
  bcast_S_S2x8192x8x96 : S_.BroadcastsInDim S2x8192x8x96 (![] : Fin 0 → Fin S2x8192x8x96.rank)
  reducesTo_S2x8192x8x96_S_d0_1_2_3 : S2x8192x8x96.ReducesTo [0, 1, 2, 3] S_
  h_S_ : 0 < S_.numel

variable [Facts]

def fn {F : FTy → Type} [FloatOps F] (main_arg0 : FVec F S2x8192x8x96 .f32) (main_arg1 : FVec F S2x8192x8x96 .f32) (main_arg2 : FVec F S2x8192x8x64 .f32) : IVec S_ 1 :=
  let main_v0 : FVec F S2x8192x8x96 .f32 := Host.absf main_arg0
  let main_cst : FVec F S_ .f32 := constant S_ .f32 0x7F800000#32
  let main_v1 : FVec F S2x8192x8x96 .f32 := broadcastInDim S2x8192x8x96 ![] bcast_S_S2x8192x8x96 main_cst
  let main_v2 : IVec S2x8192x8x96 1 := cmpf .olt main_v0 main_v1
  let main_c : IVec S_ 1 := constantI S_ 1 1#1
  let main_v3 : IVec S_ 1 := (fun x v => Host.reduce IntOp.andi x v reducesTo_S2x8192x8x96_S_d0_1_2_3 h_S_) main_v2 main_c
  let main_v4 : FVec F S2x8192x8x96 .f32 := Host.absf main_arg1
  let main_cst_0 : FVec F S_ .f32 := constant S_ .f32 0x7F800000#32
  let main_v5 : FVec F S2x8192x8x96 .f32 := broadcastInDim S2x8192x8x96 ![] bcast_S_S2x8192x8x96 main_cst_0
  let main_v6 : IVec S2x8192x8x96 1 := cmpf .olt main_v4 main_v5
  let main_c_1 : IVec S_ 1 := constantI S_ 1 1#1
  let main_v7 : IVec S_ 1 := (fun x v => Host.reduce IntOp.andi x v reducesTo_S2x8192x8x96_S_d0_1_2_3 h_S_) main_v6 main_c_1
  let main_v8 : IVec S_ 1 := andi main_v3 main_v7
  main_v8
-- ==== Kernel.lean ====
abbrev S2x8192x8x96 : Shape := ⟨4, ![2, 8192, 8, 96]⟩
abbrev S2x8192x8x64 : Shape := ⟨4, ![2, 8192, 8, 64]⟩
abbrev S8x96x2x8192 : Shape := ⟨4, ![8, 96, 2, 8192]⟩
abbrev S8x96x16384 : Shape := ⟨3, ![8, 96, 16384]⟩
abbrev S_ : Shape := ⟨0, ![]⟩
abbrev S8x32x16384 : Shape := ⟨3, ![8, 32, 16384]⟩
abbrev S8x128x16384 : Shape := ⟨3, ![8, 128, 16384]⟩
abbrev S8x2x8192x96 : Shape := ⟨4, ![8, 2, 8192, 96]⟩
abbrev S8x16384x96 : Shape := ⟨3, ![8, 16384, 96]⟩
abbrev S8x16384 : Shape := ⟨2, ![8, 16384]⟩
abbrev S8x16384x32 : Shape := ⟨3, ![8, 16384, 32]⟩
abbrev S8x16384x128 : Shape := ⟨3, ![8, 16384, 128]⟩
abbrev S8x64x2x8192 : Shape := ⟨4, ![8, 64, 2, 8192]⟩
abbrev S8x64x16384 : Shape := ⟨3, ![8, 64, 16384]⟩
abbrev S8x16x16384 : Shape := ⟨3, ![8, 16, 16384]⟩
abbrev S8x80x16384 : Shape := ⟨3, ![8, 80, 16384]⟩
abbrev S8x80x32x512 : Shape := ⟨4, ![8, 80, 32, 512]⟩
abbrev S8x32x80x512 : Shape := ⟨4, ![8, 32, 80, 512]⟩
abbrev S8x2x8192 : Shape := ⟨3, ![8, 2, 8192]⟩
abbrev S8x2 : Shape := ⟨2, ![8, 2]⟩
abbrev S16 : Shape := ⟨1, ![16]⟩
abbrev S512x16384 : Shape := ⟨2, ![512, 16384]⟩
abbrev S1x128x1024 : Shape := ⟨3, ![1, 128, 1024]⟩
abbrev S1x8192x128 : Shape := ⟨3, ![1, 8192, 128]⟩
abbrev S1x16x80x512 : Shape := ⟨4, ![1, 16, 80, 512]⟩
abbrev S64x1024 : Shape := ⟨2, ![64, 1024]⟩
abbrev S4x512x1024 : Shape := ⟨3, ![4, 512, 1024]⟩
abbrev S1x1024 : Shape := ⟨2, ![1, 1024]⟩
abbrev S80x1024 : Shape := ⟨2, ![80, 1024]⟩
abbrev S128x1024 : Shape := ⟨2, ![128, 1024]⟩
abbrev S1 : Shape := ⟨1, ![1]⟩
abbrev S1024 : Shape := ⟨1, ![1024]⟩
abbrev S1x1x1024 : Shape := ⟨3, ![1, 1, 1024]⟩
abbrev S1x1x1 : Shape := ⟨3, ![1, 1, 1]⟩
abbrev S1x512x128 : Shape := ⟨3, ![1, 512, 128]⟩
abbrev S512x128 : Shape := ⟨2, ![512, 128]⟩
abbrev S512x1024 : Shape := ⟨2, ![512, 1024]⟩
abbrev S1x512x1024 : Shape := ⟨3, ![1, 512, 1024]⟩
abbrev S1x1x80x512 : Shape := ⟨4, ![1, 1, 80, 512]⟩
abbrev S80x512 : Shape := ⟨2, ![80, 512]⟩

abbrev nBuf : Space → Nat
  | .hbm => 39
  | .vmem => 11
  | .smem => 1
  | _ => 0

abbrev bufTy : (tb : Table) → Fin (tcTables nBuf tb) → BufTy
  | .hbm, ⟨0, _⟩ => ⟨S2x8192x8x96, .f32⟩
  | .hbm, ⟨1, _⟩ => ⟨S2x8192x8x96, .f32⟩
  | .hbm, ⟨2, _⟩ => ⟨S2x8192x8x64, .f32⟩
  | .hbm, ⟨3, _⟩ => ⟨S8x96x2x8192, .f32⟩
  | .hbm, ⟨4, _⟩ => ⟨S8x96x16384, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x96x16384, .f32⟩
  | .hbm, ⟨11, _⟩ => ⟨S8x96x16384, .f32⟩
  | .hbm, ⟨12, _⟩ => ⟨S_, .f32⟩
  | .hbm, ⟨13, _⟩ => ⟨S8x32x16384, .f32⟩
  | .hbm, ⟨14, _⟩ => ⟨S8x128x16384, .f32⟩
  | .hbm, ⟨15, _⟩ => ⟨S8x128x16384, .bf16⟩
  | .hbm, ⟨16, _⟩ => ⟨S8x2x8192x96, .f32⟩
  | .hbm, ⟨17, _⟩ => ⟨S8x16384x96, .f32⟩
  | .hbm, ⟨18, _⟩ => ⟨S8x16384x96, .f32⟩
  | .hbm, ⟨19, _⟩ => ⟨S_, .f32⟩
  | .hbm, ⟨20, _⟩ => ⟨S8x16384, .f32⟩
  | .hbm, ⟨21, _⟩ => ⟨S_, .f32⟩
  | .hbm, ⟨22, _⟩ => ⟨S8x16384x32, .f32⟩
  | .hbm, ⟨23, _⟩ => ⟨S8x16384x128, .f32⟩
  | .hbm, ⟨24, _⟩ => ⟨S8x16384x128, .bf16⟩
  | .hbm, ⟨25, _⟩ => ⟨S8x64x2x8192, .f32⟩
  | .hbm, ⟨26, _⟩ => ⟨S8x64x16384, .f32⟩
  | .hbm, ⟨27, _⟩ => ⟨S_, .f32⟩
  | .hbm, ⟨28, _⟩ => ⟨S8x16x16384, .f32⟩
  | .hbm, ⟨29, _⟩ => ⟨S8x80x16384, .f32⟩
  | .hbm, ⟨30, _⟩ => ⟨S8x80x16384, .bf16⟩
  | .hbm, ⟨31, _⟩ => ⟨S8x80x32x512, .bf16⟩
  | .hbm, ⟨32, _⟩ => ⟨S8x32x80x512, .bf16⟩
  | .hbm, ⟨33, _⟩ => ⟨S8x2x8192, .f32⟩
  | .hbm, ⟨34, _⟩ => ⟨S_, .f32⟩
  | .hbm, ⟨35, _⟩ => ⟨S8x2, .f32⟩
  | .hbm, ⟨36, _⟩ => ⟨S8x2, .f32⟩
  | .hbm, ⟨37, _⟩ => ⟨S16, .f32⟩
  | .hbm, ⟨38, _⟩ => ⟨S512x16384, .f32⟩
  | .local _ .vmem, ⟨0, _⟩ => ⟨S1x128x1024, .bf16⟩
  | .local _ .vmem, ⟨1, _⟩ => ⟨S1x128x1024, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x16x80x512, .bf16⟩
  | .local _ .vmem, ⟨5, _⟩ => ⟨S1x16x80x512, .bf16⟩
  | .local _ .vmem, ⟨6, _⟩ => ⟨S64x1024, .f32⟩
  | .local _ .vmem, ⟨7, _⟩ => ⟨S64x1024, .f32⟩
  | .local _ .vmem, ⟨8, _⟩ => ⟨S4x512x1024, .f32⟩
  | .local _ .vmem, ⟨9, _⟩ => ⟨S1x1024, .f32⟩
  | .local _ .vmem, ⟨10, _⟩ => ⟨S80x1024, .f32⟩
  | .local _ .smem, ⟨0, _⟩ => ⟨S16, .f32⟩
  | _, _ => ⟨S2x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 8, 8], ![false, false, false]⟩

def k0_off1 (i : grid0.Coords) : Fin 1 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let v4 : Index := Scalar.indexCast v3
  ![v4.toNat]
def k0_mult1 : BitVec 32 :=
  let c0_i32_21 : BitVec 32 := 0#32
  c0_i32_21
@[reducible] def k0_t1_loop (i : grid0.Coords) : Scf.Loop 32 :=
  let c0_i32_38 : BitVec 32 := 0#32
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_31 : BitVec 32 := 0#32
  let v68 : BitVec 1 := Scalar.cmpi .sgt v56 c0_i32_31
  let v69 : BitVec 32 := Scalar.extui v68
  let c0_i32_32 : BitVec 32 := 0#32
  let v70 : BitVec 1 := Scalar.cmpi .slt v56 c0_i32_32
  let v71 : BitVec 32 := Scalar.extui v70
  let v72 : BitVec 32 := Scalar.subi v69 v71
  let c4_i32 : BitVec 32 := 4#32
  let c0_i32_33 : BitVec 32 := 0#32
  let v73 : BitVec 1 := Scalar.cmpi .sgt c4_i32 c0_i32_33
  let v74 : BitVec 32 := Scalar.extui v73
  let c0_i32_34 : BitVec 32 := 0#32
  let v75 : BitVec 1 := Scalar.cmpi .slt c4_i32 c0_i32_34
  let v76 : BitVec 32 := Scalar.extui v75
  let v77 : BitVec 32 := Scalar.subi v74 v76
  let v78 : BitVec 1 := Scalar.cmpi .ne v72 v77
  let v79 : BitVec 32 := Scalar.remsi v56 c4_i32
  let c0_i32_35 : BitVec 32 := 0#32
  let v80 : BitVec 1 := Scalar.cmpi .ne v79 c0_i32_35
  let v81 : BitVec 1 := Scalar.andi v78 v80
  let v67 : BitVec 32 := Scalar.divsi v56 c4_i32
  let c1_i32_36 : BitVec 32 := 1#32
  let v82 : BitVec 32 := Scalar.subi v67 c1_i32_36
  let v83 : BitVec 32 := Scalar.select v81 v82 v67
  let v84 : BitVec 32 := Scalar.subi v83 c0_i32_38
  let c1_i32_39 : BitVec 32 := 1#32
  let v86 : BitVec 32 := Scalar.divsi v84 c1_i32_39
  let v87 : BitVec 32 := Scalar.muli v86 c1_i32_39
  let v88 : BitVec 32 := Scalar.addi c0_i32_38 v87
  let c1_i32_40 : BitVec 32 := 1#32
  ⟨c0_i32_38, v88, c1_i32_40⟩
def k0_mult2 (i : grid0.Coords) (k0_t1 : Fin (k0_t1_loop i).trips) : BitVec 32 :=
  let c4_i32_57 : BitVec 32 := 4#32
  let c0_i32_38 : BitVec 32 := 0#32
  let c1_i32_40 : BitVec 32 := 1#32
  let arg11 : BitVec 32 := Scf.iv c0_i32_38 c1_i32_40 k0_t1
  let v123 : BitVec 32 := Scalar.muli c4_i32_57 arg11
  let c0_i32_58 : BitVec 32 := 0#32
  let v124 : BitVec 32 := Scalar.addi v123 c0_i32_58
  let c1_i32_59 : BitVec 32 := 1#32
  let v125 : BitVec 32 := Scalar.addi v124 c1_i32_59
  let c512_i32_60 : BitVec 32 := 512#32
  let v126 : BitVec 32 := Scalar.muli v125 c512_i32_60
  v126
def k0_off2 (i : grid0.Coords) (k0_t1 : Fin (k0_t1_loop i).trips) (c0_i32_58 : BitVec 32) : Fin 3 → Nat :=
  let c0_61 : Index := 0#32
  let c4_i32_57 : BitVec 32 := 4#32
  let c0_i32_38 : BitVec 32 := 0#32
  let c1_i32_40 : BitVec 32 := 1#32
  let arg11 : BitVec 32 := Scf.iv c0_i32_38 c1_i32_40 k0_t1
  let v123 : BitVec 32 := Scalar.muli c4_i32_57 arg11
  let v124 : BitVec 32 := Scalar.addi v123 c0_i32_58
  let c1_i32_59 : BitVec 32 := 1#32
  let v125 : BitVec 32 := Scalar.addi v124 c1_i32_59
  let c512_i32_60 : BitVec 32 := 512#32
  let v126 : BitVec 32 := Scalar.muli v125 c512_i32_60
  let v127 : BitVec 32 := v126
  let v128 : Index := Scalar.indexCast v127
  let c0_62 : Index := 0#32
  ![0, v128.toNat, 0]
def k0_off3 (i : grid0.Coords) (k0_t1 : Fin (k0_t1_loop i).trips) (c0_i32_72 : BitVec 32) : Fin 4 → Nat :=
  let c0_73 : Index := 0#32
  let c4_i32_57 : BitVec 32 := 4#32
  let c0_i32_38 : BitVec 32 := 0#32
  let c1_i32_40 : BitVec 32 := 1#32
  let arg11 : BitVec 32 := Scf.iv c0_i32_38 c1_i32_40 k0_t1
  let v123 : BitVec 32 := Scalar.muli c4_i32_57 arg11
  let v139 : BitVec 32 := Scalar.addi v123 c0_i32_72
  let v140 : Index := Scalar.indexCast v139
  let c0_74 : Index := 0#32
  let c0_75 : Index := 0#32
  ![0, v140.toNat, 0, 0]
def k0_mult3 (i : grid0.Coords) (k0_t1 : Fin (k0_t1_loop i).trips) : BitVec 32 :=
  let c4_i32_57 : BitVec 32 := 4#32
  let c0_i32_38 : BitVec 32 := 0#32
  let c1_i32_40 : BitVec 32 := 1#32
  let arg11 : BitVec 32 := Scf.iv c0_i32_38 c1_i32_40 k0_t1
  let v123 : BitVec 32 := Scalar.muli c4_i32_57 arg11
  let c1_i32_83 : BitVec 32 := 1#32
  let v154 : BitVec 32 := Scalar.addi v123 c1_i32_83
  let c1_i32_84 : BitVec 32 := 1#32
  let v155 : BitVec 32 := Scalar.addi v154 c1_i32_84
  let c512_i32_85 : BitVec 32 := 512#32
  let v156 : BitVec 32 := Scalar.muli v155 c512_i32_85
  v156
def k0_mult4 (i : grid0.Coords) (k0_t1 : Fin (k0_t1_loop i).trips) : BitVec 32 :=
  let c4_i32_57 : BitVec 32 := 4#32
  let c0_i32_38 : BitVec 32 := 0#32
  let c1_i32_40 : BitVec 32 := 1#32
  let arg11 : BitVec 32 := Scf.iv c0_i32_38 c1_i32_40 k0_t1
  let v123 : BitVec 32 := Scalar.muli c4_i32_57 arg11
  let c2_i32_108 : BitVec 32 := 2#32
  let v184 : BitVec 32 := Scalar.addi v123 c2_i32_108
  let c1_i32_109 : BitVec 32 := 1#32
  let v185 : BitVec 32 := Scalar.addi v184 c1_i32_109
  let c512_i32_110 : BitVec 32 := 512#32
  let v186 : BitVec 32 := Scalar.muli v185 c512_i32_110
  v186
def k0_mult5 (i : grid0.Coords) (k0_t1 : Fin (k0_t1_loop i).trips) : BitVec 32 :=
  let c4_i32_57 : BitVec 32 := 4#32
  let c0_i32_38 : BitVec 32 := 0#32
  let c1_i32_40 : BitVec 32 := 1#32
  let arg11 : BitVec 32 := Scf.iv c0_i32_38 c1_i32_40 k0_t1
  let v123 : BitVec 32 := Scalar.muli c4_i32_57 arg11
  let c3_i32_133 : BitVec 32 := 3#32
  let v214 : BitVec 32 := Scalar.addi v123 c3_i32_133
  let c1_i32_134 : BitVec 32 := 1#32
  let v215 : BitVec 32 := Scalar.addi v214 c1_i32_134
  let c512_i32_135 : BitVec 32 := 512#32
  let v216 : BitVec 32 := Scalar.muli v215 c512_i32_135
  v216
@[reducible] def k0_t2_loop (i : grid0.Coords) : Scf.Loop 32 :=
  let c0_i32_38 : BitVec 32 := 0#32
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_31 : BitVec 32 := 0#32
  let v68 : BitVec 1 := Scalar.cmpi .sgt v56 c0_i32_31
  let v69 : BitVec 32 := Scalar.extui v68
  let c0_i32_32 : BitVec 32 := 0#32
  let v70 : BitVec 1 := Scalar.cmpi .slt v56 c0_i32_32
  let v71 : BitVec 32 := Scalar.extui v70
  let v72 : BitVec 32 := Scalar.subi v69 v71
  let c4_i32 : BitVec 32 := 4#32
  let c0_i32_33 : BitVec 32 := 0#32
  let v73 : BitVec 1 := Scalar.cmpi .sgt c4_i32 c0_i32_33
  let v74 : BitVec 32 := Scalar.extui v73
  let c0_i32_34 : BitVec 32 := 0#32
  let v75 : BitVec 1 := Scalar.cmpi .slt c4_i32 c0_i32_34
  let v76 : BitVec 32 := Scalar.extui v75
  let v77 : BitVec 32 := Scalar.subi v74 v76
  let v78 : BitVec 1 := Scalar.cmpi .ne v72 v77
  let v79 : BitVec 32 := Scalar.remsi v56 c4_i32
  let c0_i32_35 : BitVec 32 := 0#32
  let v80 : BitVec 1 := Scalar.cmpi .ne v79 c0_i32_35
  let v81 : BitVec 1 := Scalar.andi v78 v80
  let v67 : BitVec 32 := Scalar.divsi v56 c4_i32
  let c1_i32_36 : BitVec 32 := 1#32
  let v82 : BitVec 32 := Scalar.subi v67 c1_i32_36
  let v83 : BitVec 32 := Scalar.select v81 v82 v67
  let v84 : BitVec 32 := Scalar.subi v83 c0_i32_38
  let c1_i32_39 : BitVec 32 := 1#32
  let v86 : BitVec 32 := Scalar.divsi v84 c1_i32_39
  let v87 : BitVec 32 := Scalar.muli v86 c1_i32_39
  let v88 : BitVec 32 := Scalar.addi c0_i32_38 v87
  let v85 : BitVec 32 := Scalar.addi c0_i32_38 v84
  let c1_i32_41 : BitVec 32 := 1#32
  ⟨v88, v85, c1_i32_41⟩
def k0_mult6 (i : grid0.Coords) (k0_t2 : Fin (k0_t2_loop i).trips) : BitVec 32 :=
  let c4_i32_57 : BitVec 32 := 4#32
  let c0_i32_38 : BitVec 32 := 0#32
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_31 : BitVec 32 := 0#32
  let v68 : BitVec 1 := Scalar.cmpi .sgt v56 c0_i32_31
  let v69 : BitVec 32 := Scalar.extui v68
  let c0_i32_32 : BitVec 32 := 0#32
  let v70 : BitVec 1 := Scalar.cmpi .slt v56 c0_i32_32
  let v71 : BitVec 32 := Scalar.extui v70
  let v72 : BitVec 32 := Scalar.subi v69 v71
  let c4_i32 : BitVec 32 := 4#32
  let c0_i32_33 : BitVec 32 := 0#32
  let v73 : BitVec 1 := Scalar.cmpi .sgt c4_i32 c0_i32_33
  let v74 : BitVec 32 := Scalar.extui v73
  let c0_i32_34 : BitVec 32 := 0#32
  let v75 : BitVec 1 := Scalar.cmpi .slt c4_i32 c0_i32_34
  let v76 : BitVec 32 := Scalar.extui v75
  let v77 : BitVec 32 := Scalar.subi v74 v76
  let v78 : BitVec 1 := Scalar.cmpi .ne v72 v77
  let v79 : BitVec 32 := Scalar.remsi v56 c4_i32
  let c0_i32_35 : BitVec 32 := 0#32
  let v80 : BitVec 1 := Scalar.cmpi .ne v79 c0_i32_35
  let v81 : BitVec 1 := Scalar.andi v78 v80
  let v67 : BitVec 32 := Scalar.divsi v56 c4_i32
  let c1_i32_36 : BitVec 32 := 1#32
  let v82 : BitVec 32 := Scalar.subi v67 c1_i32_36
  let v83 : BitVec 32 := Scalar.select v81 v82 v67
  let v84 : BitVec 32 := Scalar.subi v83 c0_i32_38
  let c1_i32_39 : BitVec 32 := 1#32
  let v86 : BitVec 32 := Scalar.divsi v84 c1_i32_39
  let v87 : BitVec 32 := Scalar.muli v86 c1_i32_39
  let v88 : BitVec 32 := Scalar.addi c0_i32_38 v87
  let c1_i32_41 : BitVec 32 := 1#32
  let arg11 : BitVec 32 := Scf.iv v88 c1_i32_41 k0_t2
  let v123 : BitVec 32 := Scalar.muli c4_i32_57 arg11
  let c0_i32_58 : BitVec 32 := 0#32
  let v124 : BitVec 32 := Scalar.addi v123 c0_i32_58
  let c1_i32_59 : BitVec 32 := 1#32
  let v125 : BitVec 32 := Scalar.addi v124 c1_i32_59
  let c512_i32_60 : BitVec 32 := 512#32
  let v126 : BitVec 32 := Scalar.muli v125 c512_i32_60
  v126
def k0_off4 (i : grid0.Coords) (k0_t2 : Fin (k0_t2_loop i).trips) (c0_i32_58 : BitVec 32) : Fin 3 → Nat :=
  let c0_61 : Index := 0#32
  let c4_i32_57 : BitVec 32 := 4#32
  let c0_i32_38 : BitVec 32 := 0#32
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_31 : BitVec 32 := 0#32
  let v68 : BitVec 1 := Scalar.cmpi .sgt v56 c0_i32_31
  let v69 : BitVec 32 := Scalar.extui v68
  let c0_i32_32 : BitVec 32 := 0#32
  let v70 : BitVec 1 := Scalar.cmpi .slt v56 c0_i32_32
  let v71 : BitVec 32 := Scalar.extui v70
  let v72 : BitVec 32 := Scalar.subi v69 v71
  let c4_i32 : BitVec 32 := 4#32
  let c0_i32_33 : BitVec 32 := 0#32
  let v73 : BitVec 1 := Scalar.cmpi .sgt c4_i32 c0_i32_33
  let v74 : BitVec 32 := Scalar.extui v73
  let c0_i32_34 : BitVec 32 := 0#32
  let v75 : BitVec 1 := Scalar.cmpi .slt c4_i32 c0_i32_34
  let v76 : BitVec 32 := Scalar.extui v75
  let v77 : BitVec 32 := Scalar.subi v74 v76
  let v78 : BitVec 1 := Scalar.cmpi .ne v72 v77
  let v79 : BitVec 32 := Scalar.remsi v56 c4_i32
  let c0_i32_35 : BitVec 32 := 0#32
  let v80 : BitVec 1 := Scalar.cmpi .ne v79 c0_i32_35
  let v81 : BitVec 1 := Scalar.andi v78 v80
  let v67 : BitVec 32 := Scalar.divsi v56 c4_i32
  let c1_i32_36 : BitVec 32 := 1#32
  let v82 : BitVec 32 := Scalar.subi v67 c1_i32_36
  let v83 : BitVec 32 := Scalar.select v81 v82 v67
  let v84 : BitVec 32 := Scalar.subi v83 c0_i32_38
  let c1_i32_39 : BitVec 32 := 1#32
  let v86 : BitVec 32 := Scalar.divsi v84 c1_i32_39
  let v87 : BitVec 32 := Scalar.muli v86 c1_i32_39
  let v88 : BitVec 32 := Scalar.addi c0_i32_38 v87
  let c1_i32_41 : BitVec 32 := 1#32
  let arg11 : BitVec 32 := Scf.iv v88 c1_i32_41 k0_t2
  let v123 : BitVec 32 := Scalar.muli c4_i32_57 arg11
  let v124 : BitVec 32 := Scalar.addi v123 c0_i32_58
  let c1_i32_59 : BitVec 32 := 1#32
  let v125 : BitVec 32 := Scalar.addi v124 c1_i32_59
  let c512_i32_60 : BitVec 32 := 512#32
  let v126 : BitVec 32 := Scalar.muli v125 c512_i32_60
  let v127 : BitVec 32 := v126
  let v128 : Index := Scalar.indexCast v127
  let c0_62 : Index := 0#32
  ![0, v128.toNat, 0]
def k0_off5 (i : grid0.Coords) (k0_t2 : Fin (k0_t2_loop i).trips) (c0_i32_72 : BitVec 32) : Fin 4 → Nat :=
  let c0_73 : Index := 0#32
  let c4_i32_57 : BitVec 32 := 4#32
  let c0_i32_38 : BitVec 32 := 0#32
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_31 : BitVec 32 := 0#32
  let v68 : BitVec 1 := Scalar.cmpi .sgt v56 c0_i32_31
  let v69 : BitVec 32 := Scalar.extui v68
  let c0_i32_32 : BitVec 32 := 0#32
  let v70 : BitVec 1 := Scalar.cmpi .slt v56 c0_i32_32
  let v71 : BitVec 32 := Scalar.extui v70
  let v72 : BitVec 32 := Scalar.subi v69 v71
  let c4_i32 : BitVec 32 := 4#32
  let c0_i32_33 : BitVec 32 := 0#32
  let v73 : BitVec 1 := Scalar.cmpi .sgt c4_i32 c0_i32_33
  let v74 : BitVec 32 := Scalar.extui v73
  let c0_i32_34 : BitVec 32 := 0#32
  let v75 : BitVec 1 := Scalar.cmpi .slt c4_i32 c0_i32_34
  let v76 : BitVec 32 := Scalar.extui v75
  let v77 : BitVec 32 := Scalar.subi v74 v76
  let v78 : BitVec 1 := Scalar.cmpi .ne v72 v77
  let v79 : BitVec 32 := Scalar.remsi v56 c4_i32
  let c0_i32_35 : BitVec 32 := 0#32
  let v80 : BitVec 1 := Scalar.cmpi .ne v79 c0_i32_35
  let v81 : BitVec 1 := Scalar.andi v78 v80
  let v67 : BitVec 32 := Scalar.divsi v56 c4_i32
  let c1_i32_36 : BitVec 32 := 1#32
  let v82 : BitVec 32 := Scalar.subi v67 c1_i32_36
  let v83 : BitVec 32 := Scalar.select v81 v82 v67
  let v84 : BitVec 32 := Scalar.subi v83 c0_i32_38
  let c1_i32_39 : BitVec 32 := 1#32
  let v86 : BitVec 32 := Scalar.divsi v84 c1_i32_39
  let v87 : BitVec 32 := Scalar.muli v86 c1_i32_39
  let v88 : BitVec 32 := Scalar.addi c0_i32_38 v87
  let c1_i32_41 : BitVec 32 := 1#32
  let arg11 : BitVec 32 := Scf.iv v88 c1_i32_41 k0_t2
  let v123 : BitVec 32 := Scalar.muli c4_i32_57 arg11
  let v139 : BitVec 32 := Scalar.addi v123 c0_i32_72
  let v140 : Index := Scalar.indexCast v139
  let c0_74 : Index := 0#32
  let c0_75 : Index := 0#32
  ![0, v140.toNat, 0, 0]
def k0_mult7 (i : grid0.Coords) (k0_t2 : Fin (k0_t2_loop i).trips) : BitVec 32 :=
  let c4_i32_57 : BitVec 32 := 4#32
  let c0_i32_38 : BitVec 32 := 0#32
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_31 : BitVec 32 := 0#32
  let v68 : BitVec 1 := Scalar.cmpi .sgt v56 c0_i32_31
  let v69 : BitVec 32 := Scalar.extui v68
  let c0_i32_32 : BitVec 32 := 0#32
  let v70 : BitVec 1 := Scalar.cmpi .slt v56 c0_i32_32
  let v71 : BitVec 32 := Scalar.extui v70
  let v72 : BitVec 32 := Scalar.subi v69 v71
  let c4_i32 : BitVec 32 := 4#32
  let c0_i32_33 : BitVec 32 := 0#32
  let v73 : BitVec 1 := Scalar.cmpi .sgt c4_i32 c0_i32_33
  let v74 : BitVec 32 := Scalar.extui v73
  let c0_i32_34 : BitVec 32 := 0#32
  let v75 : BitVec 1 := Scalar.cmpi .slt c4_i32 c0_i32_34
  let v76 : BitVec 32 := Scalar.extui v75
  let v77 : BitVec 32 := Scalar.subi v74 v76
  let v78 : BitVec 1 := Scalar.cmpi .ne v72 v77
  let v79 : BitVec 32 := Scalar.remsi v56 c4_i32
  let c0_i32_35 : BitVec 32 := 0#32
  let v80 : BitVec 1 := Scalar.cmpi .ne v79 c0_i32_35
  let v81 : BitVec 1 := Scalar.andi v78 v80
  let v67 : BitVec 32 := Scalar.divsi v56 c4_i32
  let c1_i32_36 : BitVec 32 := 1#32
  let v82 : BitVec 32 := Scalar.subi v67 c1_i32_36
  let v83 : BitVec 32 := Scalar.select v81 v82 v67
  let v84 : BitVec 32 := Scalar.subi v83 c0_i32_38
  let c1_i32_39 : BitVec 32 := 1#32
  let v86 : BitVec 32 := Scalar.divsi v84 c1_i32_39
  let v87 : BitVec 32 := Scalar.muli v86 c1_i32_39
  let v88 : BitVec 32 := Scalar.addi c0_i32_38 v87
  let c1_i32_41 : BitVec 32 := 1#32
  let arg11 : BitVec 32 := Scf.iv v88 c1_i32_41 k0_t2
  let v123 : BitVec 32 := Scalar.muli c4_i32_57 arg11
  let c1_i32_83 : BitVec 32 := 1#32
  let v154 : BitVec 32 := Scalar.addi v123 c1_i32_83
  let c1_i32_84 : BitVec 32 := 1#32
  let v155 : BitVec 32 := Scalar.addi v154 c1_i32_84
  let c512_i32_85 : BitVec 32 := 512#32
  let v156 : BitVec 32 := Scalar.muli v155 c512_i32_85
  v156
def k0_mult8 (i : grid0.Coords) (k0_t2 : Fin (k0_t2_loop i).trips) : BitVec 32 :=
  let c4_i32_57 : BitVec 32 := 4#32
  let c0_i32_38 : BitVec 32 := 0#32
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_31 : BitVec 32 := 0#32
  let v68 : BitVec 1 := Scalar.cmpi .sgt v56 c0_i32_31
  let v69 : BitVec 32 := Scalar.extui v68
  let c0_i32_32 : BitVec 32 := 0#32
  let v70 : BitVec 1 := Scalar.cmpi .slt v56 c0_i32_32
  let v71 : BitVec 32 := Scalar.extui v70
  let v72 : BitVec 32 := Scalar.subi v69 v71
  let c4_i32 : BitVec 32 := 4#32
  let c0_i32_33 : BitVec 32 := 0#32
  let v73 : BitVec 1 := Scalar.cmpi .sgt c4_i32 c0_i32_33
  let v74 : BitVec 32 := Scalar.extui v73
  let c0_i32_34 : BitVec 32 := 0#32
  let v75 : BitVec 1 := Scalar.cmpi .slt c4_i32 c0_i32_34
  let v76 : BitVec 32 := Scalar.extui v75
  let v77 : BitVec 32 := Scalar.subi v74 v76
  let v78 : BitVec 1 := Scalar.cmpi .ne v72 v77
  let v79 : BitVec 32 := Scalar.remsi v56 c4_i32
  let c0_i32_35 : BitVec 32 := 0#32
  let v80 : BitVec 1 := Scalar.cmpi .ne v79 c0_i32_35
  let v81 : BitVec 1 := Scalar.andi v78 v80
  let v67 : BitVec 32 := Scalar.divsi v56 c4_i32
  let c1_i32_36 : BitVec 32 := 1#32
  let v82 : BitVec 32 := Scalar.subi v67 c1_i32_36
  let v83 : BitVec 32 := Scalar.select v81 v82 v67
  let v84 : BitVec 32 := Scalar.subi v83 c0_i32_38
  let c1_i32_39 : BitVec 32 := 1#32
  let v86 : BitVec 32 := Scalar.divsi v84 c1_i32_39
  let v87 : BitVec 32 := Scalar.muli v86 c1_i32_39
  let v88 : BitVec 32 := Scalar.addi c0_i32_38 v87
  let c1_i32_41 : BitVec 32 := 1#32
  let arg11 : BitVec 32 := Scf.iv v88 c1_i32_41 k0_t2
  let v123 : BitVec 32 := Scalar.muli c4_i32_57 arg11
  let c2_i32_108 : BitVec 32 := 2#32
  let v184 : BitVec 32 := Scalar.addi v123 c2_i32_108
  let c1_i32_109 : BitVec 32 := 1#32
  let v185 : BitVec 32 := Scalar.addi v184 c1_i32_109
  let c512_i32_110 : BitVec 32 := 512#32
  let v186 : BitVec 32 := Scalar.muli v185 c512_i32_110
  v186
def k0_mult9 (i : grid0.Coords) (k0_t2 : Fin (k0_t2_loop i).trips) : BitVec 32 :=
  let c4_i32_57 : BitVec 32 := 4#32
  let c0_i32_38 : BitVec 32 := 0#32
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_31 : BitVec 32 := 0#32
  let v68 : BitVec 1 := Scalar.cmpi .sgt v56 c0_i32_31
  let v69 : BitVec 32 := Scalar.extui v68
  let c0_i32_32 : BitVec 32 := 0#32
  let v70 : BitVec 1 := Scalar.cmpi .slt v56 c0_i32_32
  let v71 : BitVec 32 := Scalar.extui v70
  let v72 : BitVec 32 := Scalar.subi v69 v71
  let c4_i32 : BitVec 32 := 4#32
  let c0_i32_33 : BitVec 32 := 0#32
  let v73 : BitVec 1 := Scalar.cmpi .sgt c4_i32 c0_i32_33
  let v74 : BitVec 32 := Scalar.extui v73
  let c0_i32_34 : BitVec 32 := 0#32
  let v75 : BitVec 1 := Scalar.cmpi .slt c4_i32 c0_i32_34
  let v76 : BitVec 32 := Scalar.extui v75
  let v77 : BitVec 32 := Scalar.subi v74 v76
  let v78 : BitVec 1 := Scalar.cmpi .ne v72 v77
  let v79 : BitVec 32 := Scalar.remsi v56 c4_i32
  let c0_i32_35 : BitVec 32 := 0#32
  let v80 : BitVec 1 := Scalar.cmpi .ne v79 c0_i32_35
  let v81 : BitVec 1 := Scalar.andi v78 v80
  let v67 : BitVec 32 := Scalar.divsi v56 c4_i32
  let c1_i32_36 : BitVec 32 := 1#32
  let v82 : BitVec 32 := Scalar.subi v67 c1_i32_36
  let v83 : BitVec 32 := Scalar.select v81 v82 v67
  let v84 : BitVec 32 := Scalar.subi v83 c0_i32_38
  let c1_i32_39 : BitVec 32 := 1#32
  let v86 : BitVec 32 := Scalar.divsi v84 c1_i32_39
  let v87 : BitVec 32 := Scalar.muli v86 c1_i32_39
  let v88 : BitVec 32 := Scalar.addi c0_i32_38 v87
  let c1_i32_41 : BitVec 32 := 1#32
  let arg11 : BitVec 32 := Scf.iv v88 c1_i32_41 k0_t2
  let v123 : BitVec 32 := Scalar.muli c4_i32_57 arg11
  let c3_i32_133 : BitVec 32 := 3#32
  let v214 : BitVec 32 := Scalar.addi v123 c3_i32_133
  let c1_i32_134 : BitVec 32 := 1#32
  let v215 : BitVec 32 := Scalar.addi v214 c1_i32_134
  let c512_i32_135 : BitVec 32 := 512#32
  let v216 : BitVec 32 := Scalar.muli v215 c512_i32_135
  v216
def k0_cond2 (i : grid0.Coords) : BitVec 1 :=
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_43 : BitVec 32 := 0#32
  let v90 : BitVec 1 := Scalar.cmpi .sgt v56 c0_i32_43
  let v91 : BitVec 32 := Scalar.extui v90
  let c0_i32_44 : BitVec 32 := 0#32
  let v92 : BitVec 1 := Scalar.cmpi .slt v56 c0_i32_44
  let v93 : BitVec 32 := Scalar.extui v92
  let v94 : BitVec 32 := Scalar.subi v91 v93
  let c4_i32_42 : BitVec 32 := 4#32
  let c0_i32_45 : BitVec 32 := 0#32
  let v95 : BitVec 1 := Scalar.cmpi .sgt c4_i32_42 c0_i32_45
  let v96 : BitVec 32 := Scalar.extui v95
  let c0_i32_46 : BitVec 32 := 0#32
  let v97 : BitVec 1 := Scalar.cmpi .slt c4_i32_42 c0_i32_46
  let v98 : BitVec 32 := Scalar.extui v97
  let v99 : BitVec 32 := Scalar.subi v96 v98
  let v100 : BitVec 1 := Scalar.cmpi .ne v94 v99
  let v101 : BitVec 32 := Scalar.remsi v56 c4_i32_42
  let c0_i32_47 : BitVec 32 := 0#32
  let v102 : BitVec 1 := Scalar.cmpi .ne v101 c0_i32_47
  let v103 : BitVec 1 := Scalar.andi v100 v102
  let v89 : BitVec 32 := Scalar.divsi v56 c4_i32_42
  let c1_i32_48 : BitVec 32 := 1#32
  let v104 : BitVec 32 := Scalar.subi v89 c1_i32_48
  let v105 : BitVec 32 := Scalar.select v103 v104 v89
  let c4_i32_49 : BitVec 32 := 4#32
  let v106 : BitVec 32 := Scalar.muli v105 c4_i32_49
  let v107 : BitVec 32 := Scalar.subi v56 v106
  let c0_i32_50 : BitVec 32 := 0#32
  let v108 : BitVec 1 := Scalar.cmpi .eq v107 c0_i32_50
  let v109 : BitVec 32 := Scalar.extui v108
  let c0_i32_51 : BitVec 32 := 0#32
  let v110 : BitVec 1 := Scalar.cmpi .ne v109 c0_i32_51
  v110

def k0_mult10 (i : grid0.Coords) : BitVec 32 :=
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_43 : BitVec 32 := 0#32
  let v90 : BitVec 1 := Scalar.cmpi .sgt v56 c0_i32_43
  let v91 : BitVec 32 := Scalar.extui v90
  let c0_i32_44 : BitVec 32 := 0#32
  let v92 : BitVec 1 := Scalar.cmpi .slt v56 c0_i32_44
  let v93 : BitVec 32 := Scalar.extui v92
  let v94 : BitVec 32 := Scalar.subi v91 v93
  let c4_i32_42 : BitVec 32 := 4#32
  let c0_i32_45 : BitVec 32 := 0#32
  let v95 : BitVec 1 := Scalar.cmpi .sgt c4_i32_42 c0_i32_45
  let v96 : BitVec 32 := Scalar.extui v95
  let c0_i32_46 : BitVec 32 := 0#32
  let v97 : BitVec 1 := Scalar.cmpi .slt c4_i32_42 c0_i32_46
  let v98 : BitVec 32 := Scalar.extui v97
  let v99 : BitVec 32 := Scalar.subi v96 v98
  let v100 : BitVec 1 := Scalar.cmpi .ne v94 v99
  let v101 : BitVec 32 := Scalar.remsi v56 c4_i32_42
  let c0_i32_47 : BitVec 32 := 0#32
  let v102 : BitVec 1 := Scalar.cmpi .ne v101 c0_i32_47
  let v103 : BitVec 1 := Scalar.andi v100 v102
  let v89 : BitVec 32 := Scalar.divsi v56 c4_i32_42
  let c1_i32_48 : BitVec 32 := 1#32
  let v104 : BitVec 32 := Scalar.subi v89 c1_i32_48
  let v105 : BitVec 32 := Scalar.select v103 v104 v89
  let c4_i32_49 : BitVec 32 := 4#32
  let v106 : BitVec 32 := Scalar.muli v105 c4_i32_49
  let c0_i32_57 : BitVec 32 := 0#32
  let v123 : BitVec 32 := Scalar.addi v106 c0_i32_57
  let c1_i32_58 : BitVec 32 := 1#32
  let v124 : BitVec 32 := Scalar.addi v123 c1_i32_58
  let c512_i32_59 : BitVec 32 := 512#32
  let v125 : BitVec 32 := Scalar.muli v124 c512_i32_59
  v125
def k0_off6 (i : grid0.Coords) : Fin 3 → Nat :=
  let c0_60 : Index := 0#32
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_43 : BitVec 32 := 0#32
  let v90 : BitVec 1 := Scalar.cmpi .sgt v56 c0_i32_43
  let v91 : BitVec 32 := Scalar.extui v90
  let c0_i32_44 : BitVec 32 := 0#32
  let v92 : BitVec 1 := Scalar.cmpi .slt v56 c0_i32_44
  let v93 : BitVec 32 := Scalar.extui v92
  let v94 : BitVec 32 := Scalar.subi v91 v93
  let c4_i32_42 : BitVec 32 := 4#32
  let c0_i32_45 : BitVec 32 := 0#32
  let v95 : BitVec 1 := Scalar.cmpi .sgt c4_i32_42 c0_i32_45
  let v96 : BitVec 32 := Scalar.extui v95
  let c0_i32_46 : BitVec 32 := 0#32
  let v97 : BitVec 1 := Scalar.cmpi .slt c4_i32_42 c0_i32_46
  let v98 : BitVec 32 := Scalar.extui v97
  let v99 : BitVec 32 := Scalar.subi v96 v98
  let v100 : BitVec 1 := Scalar.cmpi .ne v94 v99
  let v101 : BitVec 32 := Scalar.remsi v56 c4_i32_42
  let c0_i32_47 : BitVec 32 := 0#32
  let v102 : BitVec 1 := Scalar.cmpi .ne v101 c0_i32_47
  let v103 : BitVec 1 := Scalar.andi v100 v102
  let v89 : BitVec 32 := Scalar.divsi v56 c4_i32_42
  let c1_i32_48 : BitVec 32 := 1#32
  let v104 : BitVec 32 := Scalar.subi v89 c1_i32_48
  let v105 : BitVec 32 := Scalar.select v103 v104 v89
  let c4_i32_49 : BitVec 32 := 4#32
  let v106 : BitVec 32 := Scalar.muli v105 c4_i32_49
  let c0_i32_57 : BitVec 32 := 0#32
  let v123 : BitVec 32 := Scalar.addi v106 c0_i32_57
  let c1_i32_58 : BitVec 32 := 1#32
  let v124 : BitVec 32 := Scalar.addi v123 c1_i32_58
  let c512_i32_59 : BitVec 32 := 512#32
  let v125 : BitVec 32 := Scalar.muli v124 c512_i32_59
  let v126 : BitVec 32 := v125
  let v127 : Index := Scalar.indexCast v126
  let c0_61 : Index := 0#32
  ![0, v127.toNat, 0]
def k0_off7 (i : grid0.Coords) (c0_i32_75 : BitVec 32) : Fin 4 → Nat :=
  let c0_76 : Index := 0#32
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_43 : BitVec 32 := 0#32
  let v90 : BitVec 1 := Scalar.cmpi .sgt v56 c0_i32_43
  let v91 : BitVec 32 := Scalar.extui v90
  let c0_i32_44 : BitVec 32 := 0#32
  let v92 : BitVec 1 := Scalar.cmpi .slt v56 c0_i32_44
  let v93 : BitVec 32 := Scalar.extui v92
  let v94 : BitVec 32 := Scalar.subi v91 v93
  let c4_i32_42 : BitVec 32 := 4#32
  let c0_i32_45 : BitVec 32 := 0#32
  let v95 : BitVec 1 := Scalar.cmpi .sgt c4_i32_42 c0_i32_45
  let v96 : BitVec 32 := Scalar.extui v95
  let c0_i32_46 : BitVec 32 := 0#32
  let v97 : BitVec 1 := Scalar.cmpi .slt c4_i32_42 c0_i32_46
  let v98 : BitVec 32 := Scalar.extui v97
  let v99 : BitVec 32 := Scalar.subi v96 v98
  let v100 : BitVec 1 := Scalar.cmpi .ne v94 v99
  let v101 : BitVec 32 := Scalar.remsi v56 c4_i32_42
  let c0_i32_47 : BitVec 32 := 0#32
  let v102 : BitVec 1 := Scalar.cmpi .ne v101 c0_i32_47
  let v103 : BitVec 1 := Scalar.andi v100 v102
  let v89 : BitVec 32 := Scalar.divsi v56 c4_i32_42
  let c1_i32_48 : BitVec 32 := 1#32
  let v104 : BitVec 32 := Scalar.subi v89 c1_i32_48
  let v105 : BitVec 32 := Scalar.select v103 v104 v89
  let c4_i32_49 : BitVec 32 := 4#32
  let v106 : BitVec 32 := Scalar.muli v105 c4_i32_49
  let v150 : BitVec 32 := Scalar.addi v106 c0_i32_75
  let v151 : Index := Scalar.indexCast v150
  let c0_77 : Index := 0#32
  let c0_78 : Index := 0#32
  ![0, v151.toNat, 0, 0]
def k0_cond3 (i : grid0.Coords) : BitVec 1 :=
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_43 : BitVec 32 := 0#32
  let v90 : BitVec 1 := Scalar.cmpi .sgt v56 c0_i32_43
  let v91 : BitVec 32 := Scalar.extui v90
  let c0_i32_44 : BitVec 32 := 0#32
  let v92 : BitVec 1 := Scalar.cmpi .slt v56 c0_i32_44
  let v93 : BitVec 32 := Scalar.extui v92
  let v94 : BitVec 32 := Scalar.subi v91 v93
  let c4_i32_42 : BitVec 32 := 4#32
  let c0_i32_45 : BitVec 32 := 0#32
  let v95 : BitVec 1 := Scalar.cmpi .sgt c4_i32_42 c0_i32_45
  let v96 : BitVec 32 := Scalar.extui v95
  let c0_i32_46 : BitVec 32 := 0#32
  let v97 : BitVec 1 := Scalar.cmpi .slt c4_i32_42 c0_i32_46
  let v98 : BitVec 32 := Scalar.extui v97
  let v99 : BitVec 32 := Scalar.subi v96 v98
  let v100 : BitVec 1 := Scalar.cmpi .ne v94 v99
  let v101 : BitVec 32 := Scalar.remsi v56 c4_i32_42
  let c0_i32_47 : BitVec 32 := 0#32
  let v102 : BitVec 1 := Scalar.cmpi .ne v101 c0_i32_47
  let v103 : BitVec 1 := Scalar.andi v100 v102
  let v89 : BitVec 32 := Scalar.divsi v56 c4_i32_42
  let c1_i32_48 : BitVec 32 := 1#32
  let v104 : BitVec 32 := Scalar.subi v89 c1_i32_48
  let v105 : BitVec 32 := Scalar.select v103 v104 v89
  let c4_i32_49 : BitVec 32 := 4#32
  let v106 : BitVec 32 := Scalar.muli v105 c4_i32_49
  let v111 : BitVec 32 := Scalar.subi v56 v106
  let c1_i32_52 : BitVec 32 := 1#32
  let v112 : BitVec 1 := Scalar.cmpi .eq v111 c1_i32_52
  let v113 : BitVec 32 := Scalar.extui v112
  let c0_i32_53 : BitVec 32 := 0#32
  let v114 : BitVec 1 := Scalar.cmpi .ne v113 c0_i32_53
  v114

def k0_mult11 (i : grid0.Coords) : BitVec 32 :=
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_43 : BitVec 32 := 0#32
  let v90 : BitVec 1 := Scalar.cmpi .sgt v56 c0_i32_43
  let v91 : BitVec 32 := Scalar.extui v90
  let c0_i32_44 : BitVec 32 := 0#32
  let v92 : BitVec 1 := Scalar.cmpi .slt v56 c0_i32_44
  let v93 : BitVec 32 := Scalar.extui v92
  let v94 : BitVec 32 := Scalar.subi v91 v93
  let c4_i32_42 : BitVec 32 := 4#32
  let c0_i32_45 : BitVec 32 := 0#32
  let v95 : BitVec 1 := Scalar.cmpi .sgt c4_i32_42 c0_i32_45
  let v96 : BitVec 32 := Scalar.extui v95
  let c0_i32_46 : BitVec 32 := 0#32
  let v97 : BitVec 1 := Scalar.cmpi .slt c4_i32_42 c0_i32_46
  let v98 : BitVec 32 := Scalar.extui v97
  let v99 : BitVec 32 := Scalar.subi v96 v98
  let v100 : BitVec 1 := Scalar.cmpi .ne v94 v99
  let v101 : BitVec 32 := Scalar.remsi v56 c4_i32_42
  let c0_i32_47 : BitVec 32 := 0#32
  let v102 : BitVec 1 := Scalar.cmpi .ne v101 c0_i32_47
  let v103 : BitVec 1 := Scalar.andi v100 v102
  let v89 : BitVec 32 := Scalar.divsi v56 c4_i32_42
  let c1_i32_48 : BitVec 32 := 1#32
  let v104 : BitVec 32 := Scalar.subi v89 c1_i32_48
  let v105 : BitVec 32 := Scalar.select v103 v104 v89
  let c4_i32_49 : BitVec 32 := 4#32
  let v106 : BitVec 32 := Scalar.muli v105 c4_i32_49
  let c0_i32_57 : BitVec 32 := 0#32
  let v123 : BitVec 32 := Scalar.addi v106 c0_i32_57
  let c1_i32_58 : BitVec 32 := 1#32
  let v124 : BitVec 32 := Scalar.addi v123 c1_i32_58
  let c512_i32_59 : BitVec 32 := 512#32
  let v125 : BitVec 32 := Scalar.muli v124 c512_i32_59
  v125
def k0_off8 (i : grid0.Coords) (c0_i32_57 : BitVec 32) : Fin 3 → Nat :=
  let c0_60 : Index := 0#32
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_43 : BitVec 32 := 0#32
  let v90 : BitVec 1 := Scalar.cmpi .sgt v56 c0_i32_43
  let v91 : BitVec 32 := Scalar.extui v90
  let c0_i32_44 : BitVec 32 := 0#32
  let v92 : BitVec 1 := Scalar.cmpi .slt v56 c0_i32_44
  let v93 : BitVec 32 := Scalar.extui v92
  let v94 : BitVec 32 := Scalar.subi v91 v93
  let c4_i32_42 : BitVec 32 := 4#32
  let c0_i32_45 : BitVec 32 := 0#32
  let v95 : BitVec 1 := Scalar.cmpi .sgt c4_i32_42 c0_i32_45
  let v96 : BitVec 32 := Scalar.extui v95
  let c0_i32_46 : BitVec 32 := 0#32
  let v97 : BitVec 1 := Scalar.cmpi .slt c4_i32_42 c0_i32_46
  let v98 : BitVec 32 := Scalar.extui v97
  let v99 : BitVec 32 := Scalar.subi v96 v98
  let v100 : BitVec 1 := Scalar.cmpi .ne v94 v99
  let v101 : BitVec 32 := Scalar.remsi v56 c4_i32_42
  let c0_i32_47 : BitVec 32 := 0#32
  let v102 : BitVec 1 := Scalar.cmpi .ne v101 c0_i32_47
  let v103 : BitVec 1 := Scalar.andi v100 v102
  let v89 : BitVec 32 := Scalar.divsi v56 c4_i32_42
  let c1_i32_48 : BitVec 32 := 1#32
  let v104 : BitVec 32 := Scalar.subi v89 c1_i32_48
  let v105 : BitVec 32 := Scalar.select v103 v104 v89
  let c4_i32_49 : BitVec 32 := 4#32
  let v106 : BitVec 32 := Scalar.muli v105 c4_i32_49
  let v123 : BitVec 32 := Scalar.addi v106 c0_i32_57
  let c1_i32_58 : BitVec 32 := 1#32
  let v124 : BitVec 32 := Scalar.addi v123 c1_i32_58
  let c512_i32_59 : BitVec 32 := 512#32
  let v125 : BitVec 32 := Scalar.muli v124 c512_i32_59
  let v126 : BitVec 32 := v125
  let v127 : Index := Scalar.indexCast v126
  let c0_61 : Index := 0#32
  ![0, v127.toNat, 0]
def k0_off9 (i : grid0.Coords) (c0_i32_71 : BitVec 32) : Fin 4 → Nat :=
  let c0_72 : Index := 0#32
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_43 : BitVec 32 := 0#32
  let v90 : BitVec 1 := Scalar.cmpi .sgt v56 c0_i32_43
  let v91 : BitVec 32 := Scalar.extui v90
  let c0_i32_44 : BitVec 32 := 0#32
  let v92 : BitVec 1 := Scalar.cmpi .slt v56 c0_i32_44
  let v93 : BitVec 32 := Scalar.extui v92
  let v94 : BitVec 32 := Scalar.subi v91 v93
  let c4_i32_42 : BitVec 32 := 4#32
  let c0_i32_45 : BitVec 32 := 0#32
  let v95 : BitVec 1 := Scalar.cmpi .sgt c4_i32_42 c0_i32_45
  let v96 : BitVec 32 := Scalar.extui v95
  let c0_i32_46 : BitVec 32 := 0#32
  let v97 : BitVec 1 := Scalar.cmpi .slt c4_i32_42 c0_i32_46
  let v98 : BitVec 32 := Scalar.extui v97
  let v99 : BitVec 32 := Scalar.subi v96 v98
  let v100 : BitVec 1 := Scalar.cmpi .ne v94 v99
  let v101 : BitVec 32 := Scalar.remsi v56 c4_i32_42
  let c0_i32_47 : BitVec 32 := 0#32
  let v102 : BitVec 1 := Scalar.cmpi .ne v101 c0_i32_47
  let v103 : BitVec 1 := Scalar.andi v100 v102
  let v89 : BitVec 32 := Scalar.divsi v56 c4_i32_42
  let c1_i32_48 : BitVec 32 := 1#32
  let v104 : BitVec 32 := Scalar.subi v89 c1_i32_48
  let v105 : BitVec 32 := Scalar.select v103 v104 v89
  let c4_i32_49 : BitVec 32 := 4#32
  let v106 : BitVec 32 := Scalar.muli v105 c4_i32_49
  let v138 : BitVec 32 := Scalar.addi v106 c0_i32_71
  let v139 : Index := Scalar.indexCast v138
  let c0_73 : Index := 0#32
  let c0_74 : Index := 0#32
  ![0, v139.toNat, 0, 0]
def k0_mult12 (i : grid0.Coords) : BitVec 32 :=
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_43 : BitVec 32 := 0#32
  let v90 : BitVec 1 := Scalar.cmpi .sgt v56 c0_i32_43
  let v91 : BitVec 32 := Scalar.extui v90
  let c0_i32_44 : BitVec 32 := 0#32
  let v92 : BitVec 1 := Scalar.cmpi .slt v56 c0_i32_44
  let v93 : BitVec 32 := Scalar.extui v92
  let v94 : BitVec 32 := Scalar.subi v91 v93
  let c4_i32_42 : BitVec 32 := 4#32
  let c0_i32_45 : BitVec 32 := 0#32
  let v95 : BitVec 1 := Scalar.cmpi .sgt c4_i32_42 c0_i32_45
  let v96 : BitVec 32 := Scalar.extui v95
  let c0_i32_46 : BitVec 32 := 0#32
  let v97 : BitVec 1 := Scalar.cmpi .slt c4_i32_42 c0_i32_46
  let v98 : BitVec 32 := Scalar.extui v97
  let v99 : BitVec 32 := Scalar.subi v96 v98
  let v100 : BitVec 1 := Scalar.cmpi .ne v94 v99
  let v101 : BitVec 32 := Scalar.remsi v56 c4_i32_42
  let c0_i32_47 : BitVec 32 := 0#32
  let v102 : BitVec 1 := Scalar.cmpi .ne v101 c0_i32_47
  let v103 : BitVec 1 := Scalar.andi v100 v102
  let v89 : BitVec 32 := Scalar.divsi v56 c4_i32_42
  let c1_i32_48 : BitVec 32 := 1#32
  let v104 : BitVec 32 := Scalar.subi v89 c1_i32_48
  let v105 : BitVec 32 := Scalar.select v103 v104 v89
  let c4_i32_49 : BitVec 32 := 4#32
  let v106 : BitVec 32 := Scalar.muli v105 c4_i32_49
  let c1_i32_82 : BitVec 32 := 1#32
  let v153 : BitVec 32 := Scalar.addi v106 c1_i32_82
  let c1_i32_83 : BitVec 32 := 1#32
  let v154 : BitVec 32 := Scalar.addi v153 c1_i32_83
  let c512_i32_84 : BitVec 32 := 512#32
  let v155 : BitVec 32 := Scalar.muli v154 c512_i32_84
  v155
def k0_cond4 (i : grid0.Coords) : BitVec 1 :=
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_43 : BitVec 32 := 0#32
  let v90 : BitVec 1 := Scalar.cmpi .sgt v56 c0_i32_43
  let v91 : BitVec 32 := Scalar.extui v90
  let c0_i32_44 : BitVec 32 := 0#32
  let v92 : BitVec 1 := Scalar.cmpi .slt v56 c0_i32_44
  let v93 : BitVec 32 := Scalar.extui v92
  let v94 : BitVec 32 := Scalar.subi v91 v93
  let c4_i32_42 : BitVec 32 := 4#32
  let c0_i32_45 : BitVec 32 := 0#32
  let v95 : BitVec 1 := Scalar.cmpi .sgt c4_i32_42 c0_i32_45
  let v96 : BitVec 32 := Scalar.extui v95
  let c0_i32_46 : BitVec 32 := 0#32
  let v97 : BitVec 1 := Scalar.cmpi .slt c4_i32_42 c0_i32_46
  let v98 : BitVec 32 := Scalar.extui v97
  let v99 : BitVec 32 := Scalar.subi v96 v98
  let v100 : BitVec 1 := Scalar.cmpi .ne v94 v99
  let v101 : BitVec 32 := Scalar.remsi v56 c4_i32_42
  let c0_i32_47 : BitVec 32 := 0#32
  let v102 : BitVec 1 := Scalar.cmpi .ne v101 c0_i32_47
  let v103 : BitVec 1 := Scalar.andi v100 v102
  let v89 : BitVec 32 := Scalar.divsi v56 c4_i32_42
  let c1_i32_48 : BitVec 32 := 1#32
  let v104 : BitVec 32 := Scalar.subi v89 c1_i32_48
  let v105 : BitVec 32 := Scalar.select v103 v104 v89
  let c4_i32_49 : BitVec 32 := 4#32
  let v106 : BitVec 32 := Scalar.muli v105 c4_i32_49
  let v115 : BitVec 32 := Scalar.subi v56 v106
  let c2_i32_54 : BitVec 32 := 2#32
  let v116 : BitVec 1 := Scalar.cmpi .eq v115 c2_i32_54
  let v117 : BitVec 32 := Scalar.extui v116
  let c0_i32_55 : BitVec 32 := 0#32
  let v118 : BitVec 1 := Scalar.cmpi .ne v117 c0_i32_55
  v118

def k0_mult13 (i : grid0.Coords) : BitVec 32 :=
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_43 : BitVec 32 := 0#32
  let v90 : BitVec 1 := Scalar.cmpi .sgt v56 c0_i32_43
  let v91 : BitVec 32 := Scalar.extui v90
  let c0_i32_44 : BitVec 32 := 0#32
  let v92 : BitVec 1 := Scalar.cmpi .slt v56 c0_i32_44
  let v93 : BitVec 32 := Scalar.extui v92
  let v94 : BitVec 32 := Scalar.subi v91 v93
  let c4_i32_42 : BitVec 32 := 4#32
  let c0_i32_45 : BitVec 32 := 0#32
  let v95 : BitVec 1 := Scalar.cmpi .sgt c4_i32_42 c0_i32_45
  let v96 : BitVec 32 := Scalar.extui v95
  let c0_i32_46 : BitVec 32 := 0#32
  let v97 : BitVec 1 := Scalar.cmpi .slt c4_i32_42 c0_i32_46
  let v98 : BitVec 32 := Scalar.extui v97
  let v99 : BitVec 32 := Scalar.subi v96 v98
  let v100 : BitVec 1 := Scalar.cmpi .ne v94 v99
  let v101 : BitVec 32 := Scalar.remsi v56 c4_i32_42
  let c0_i32_47 : BitVec 32 := 0#32
  let v102 : BitVec 1 := Scalar.cmpi .ne v101 c0_i32_47
  let v103 : BitVec 1 := Scalar.andi v100 v102
  let v89 : BitVec 32 := Scalar.divsi v56 c4_i32_42
  let c1_i32_48 : BitVec 32 := 1#32
  let v104 : BitVec 32 := Scalar.subi v89 c1_i32_48
  let v105 : BitVec 32 := Scalar.select v103 v104 v89
  let c4_i32_49 : BitVec 32 := 4#32
  let v106 : BitVec 32 := Scalar.muli v105 c4_i32_49
  let c0_i32_57 : BitVec 32 := 0#32
  let v123 : BitVec 32 := Scalar.addi v106 c0_i32_57
  let c1_i32_58 : BitVec 32 := 1#32
  let v124 : BitVec 32 := Scalar.addi v123 c1_i32_58
  let c512_i32_59 : BitVec 32 := 512#32
  let v125 : BitVec 32 := Scalar.muli v124 c512_i32_59
  v125
def k0_off10 (i : grid0.Coords) (c0_i32_57 : BitVec 32) : Fin 3 → Nat :=
  let c0_60 : Index := 0#32
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_43 : BitVec 32 := 0#32
  let v90 : BitVec 1 := Scalar.cmpi .sgt v56 c0_i32_43
  let v91 : BitVec 32 := Scalar.extui v90
  let c0_i32_44 : BitVec 32 := 0#32
  let v92 : BitVec 1 := Scalar.cmpi .slt v56 c0_i32_44
  let v93 : BitVec 32 := Scalar.extui v92
  let v94 : BitVec 32 := Scalar.subi v91 v93
  let c4_i32_42 : BitVec 32 := 4#32
  let c0_i32_45 : BitVec 32 := 0#32
  let v95 : BitVec 1 := Scalar.cmpi .sgt c4_i32_42 c0_i32_45
  let v96 : BitVec 32 := Scalar.extui v95
  let c0_i32_46 : BitVec 32 := 0#32
  let v97 : BitVec 1 := Scalar.cmpi .slt c4_i32_42 c0_i32_46
  let v98 : BitVec 32 := Scalar.extui v97
  let v99 : BitVec 32 := Scalar.subi v96 v98
  let v100 : BitVec 1 := Scalar.cmpi .ne v94 v99
  let v101 : BitVec 32 := Scalar.remsi v56 c4_i32_42
  let c0_i32_47 : BitVec 32 := 0#32
  let v102 : BitVec 1 := Scalar.cmpi .ne v101 c0_i32_47
  let v103 : BitVec 1 := Scalar.andi v100 v102
  let v89 : BitVec 32 := Scalar.divsi v56 c4_i32_42
  let c1_i32_48 : BitVec 32 := 1#32
  let v104 : BitVec 32 := Scalar.subi v89 c1_i32_48
  let v105 : BitVec 32 := Scalar.select v103 v104 v89
  let c4_i32_49 : BitVec 32 := 4#32
  let v106 : BitVec 32 := Scalar.muli v105 c4_i32_49
  let v123 : BitVec 32 := Scalar.addi v106 c0_i32_57
  let c1_i32_58 : BitVec 32 := 1#32
  let v124 : BitVec 32 := Scalar.addi v123 c1_i32_58
  let c512_i32_59 : BitVec 32 := 512#32
  let v125 : BitVec 32 := Scalar.muli v124 c512_i32_59
  let v126 : BitVec 32 := v125
  let v127 : Index := Scalar.indexCast v126
  let c0_61 : Index := 0#32
  ![0, v127.toNat, 0]
def k0_off11 (i : grid0.Coords) (c0_i32_71 : BitVec 32) : Fin 4 → Nat :=
  let c0_72 : Index := 0#32
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_43 : BitVec 32 := 0#32
  let v90 : BitVec 1 := Scalar.cmpi .sgt v56 c0_i32_43
  let v91 : BitVec 32 := Scalar.extui v90
  let c0_i32_44 : BitVec 32 := 0#32
  let v92 : BitVec 1 := Scalar.cmpi .slt v56 c0_i32_44
  let v93 : BitVec 32 := Scalar.extui v92
  let v94 : BitVec 32 := Scalar.subi v91 v93
  let c4_i32_42 : BitVec 32 := 4#32
  let c0_i32_45 : BitVec 32 := 0#32
  let v95 : BitVec 1 := Scalar.cmpi .sgt c4_i32_42 c0_i32_45
  let v96 : BitVec 32 := Scalar.extui v95
  let c0_i32_46 : BitVec 32 := 0#32
  let v97 : BitVec 1 := Scalar.cmpi .slt c4_i32_42 c0_i32_46
  let v98 : BitVec 32 := Scalar.extui v97
  let v99 : BitVec 32 := Scalar.subi v96 v98
  let v100 : BitVec 1 := Scalar.cmpi .ne v94 v99
  let v101 : BitVec 32 := Scalar.remsi v56 c4_i32_42
  let c0_i32_47 : BitVec 32 := 0#32
  let v102 : BitVec 1 := Scalar.cmpi .ne v101 c0_i32_47
  let v103 : BitVec 1 := Scalar.andi v100 v102
  let v89 : BitVec 32 := Scalar.divsi v56 c4_i32_42
  let c1_i32_48 : BitVec 32 := 1#32
  let v104 : BitVec 32 := Scalar.subi v89 c1_i32_48
  let v105 : BitVec 32 := Scalar.select v103 v104 v89
  let c4_i32_49 : BitVec 32 := 4#32
  let v106 : BitVec 32 := Scalar.muli v105 c4_i32_49
  let v138 : BitVec 32 := Scalar.addi v106 c0_i32_71
  let v139 : Index := Scalar.indexCast v138
  let c0_73 : Index := 0#32
  let c0_74 : Index := 0#32
  ![0, v139.toNat, 0, 0]
def k0_mult14 (i : grid0.Coords) : BitVec 32 :=
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_43 : BitVec 32 := 0#32
  let v90 : BitVec 1 := Scalar.cmpi .sgt v56 c0_i32_43
  let v91 : BitVec 32 := Scalar.extui v90
  let c0_i32_44 : BitVec 32 := 0#32
  let v92 : BitVec 1 := Scalar.cmpi .slt v56 c0_i32_44
  let v93 : BitVec 32 := Scalar.extui v92
  let v94 : BitVec 32 := Scalar.subi v91 v93
  let c4_i32_42 : BitVec 32 := 4#32
  let c0_i32_45 : BitVec 32 := 0#32
  let v95 : BitVec 1 := Scalar.cmpi .sgt c4_i32_42 c0_i32_45
  let v96 : BitVec 32 := Scalar.extui v95
  let c0_i32_46 : BitVec 32 := 0#32
  let v97 : BitVec 1 := Scalar.cmpi .slt c4_i32_42 c0_i32_46
  let v98 : BitVec 32 := Scalar.extui v97
  let v99 : BitVec 32 := Scalar.subi v96 v98
  let v100 : BitVec 1 := Scalar.cmpi .ne v94 v99
  let v101 : BitVec 32 := Scalar.remsi v56 c4_i32_42
  let c0_i32_47 : BitVec 32 := 0#32
  let v102 : BitVec 1 := Scalar.cmpi .ne v101 c0_i32_47
  let v103 : BitVec 1 := Scalar.andi v100 v102
  let v89 : BitVec 32 := Scalar.divsi v56 c4_i32_42
  let c1_i32_48 : BitVec 32 := 1#32
  let v104 : BitVec 32 := Scalar.subi v89 c1_i32_48
  let v105 : BitVec 32 := Scalar.select v103 v104 v89
  let c4_i32_49 : BitVec 32 := 4#32
  let v106 : BitVec 32 := Scalar.muli v105 c4_i32_49
  let c1_i32_82 : BitVec 32 := 1#32
  let v153 : BitVec 32 := Scalar.addi v106 c1_i32_82
  let c1_i32_83 : BitVec 32 := 1#32
  let v154 : BitVec 32 := Scalar.addi v153 c1_i32_83
  let c512_i32_84 : BitVec 32 := 512#32
  let v155 : BitVec 32 := Scalar.muli v154 c512_i32_84
  v155
def k0_mult15 (i : grid0.Coords) : BitVec 32 :=
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_43 : BitVec 32 := 0#32
  let v90 : BitVec 1 := Scalar.cmpi .sgt v56 c0_i32_43
  let v91 : BitVec 32 := Scalar.extui v90
  let c0_i32_44 : BitVec 32 := 0#32
  let v92 : BitVec 1 := Scalar.cmpi .slt v56 c0_i32_44
  let v93 : BitVec 32 := Scalar.extui v92
  let v94 : BitVec 32 := Scalar.subi v91 v93
  let c4_i32_42 : BitVec 32 := 4#32
  let c0_i32_45 : BitVec 32 := 0#32
  let v95 : BitVec 1 := Scalar.cmpi .sgt c4_i32_42 c0_i32_45
  let v96 : BitVec 32 := Scalar.extui v95
  let c0_i32_46 : BitVec 32 := 0#32
  let v97 : BitVec 1 := Scalar.cmpi .slt c4_i32_42 c0_i32_46
  let v98 : BitVec 32 := Scalar.extui v97
  let v99 : BitVec 32 := Scalar.subi v96 v98
  let v100 : BitVec 1 := Scalar.cmpi .ne v94 v99
  let v101 : BitVec 32 := Scalar.remsi v56 c4_i32_42
  let c0_i32_47 : BitVec 32 := 0#32
  let v102 : BitVec 1 := Scalar.cmpi .ne v101 c0_i32_47
  let v103 : BitVec 1 := Scalar.andi v100 v102
  let v89 : BitVec 32 := Scalar.divsi v56 c4_i32_42
  let c1_i32_48 : BitVec 32 := 1#32
  let v104 : BitVec 32 := Scalar.subi v89 c1_i32_48
  let v105 : BitVec 32 := Scalar.select v103 v104 v89
  let c4_i32_49 : BitVec 32 := 4#32
  let v106 : BitVec 32 := Scalar.muli v105 c4_i32_49
  let c2_i32_107 : BitVec 32 := 2#32
  let v183 : BitVec 32 := Scalar.addi v106 c2_i32_107
  let c1_i32_108 : BitVec 32 := 1#32
  let v184 : BitVec 32 := Scalar.addi v183 c1_i32_108
  let c512_i32_109 : BitVec 32 := 512#32
  let v185 : BitVec 32 := Scalar.muli v184 c512_i32_109
  v185
def k0_cond5 (i : grid0.Coords) : BitVec 1 :=
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_43 : BitVec 32 := 0#32
  let v90 : BitVec 1 := Scalar.cmpi .sgt v56 c0_i32_43
  let v91 : BitVec 32 := Scalar.extui v90
  let c0_i32_44 : BitVec 32 := 0#32
  let v92 : BitVec 1 := Scalar.cmpi .slt v56 c0_i32_44
  let v93 : BitVec 32 := Scalar.extui v92
  let v94 : BitVec 32 := Scalar.subi v91 v93
  let c4_i32_42 : BitVec 32 := 4#32
  let c0_i32_45 : BitVec 32 := 0#32
  let v95 : BitVec 1 := Scalar.cmpi .sgt c4_i32_42 c0_i32_45
  let v96 : BitVec 32 := Scalar.extui v95
  let c0_i32_46 : BitVec 32 := 0#32
  let v97 : BitVec 1 := Scalar.cmpi .slt c4_i32_42 c0_i32_46
  let v98 : BitVec 32 := Scalar.extui v97
  let v99 : BitVec 32 := Scalar.subi v96 v98
  let v100 : BitVec 1 := Scalar.cmpi .ne v94 v99
  let v101 : BitVec 32 := Scalar.remsi v56 c4_i32_42
  let c0_i32_47 : BitVec 32 := 0#32
  let v102 : BitVec 1 := Scalar.cmpi .ne v101 c0_i32_47
  let v103 : BitVec 1 := Scalar.andi v100 v102
  let v89 : BitVec 32 := Scalar.divsi v56 c4_i32_42
  let c1_i32_48 : BitVec 32 := 1#32
  let v104 : BitVec 32 := Scalar.subi v89 c1_i32_48
  let v105 : BitVec 32 := Scalar.select v103 v104 v89
  let c4_i32_49 : BitVec 32 := 4#32
  let v106 : BitVec 32 := Scalar.muli v105 c4_i32_49
  let v119 : BitVec 32 := Scalar.subi v56 v106
  let c3_i32 : BitVec 32 := 3#32
  let v120 : BitVec 1 := Scalar.cmpi .eq v119 c3_i32
  let v121 : BitVec 32 := Scalar.extui v120
  let c0_i32_56 : BitVec 32 := 0#32
  let v122 : BitVec 1 := Scalar.cmpi .ne v121 c0_i32_56
  v122

def k0_mult16 (i : grid0.Coords) : BitVec 32 :=
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_43 : BitVec 32 := 0#32
  let v90 : BitVec 1 := Scalar.cmpi .sgt v56 c0_i32_43
  let v91 : BitVec 32 := Scalar.extui v90
  let c0_i32_44 : BitVec 32 := 0#32
  let v92 : BitVec 1 := Scalar.cmpi .slt v56 c0_i32_44
  let v93 : BitVec 32 := Scalar.extui v92
  let v94 : BitVec 32 := Scalar.subi v91 v93
  let c4_i32_42 : BitVec 32 := 4#32
  let c0_i32_45 : BitVec 32 := 0#32
  let v95 : BitVec 1 := Scalar.cmpi .sgt c4_i32_42 c0_i32_45
  let v96 : BitVec 32 := Scalar.extui v95
  let c0_i32_46 : BitVec 32 := 0#32
  let v97 : BitVec 1 := Scalar.cmpi .slt c4_i32_42 c0_i32_46
  let v98 : BitVec 32 := Scalar.extui v97
  let v99 : BitVec 32 := Scalar.subi v96 v98
  let v100 : BitVec 1 := Scalar.cmpi .ne v94 v99
  let v101 : BitVec 32 := Scalar.remsi v56 c4_i32_42
  let c0_i32_47 : BitVec 32 := 0#32
  let v102 : BitVec 1 := Scalar.cmpi .ne v101 c0_i32_47
  let v103 : BitVec 1 := Scalar.andi v100 v102
  let v89 : BitVec 32 := Scalar.divsi v56 c4_i32_42
  let c1_i32_48 : BitVec 32 := 1#32
  let v104 : BitVec 32 := Scalar.subi v89 c1_i32_48
  let v105 : BitVec 32 := Scalar.select v103 v104 v89
  let c4_i32_49 : BitVec 32 := 4#32
  let v106 : BitVec 32 := Scalar.muli v105 c4_i32_49
  let c0_i32_57 : BitVec 32 := 0#32
  let v123 : BitVec 32 := Scalar.addi v106 c0_i32_57
  let c1_i32_58 : BitVec 32 := 1#32
  let v124 : BitVec 32 := Scalar.addi v123 c1_i32_58
  let c512_i32_59 : BitVec 32 := 512#32
  let v125 : BitVec 32 := Scalar.muli v124 c512_i32_59
  v125
def k0_off12 (i : grid0.Coords) (c0_i32_57 : BitVec 32) : Fin 3 → Nat :=
  let c0_60 : Index := 0#32
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_43 : BitVec 32 := 0#32
  let v90 : BitVec 1 := Scalar.cmpi .sgt v56 c0_i32_43
  let v91 : BitVec 32 := Scalar.extui v90
  let c0_i32_44 : BitVec 32 := 0#32
  let v92 : BitVec 1 := Scalar.cmpi .slt v56 c0_i32_44
  let v93 : BitVec 32 := Scalar.extui v92
  let v94 : BitVec 32 := Scalar.subi v91 v93
  let c4_i32_42 : BitVec 32 := 4#32
  let c0_i32_45 : BitVec 32 := 0#32
  let v95 : BitVec 1 := Scalar.cmpi .sgt c4_i32_42 c0_i32_45
  let v96 : BitVec 32 := Scalar.extui v95
  let c0_i32_46 : BitVec 32 := 0#32
  let v97 : BitVec 1 := Scalar.cmpi .slt c4_i32_42 c0_i32_46
  let v98 : BitVec 32 := Scalar.extui v97
  let v99 : BitVec 32 := Scalar.subi v96 v98
  let v100 : BitVec 1 := Scalar.cmpi .ne v94 v99
  let v101 : BitVec 32 := Scalar.remsi v56 c4_i32_42
  let c0_i32_47 : BitVec 32 := 0#32
  let v102 : BitVec 1 := Scalar.cmpi .ne v101 c0_i32_47
  let v103 : BitVec 1 := Scalar.andi v100 v102
  let v89 : BitVec 32 := Scalar.divsi v56 c4_i32_42
  let c1_i32_48 : BitVec 32 := 1#32
  let v104 : BitVec 32 := Scalar.subi v89 c1_i32_48
  let v105 : BitVec 32 := Scalar.select v103 v104 v89
  let c4_i32_49 : BitVec 32 := 4#32
  let v106 : BitVec 32 := Scalar.muli v105 c4_i32_49
  let v123 : BitVec 32 := Scalar.addi v106 c0_i32_57
  let c1_i32_58 : BitVec 32 := 1#32
  let v124 : BitVec 32 := Scalar.addi v123 c1_i32_58
  let c512_i32_59 : BitVec 32 := 512#32
  let v125 : BitVec 32 := Scalar.muli v124 c512_i32_59
  let v126 : BitVec 32 := v125
  let v127 : Index := Scalar.indexCast v126
  let c0_61 : Index := 0#32
  ![0, v127.toNat, 0]
def k0_off13 (i : grid0.Coords) (c0_i32_71 : BitVec 32) : Fin 4 → Nat :=
  let c0_72 : Index := 0#32
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_43 : BitVec 32 := 0#32
  let v90 : BitVec 1 := Scalar.cmpi .sgt v56 c0_i32_43
  let v91 : BitVec 32 := Scalar.extui v90
  let c0_i32_44 : BitVec 32 := 0#32
  let v92 : BitVec 1 := Scalar.cmpi .slt v56 c0_i32_44
  let v93 : BitVec 32 := Scalar.extui v92
  let v94 : BitVec 32 := Scalar.subi v91 v93
  let c4_i32_42 : BitVec 32 := 4#32
  let c0_i32_45 : BitVec 32 := 0#32
  let v95 : BitVec 1 := Scalar.cmpi .sgt c4_i32_42 c0_i32_45
  let v96 : BitVec 32 := Scalar.extui v95
  let c0_i32_46 : BitVec 32 := 0#32
  let v97 : BitVec 1 := Scalar.cmpi .slt c4_i32_42 c0_i32_46
  let v98 : BitVec 32 := Scalar.extui v97
  let v99 : BitVec 32 := Scalar.subi v96 v98
  let v100 : BitVec 1 := Scalar.cmpi .ne v94 v99
  let v101 : BitVec 32 := Scalar.remsi v56 c4_i32_42
  let c0_i32_47 : BitVec 32 := 0#32
  let v102 : BitVec 1 := Scalar.cmpi .ne v101 c0_i32_47
  let v103 : BitVec 1 := Scalar.andi v100 v102
  let v89 : BitVec 32 := Scalar.divsi v56 c4_i32_42
  let c1_i32_48 : BitVec 32 := 1#32
  let v104 : BitVec 32 := Scalar.subi v89 c1_i32_48
  let v105 : BitVec 32 := Scalar.select v103 v104 v89
  let c4_i32_49 : BitVec 32 := 4#32
  let v106 : BitVec 32 := Scalar.muli v105 c4_i32_49
  let v138 : BitVec 32 := Scalar.addi v106 c0_i32_71
  let v139 : Index := Scalar.indexCast v138
  let c0_73 : Index := 0#32
  let c0_74 : Index := 0#32
  ![0, v139.toNat, 0, 0]
def k0_mult17 (i : grid0.Coords) : BitVec 32 :=
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_43 : BitVec 32 := 0#32
  let v90 : BitVec 1 := Scalar.cmpi .sgt v56 c0_i32_43
  let v91 : BitVec 32 := Scalar.extui v90
  let c0_i32_44 : BitVec 32 := 0#32
  let v92 : BitVec 1 := Scalar.cmpi .slt v56 c0_i32_44
  let v93 : BitVec 32 := Scalar.extui v92
  let v94 : BitVec 32 := Scalar.subi v91 v93
  let c4_i32_42 : BitVec 32 := 4#32
  let c0_i32_45 : BitVec 32 := 0#32
  let v95 : BitVec 1 := Scalar.cmpi .sgt c4_i32_42 c0_i32_45
  let v96 : BitVec 32 := Scalar.extui v95
  let c0_i32_46 : BitVec 32 := 0#32
  let v97 : BitVec 1 := Scalar.cmpi .slt c4_i32_42 c0_i32_46
  let v98 : BitVec 32 := Scalar.extui v97
  let v99 : BitVec 32 := Scalar.subi v96 v98
  let v100 : BitVec 1 := Scalar.cmpi .ne v94 v99
  let v101 : BitVec 32 := Scalar.remsi v56 c4_i32_42
  let c0_i32_47 : BitVec 32 := 0#32
  let v102 : BitVec 1 := Scalar.cmpi .ne v101 c0_i32_47
  let v103 : BitVec 1 := Scalar.andi v100 v102
  let v89 : BitVec 32 := Scalar.divsi v56 c4_i32_42
  let c1_i32_48 : BitVec 32 := 1#32
  let v104 : BitVec 32 := Scalar.subi v89 c1_i32_48
  let v105 : BitVec 32 := Scalar.select v103 v104 v89
  let c4_i32_49 : BitVec 32 := 4#32
  let v106 : BitVec 32 := Scalar.muli v105 c4_i32_49
  let c1_i32_82 : BitVec 32 := 1#32
  let v153 : BitVec 32 := Scalar.addi v106 c1_i32_82
  let c1_i32_83 : BitVec 32 := 1#32
  let v154 : BitVec 32 := Scalar.addi v153 c1_i32_83
  let c512_i32_84 : BitVec 32 := 512#32
  let v155 : BitVec 32 := Scalar.muli v154 c512_i32_84
  v155
def k0_mult18 (i : grid0.Coords) : BitVec 32 :=
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_43 : BitVec 32 := 0#32
  let v90 : BitVec 1 := Scalar.cmpi .sgt v56 c0_i32_43
  let v91 : BitVec 32 := Scalar.extui v90
  let c0_i32_44 : BitVec 32 := 0#32
  let v92 : BitVec 1 := Scalar.cmpi .slt v56 c0_i32_44
  let v93 : BitVec 32 := Scalar.extui v92
  let v94 : BitVec 32 := Scalar.subi v91 v93
  let c4_i32_42 : BitVec 32 := 4#32
  let c0_i32_45 : BitVec 32 := 0#32
  let v95 : BitVec 1 := Scalar.cmpi .sgt c4_i32_42 c0_i32_45
  let v96 : BitVec 32 := Scalar.extui v95
  let c0_i32_46 : BitVec 32 := 0#32
  let v97 : BitVec 1 := Scalar.cmpi .slt c4_i32_42 c0_i32_46
  let v98 : BitVec 32 := Scalar.extui v97
  let v99 : BitVec 32 := Scalar.subi v96 v98
  let v100 : BitVec 1 := Scalar.cmpi .ne v94 v99
  let v101 : BitVec 32 := Scalar.remsi v56 c4_i32_42
  let c0_i32_47 : BitVec 32 := 0#32
  let v102 : BitVec 1 := Scalar.cmpi .ne v101 c0_i32_47
  let v103 : BitVec 1 := Scalar.andi v100 v102
  let v89 : BitVec 32 := Scalar.divsi v56 c4_i32_42
  let c1_i32_48 : BitVec 32 := 1#32
  let v104 : BitVec 32 := Scalar.subi v89 c1_i32_48
  let v105 : BitVec 32 := Scalar.select v103 v104 v89
  let c4_i32_49 : BitVec 32 := 4#32
  let v106 : BitVec 32 := Scalar.muli v105 c4_i32_49
  let c2_i32_107 : BitVec 32 := 2#32
  let v183 : BitVec 32 := Scalar.addi v106 c2_i32_107
  let c1_i32_108 : BitVec 32 := 1#32
  let v184 : BitVec 32 := Scalar.addi v183 c1_i32_108
  let c512_i32_109 : BitVec 32 := 512#32
  let v185 : BitVec 32 := Scalar.muli v184 c512_i32_109
  v185
def k0_mult19 (i : grid0.Coords) : BitVec 32 :=
  let arg2 : BitVec 32 := BitVec.ofNat 32 (i 2).val
  let c1024_i32 : BitVec 32 := 1024#32
  let v39 : BitVec 32 := Scalar.muli arg2 c1024_i32
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32 : BitVec 32 := 512#32
  let c0_i32_18 : BitVec 32 := 0#32
  let v46 : BitVec 1 := Scalar.cmpi .sgt c512_i32 c0_i32_18
  let v47 : BitVec 32 := Scalar.extui v46
  let c0_i32_19 : BitVec 32 := 0#32
  let v48 : BitVec 1 := Scalar.cmpi .slt c512_i32 c0_i32_19
  let v49 : BitVec 32 := Scalar.extui v48
  let v50 : BitVec 32 := Scalar.subi v47 v49
  let v51 : BitVec 1 := Scalar.cmpi .ne v45 v50
  let v52 : BitVec 32 := Scalar.remsi v39 c512_i32
  let c0_i32_20 : BitVec 32 := 0#32
  let v53 : BitVec 1 := Scalar.cmpi .ne v52 c0_i32_20
  let v54 : BitVec 1 := Scalar.andi v51 v53
  let v40 : BitVec 32 := Scalar.divsi v39 c512_i32
  let c1_i32 : BitVec 32 := 1#32
  let v55 : BitVec 32 := Scalar.subi v40 c1_i32
  let v56 : BitVec 32 := Scalar.select v54 v55 v40
  let c0_i32_43 : BitVec 32 := 0#32
  let v90 : BitVec 1 := Scalar.cmpi .sgt v56 c0_i32_43
  let v91 : BitVec 32 := Scalar.extui v90
  let c0_i32_44 : BitVec 32 := 0#32
  let v92 : BitVec 1 := Scalar.cmpi .slt v56 c0_i32_44
  let v93 : BitVec 32 := Scalar.extui v92
  let v94 : BitVec 32 := Scalar.subi v91 v93
  let c4_i32_42 : BitVec 32 := 4#32
  let c0_i32_45 : BitVec 32 := 0#32
  let v95 : BitVec 1 := Scalar.cmpi .sgt c4_i32_42 c0_i32_45
  let v96 : BitVec 32 := Scalar.extui v95
  let c0_i32_46 : BitVec 32 := 0#32
  let v97 : BitVec 1 := Scalar.cmpi .slt c4_i32_42 c0_i32_46
  let v98 : BitVec 32 := Scalar.extui v97
  let v99 : BitVec 32 := Scalar.subi v96 v98
  let v100 : BitVec 1 := Scalar.cmpi .ne v94 v99
  let v101 : BitVec 32 := Scalar.remsi v56 c4_i32_42
  let c0_i32_47 : BitVec 32 := 0#32
  let v102 : BitVec 1 := Scalar.cmpi .ne v101 c0_i32_47
  let v103 : BitVec 1 := Scalar.andi v100 v102
  let v89 : BitVec 32 := Scalar.divsi v56 c4_i32_42
  let c1_i32_48 : BitVec 32 := 1#32
  let v104 : BitVec 32 := Scalar.subi v89 c1_i32_48
  let v105 : BitVec 32 := Scalar.select v103 v104 v89
  let c4_i32_49 : BitVec 32 := 4#32
  let v106 : BitVec 32 := Scalar.muli v105 c4_i32_49
  let c3_i32_132 : BitVec 32 := 3#32
  let v213 : BitVec 32 := Scalar.addi v106 c3_i32_132
  let c1_i32_133 : BitVec 32 := 1#32
  let v214 : BitVec 32 := Scalar.addi v213 c1_i32_133
  let c512_i32_134 : BitVec 32 := 512#32
  let v215 : BitVec 32 := Scalar.muli v214 c512_i32_134
  v215
def k0_mult20 : BitVec 32 :=
  let c0_i32_22 : BitVec 32 := 0#32
  c0_i32_22
@[reducible] def k0_t3_loop (i : grid0.Coords) : Scf.Loop 32 :=
  let c0_i32_39 : BitVec 32 := 0#32
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_32 : BitVec 32 := 0#32
  let v69 : BitVec 1 := Scalar.cmpi .sgt v57 c0_i32_32
  let v70 : BitVec 32 := Scalar.extui v69
  let c0_i32_33 : BitVec 32 := 0#32
  let v71 : BitVec 1 := Scalar.cmpi .slt v57 c0_i32_33
  let v72 : BitVec 32 := Scalar.extui v71
  let v73 : BitVec 32 := Scalar.subi v70 v72
  let c4_i32 : BitVec 32 := 4#32
  let c0_i32_34 : BitVec 32 := 0#32
  let v74 : BitVec 1 := Scalar.cmpi .sgt c4_i32 c0_i32_34
  let v75 : BitVec 32 := Scalar.extui v74
  let c0_i32_35 : BitVec 32 := 0#32
  let v76 : BitVec 1 := Scalar.cmpi .slt c4_i32 c0_i32_35
  let v77 : BitVec 32 := Scalar.extui v76
  let v78 : BitVec 32 := Scalar.subi v75 v77
  let v79 : BitVec 1 := Scalar.cmpi .ne v73 v78
  let v80 : BitVec 32 := Scalar.remsi v57 c4_i32
  let c0_i32_36 : BitVec 32 := 0#32
  let v81 : BitVec 1 := Scalar.cmpi .ne v80 c0_i32_36
  let v82 : BitVec 1 := Scalar.andi v79 v81
  let v68 : BitVec 32 := Scalar.divsi v57 c4_i32
  let c1_i32_37 : BitVec 32 := 1#32
  let v83 : BitVec 32 := Scalar.subi v68 c1_i32_37
  let v84 : BitVec 32 := Scalar.select v82 v83 v68
  let v85 : BitVec 32 := Scalar.subi v84 c0_i32_39
  let c1_i32_40 : BitVec 32 := 1#32
  let v87 : BitVec 32 := Scalar.divsi v85 c1_i32_40
  let v88 : BitVec 32 := Scalar.muli v87 c1_i32_40
  let v89 : BitVec 32 := Scalar.addi c0_i32_39 v88
  let c1_i32_41 : BitVec 32 := 1#32
  ⟨c0_i32_39, v89, c1_i32_41⟩
def k0_mult21 (i : grid0.Coords) (k0_t3 : Fin (k0_t3_loop i).trips) : BitVec 32 :=
  let c4_i32_58 : BitVec 32 := 4#32
  let c0_i32_39 : BitVec 32 := 0#32
  let c1_i32_41 : BitVec 32 := 1#32
  let arg11 : BitVec 32 := Scf.iv c0_i32_39 c1_i32_41 k0_t3
  let v124 : BitVec 32 := Scalar.muli c4_i32_58 arg11
  let c0_i32_59 : BitVec 32 := 0#32
  let v125 : BitVec 32 := Scalar.addi v124 c0_i32_59
  let c1_i32_60 : BitVec 32 := 1#32
  let v126 : BitVec 32 := Scalar.addi v125 c1_i32_60
  let c512_i32_61 : BitVec 32 := 512#32
  let v127 : BitVec 32 := Scalar.muli v126 c512_i32_61
  v127
def k0_off14 (i : grid0.Coords) (k0_t3 : Fin (k0_t3_loop i).trips) (c0_i32_59 : BitVec 32) : Fin 3 → Nat :=
  let c0_62 : Index := 0#32
  let c4_i32_58 : BitVec 32 := 4#32
  let c0_i32_39 : BitVec 32 := 0#32
  let c1_i32_41 : BitVec 32 := 1#32
  let arg11 : BitVec 32 := Scf.iv c0_i32_39 c1_i32_41 k0_t3
  let v124 : BitVec 32 := Scalar.muli c4_i32_58 arg11
  let v125 : BitVec 32 := Scalar.addi v124 c0_i32_59
  let c1_i32_60 : BitVec 32 := 1#32
  let v126 : BitVec 32 := Scalar.addi v125 c1_i32_60
  let c512_i32_61 : BitVec 32 := 512#32
  let v127 : BitVec 32 := Scalar.muli v126 c512_i32_61
  let v128 : BitVec 32 := v127
  let v129 : Index := Scalar.indexCast v128
  let c0_63 : Index := 0#32
  ![0, v129.toNat, 0]
def k0_off15 (i : grid0.Coords) (k0_t3 : Fin (k0_t3_loop i).trips) (c0_i32_73 : BitVec 32) : Fin 4 → Nat :=
  let c0_74 : Index := 0#32
  let c4_i32_58 : BitVec 32 := 4#32
  let c0_i32_39 : BitVec 32 := 0#32
  let c1_i32_41 : BitVec 32 := 1#32
  let arg11 : BitVec 32 := Scf.iv c0_i32_39 c1_i32_41 k0_t3
  let v124 : BitVec 32 := Scalar.muli c4_i32_58 arg11
  let v140 : BitVec 32 := Scalar.addi v124 c0_i32_73
  let v141 : Index := Scalar.indexCast v140
  let c0_75 : Index := 0#32
  let c0_76 : Index := 0#32
  ![0, v141.toNat, 0, 0]
def k0_mult22 (i : grid0.Coords) (k0_t3 : Fin (k0_t3_loop i).trips) : BitVec 32 :=
  let c4_i32_58 : BitVec 32 := 4#32
  let c0_i32_39 : BitVec 32 := 0#32
  let c1_i32_41 : BitVec 32 := 1#32
  let arg11 : BitVec 32 := Scf.iv c0_i32_39 c1_i32_41 k0_t3
  let v124 : BitVec 32 := Scalar.muli c4_i32_58 arg11
  let c1_i32_87 : BitVec 32 := 1#32
  let v165 : BitVec 32 := Scalar.addi v124 c1_i32_87
  let c1_i32_88 : BitVec 32 := 1#32
  let v166 : BitVec 32 := Scalar.addi v165 c1_i32_88
  let c512_i32_89 : BitVec 32 := 512#32
  let v167 : BitVec 32 := Scalar.muli v166 c512_i32_89
  v167
def k0_mult23 (i : grid0.Coords) (k0_t3 : Fin (k0_t3_loop i).trips) : BitVec 32 :=
  let c4_i32_58 : BitVec 32 := 4#32
  let c0_i32_39 : BitVec 32 := 0#32
  let c1_i32_41 : BitVec 32 := 1#32
  let arg11 : BitVec 32 := Scf.iv c0_i32_39 c1_i32_41 k0_t3
  let v124 : BitVec 32 := Scalar.muli c4_i32_58 arg11
  let c2_i32_115 : BitVec 32 := 2#32
  let v205 : BitVec 32 := Scalar.addi v124 c2_i32_115
  let c1_i32_116 : BitVec 32 := 1#32
  let v206 : BitVec 32 := Scalar.addi v205 c1_i32_116
  let c512_i32_117 : BitVec 32 := 512#32
  let v207 : BitVec 32 := Scalar.muli v206 c512_i32_117
  v207
def k0_mult24 (i : grid0.Coords) (k0_t3 : Fin (k0_t3_loop i).trips) : BitVec 32 :=
  let c4_i32_58 : BitVec 32 := 4#32
  let c0_i32_39 : BitVec 32 := 0#32
  let c1_i32_41 : BitVec 32 := 1#32
  let arg11 : BitVec 32 := Scf.iv c0_i32_39 c1_i32_41 k0_t3
  let v124 : BitVec 32 := Scalar.muli c4_i32_58 arg11
  let c3_i32_143 : BitVec 32 := 3#32
  let v245 : BitVec 32 := Scalar.addi v124 c3_i32_143
  let c1_i32_144 : BitVec 32 := 1#32
  let v246 : BitVec 32 := Scalar.addi v245 c1_i32_144
  let c512_i32_145 : BitVec 32 := 512#32
  let v247 : BitVec 32 := Scalar.muli v246 c512_i32_145
  v247
@[reducible] def k0_t4_loop (i : grid0.Coords) : Scf.Loop 32 :=
  let c0_i32_39 : BitVec 32 := 0#32
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_32 : BitVec 32 := 0#32
  let v69 : BitVec 1 := Scalar.cmpi .sgt v57 c0_i32_32
  let v70 : BitVec 32 := Scalar.extui v69
  let c0_i32_33 : BitVec 32 := 0#32
  let v71 : BitVec 1 := Scalar.cmpi .slt v57 c0_i32_33
  let v72 : BitVec 32 := Scalar.extui v71
  let v73 : BitVec 32 := Scalar.subi v70 v72
  let c4_i32 : BitVec 32 := 4#32
  let c0_i32_34 : BitVec 32 := 0#32
  let v74 : BitVec 1 := Scalar.cmpi .sgt c4_i32 c0_i32_34
  let v75 : BitVec 32 := Scalar.extui v74
  let c0_i32_35 : BitVec 32 := 0#32
  let v76 : BitVec 1 := Scalar.cmpi .slt c4_i32 c0_i32_35
  let v77 : BitVec 32 := Scalar.extui v76
  let v78 : BitVec 32 := Scalar.subi v75 v77
  let v79 : BitVec 1 := Scalar.cmpi .ne v73 v78
  let v80 : BitVec 32 := Scalar.remsi v57 c4_i32
  let c0_i32_36 : BitVec 32 := 0#32
  let v81 : BitVec 1 := Scalar.cmpi .ne v80 c0_i32_36
  let v82 : BitVec 1 := Scalar.andi v79 v81
  let v68 : BitVec 32 := Scalar.divsi v57 c4_i32
  let c1_i32_37 : BitVec 32 := 1#32
  let v83 : BitVec 32 := Scalar.subi v68 c1_i32_37
  let v84 : BitVec 32 := Scalar.select v82 v83 v68
  let v85 : BitVec 32 := Scalar.subi v84 c0_i32_39
  let c1_i32_40 : BitVec 32 := 1#32
  let v87 : BitVec 32 := Scalar.divsi v85 c1_i32_40
  let v88 : BitVec 32 := Scalar.muli v87 c1_i32_40
  let v89 : BitVec 32 := Scalar.addi c0_i32_39 v88
  let v86 : BitVec 32 := Scalar.addi c0_i32_39 v85
  let c1_i32_42 : BitVec 32 := 1#32
  ⟨v89, v86, c1_i32_42⟩
def k0_mult25 (i : grid0.Coords) (k0_t4 : Fin (k0_t4_loop i).trips) : BitVec 32 :=
  let c4_i32_58 : BitVec 32 := 4#32
  let c0_i32_39 : BitVec 32 := 0#32
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_32 : BitVec 32 := 0#32
  let v69 : BitVec 1 := Scalar.cmpi .sgt v57 c0_i32_32
  let v70 : BitVec 32 := Scalar.extui v69
  let c0_i32_33 : BitVec 32 := 0#32
  let v71 : BitVec 1 := Scalar.cmpi .slt v57 c0_i32_33
  let v72 : BitVec 32 := Scalar.extui v71
  let v73 : BitVec 32 := Scalar.subi v70 v72
  let c4_i32 : BitVec 32 := 4#32
  let c0_i32_34 : BitVec 32 := 0#32
  let v74 : BitVec 1 := Scalar.cmpi .sgt c4_i32 c0_i32_34
  let v75 : BitVec 32 := Scalar.extui v74
  let c0_i32_35 : BitVec 32 := 0#32
  let v76 : BitVec 1 := Scalar.cmpi .slt c4_i32 c0_i32_35
  let v77 : BitVec 32 := Scalar.extui v76
  let v78 : BitVec 32 := Scalar.subi v75 v77
  let v79 : BitVec 1 := Scalar.cmpi .ne v73 v78
  let v80 : BitVec 32 := Scalar.remsi v57 c4_i32
  let c0_i32_36 : BitVec 32 := 0#32
  let v81 : BitVec 1 := Scalar.cmpi .ne v80 c0_i32_36
  let v82 : BitVec 1 := Scalar.andi v79 v81
  let v68 : BitVec 32 := Scalar.divsi v57 c4_i32
  let c1_i32_37 : BitVec 32 := 1#32
  let v83 : BitVec 32 := Scalar.subi v68 c1_i32_37
  let v84 : BitVec 32 := Scalar.select v82 v83 v68
  let v85 : BitVec 32 := Scalar.subi v84 c0_i32_39
  let c1_i32_40 : BitVec 32 := 1#32
  let v87 : BitVec 32 := Scalar.divsi v85 c1_i32_40
  let v88 : BitVec 32 := Scalar.muli v87 c1_i32_40
  let v89 : BitVec 32 := Scalar.addi c0_i32_39 v88
  let c1_i32_42 : BitVec 32 := 1#32
  let arg11 : BitVec 32 := Scf.iv v89 c1_i32_42 k0_t4
  let v124 : BitVec 32 := Scalar.muli c4_i32_58 arg11
  let c0_i32_59 : BitVec 32 := 0#32
  let v125 : BitVec 32 := Scalar.addi v124 c0_i32_59
  let c1_i32_60 : BitVec 32 := 1#32
  let v126 : BitVec 32 := Scalar.addi v125 c1_i32_60
  let c512_i32_61 : BitVec 32 := 512#32
  let v127 : BitVec 32 := Scalar.muli v126 c512_i32_61
  v127
def k0_off16 (i : grid0.Coords) (k0_t4 : Fin (k0_t4_loop i).trips) (c0_i32_59 : BitVec 32) : Fin 3 → Nat :=
  let c0_62 : Index := 0#32
  let c4_i32_58 : BitVec 32 := 4#32
  let c0_i32_39 : BitVec 32 := 0#32
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_32 : BitVec 32 := 0#32
  let v69 : BitVec 1 := Scalar.cmpi .sgt v57 c0_i32_32
  let v70 : BitVec 32 := Scalar.extui v69
  let c0_i32_33 : BitVec 32 := 0#32
  let v71 : BitVec 1 := Scalar.cmpi .slt v57 c0_i32_33
  let v72 : BitVec 32 := Scalar.extui v71
  let v73 : BitVec 32 := Scalar.subi v70 v72
  let c4_i32 : BitVec 32 := 4#32
  let c0_i32_34 : BitVec 32 := 0#32
  let v74 : BitVec 1 := Scalar.cmpi .sgt c4_i32 c0_i32_34
  let v75 : BitVec 32 := Scalar.extui v74
  let c0_i32_35 : BitVec 32 := 0#32
  let v76 : BitVec 1 := Scalar.cmpi .slt c4_i32 c0_i32_35
  let v77 : BitVec 32 := Scalar.extui v76
  let v78 : BitVec 32 := Scalar.subi v75 v77
  let v79 : BitVec 1 := Scalar.cmpi .ne v73 v78
  let v80 : BitVec 32 := Scalar.remsi v57 c4_i32
  let c0_i32_36 : BitVec 32 := 0#32
  let v81 : BitVec 1 := Scalar.cmpi .ne v80 c0_i32_36
  let v82 : BitVec 1 := Scalar.andi v79 v81
  let v68 : BitVec 32 := Scalar.divsi v57 c4_i32
  let c1_i32_37 : BitVec 32 := 1#32
  let v83 : BitVec 32 := Scalar.subi v68 c1_i32_37
  let v84 : BitVec 32 := Scalar.select v82 v83 v68
  let v85 : BitVec 32 := Scalar.subi v84 c0_i32_39
  let c1_i32_40 : BitVec 32 := 1#32
  let v87 : BitVec 32 := Scalar.divsi v85 c1_i32_40
  let v88 : BitVec 32 := Scalar.muli v87 c1_i32_40
  let v89 : BitVec 32 := Scalar.addi c0_i32_39 v88
  let c1_i32_42 : BitVec 32 := 1#32
  let arg11 : BitVec 32 := Scf.iv v89 c1_i32_42 k0_t4
  let v124 : BitVec 32 := Scalar.muli c4_i32_58 arg11
  let v125 : BitVec 32 := Scalar.addi v124 c0_i32_59
  let c1_i32_60 : BitVec 32 := 1#32
  let v126 : BitVec 32 := Scalar.addi v125 c1_i32_60
  let c512_i32_61 : BitVec 32 := 512#32
  let v127 : BitVec 32 := Scalar.muli v126 c512_i32_61
  let v128 : BitVec 32 := v127
  let v129 : Index := Scalar.indexCast v128
  let c0_63 : Index := 0#32
  ![0, v129.toNat, 0]
def k0_off17 (i : grid0.Coords) (k0_t4 : Fin (k0_t4_loop i).trips) (c0_i32_73 : BitVec 32) : Fin 4 → Nat :=
  let c0_74 : Index := 0#32
  let c4_i32_58 : BitVec 32 := 4#32
  let c0_i32_39 : BitVec 32 := 0#32
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_32 : BitVec 32 := 0#32
  let v69 : BitVec 1 := Scalar.cmpi .sgt v57 c0_i32_32
  let v70 : BitVec 32 := Scalar.extui v69
  let c0_i32_33 : BitVec 32 := 0#32
  let v71 : BitVec 1 := Scalar.cmpi .slt v57 c0_i32_33
  let v72 : BitVec 32 := Scalar.extui v71
  let v73 : BitVec 32 := Scalar.subi v70 v72
  let c4_i32 : BitVec 32 := 4#32
  let c0_i32_34 : BitVec 32 := 0#32
  let v74 : BitVec 1 := Scalar.cmpi .sgt c4_i32 c0_i32_34
  let v75 : BitVec 32 := Scalar.extui v74
  let c0_i32_35 : BitVec 32 := 0#32
  let v76 : BitVec 1 := Scalar.cmpi .slt c4_i32 c0_i32_35
  let v77 : BitVec 32 := Scalar.extui v76
  let v78 : BitVec 32 := Scalar.subi v75 v77
  let v79 : BitVec 1 := Scalar.cmpi .ne v73 v78
  let v80 : BitVec 32 := Scalar.remsi v57 c4_i32
  let c0_i32_36 : BitVec 32 := 0#32
  let v81 : BitVec 1 := Scalar.cmpi .ne v80 c0_i32_36
  let v82 : BitVec 1 := Scalar.andi v79 v81
  let v68 : BitVec 32 := Scalar.divsi v57 c4_i32
  let c1_i32_37 : BitVec 32 := 1#32
  let v83 : BitVec 32 := Scalar.subi v68 c1_i32_37
  let v84 : BitVec 32 := Scalar.select v82 v83 v68
  let v85 : BitVec 32 := Scalar.subi v84 c0_i32_39
  let c1_i32_40 : BitVec 32 := 1#32
  let v87 : BitVec 32 := Scalar.divsi v85 c1_i32_40
  let v88 : BitVec 32 := Scalar.muli v87 c1_i32_40
  let v89 : BitVec 32 := Scalar.addi c0_i32_39 v88
  let c1_i32_42 : BitVec 32 := 1#32
  let arg11 : BitVec 32 := Scf.iv v89 c1_i32_42 k0_t4
  let v124 : BitVec 32 := Scalar.muli c4_i32_58 arg11
  let v140 : BitVec 32 := Scalar.addi v124 c0_i32_73
  let v141 : Index := Scalar.indexCast v140
  let c0_75 : Index := 0#32
  let c0_76 : Index := 0#32
  ![0, v141.toNat, 0, 0]
def k0_mult26 (i : grid0.Coords) (k0_t4 : Fin (k0_t4_loop i).trips) : BitVec 32 :=
  let c4_i32_58 : BitVec 32 := 4#32
  let c0_i32_39 : BitVec 32 := 0#32
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_32 : BitVec 32 := 0#32
  let v69 : BitVec 1 := Scalar.cmpi .sgt v57 c0_i32_32
  let v70 : BitVec 32 := Scalar.extui v69
  let c0_i32_33 : BitVec 32 := 0#32
  let v71 : BitVec 1 := Scalar.cmpi .slt v57 c0_i32_33
  let v72 : BitVec 32 := Scalar.extui v71
  let v73 : BitVec 32 := Scalar.subi v70 v72
  let c4_i32 : BitVec 32 := 4#32
  let c0_i32_34 : BitVec 32 := 0#32
  let v74 : BitVec 1 := Scalar.cmpi .sgt c4_i32 c0_i32_34
  let v75 : BitVec 32 := Scalar.extui v74
  let c0_i32_35 : BitVec 32 := 0#32
  let v76 : BitVec 1 := Scalar.cmpi .slt c4_i32 c0_i32_35
  let v77 : BitVec 32 := Scalar.extui v76
  let v78 : BitVec 32 := Scalar.subi v75 v77
  let v79 : BitVec 1 := Scalar.cmpi .ne v73 v78
  let v80 : BitVec 32 := Scalar.remsi v57 c4_i32
  let c0_i32_36 : BitVec 32 := 0#32
  let v81 : BitVec 1 := Scalar.cmpi .ne v80 c0_i32_36
  let v82 : BitVec 1 := Scalar.andi v79 v81
  let v68 : BitVec 32 := Scalar.divsi v57 c4_i32
  let c1_i32_37 : BitVec 32 := 1#32
  let v83 : BitVec 32 := Scalar.subi v68 c1_i32_37
  let v84 : BitVec 32 := Scalar.select v82 v83 v68
  let v85 : BitVec 32 := Scalar.subi v84 c0_i32_39
  let c1_i32_40 : BitVec 32 := 1#32
  let v87 : BitVec 32 := Scalar.divsi v85 c1_i32_40
  let v88 : BitVec 32 := Scalar.muli v87 c1_i32_40
  let v89 : BitVec 32 := Scalar.addi c0_i32_39 v88
  let c1_i32_42 : BitVec 32 := 1#32
  let arg11 : BitVec 32 := Scf.iv v89 c1_i32_42 k0_t4
  let v124 : BitVec 32 := Scalar.muli c4_i32_58 arg11
  let c1_i32_87 : BitVec 32 := 1#32
  let v165 : BitVec 32 := Scalar.addi v124 c1_i32_87
  let c1_i32_88 : BitVec 32 := 1#32
  let v166 : BitVec 32 := Scalar.addi v165 c1_i32_88
  let c512_i32_89 : BitVec 32 := 512#32
  let v167 : BitVec 32 := Scalar.muli v166 c512_i32_89
  v167
def k0_mult27 (i : grid0.Coords) (k0_t4 : Fin (k0_t4_loop i).trips) : BitVec 32 :=
  let c4_i32_58 : BitVec 32 := 4#32
  let c0_i32_39 : BitVec 32 := 0#32
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_32 : BitVec 32 := 0#32
  let v69 : BitVec 1 := Scalar.cmpi .sgt v57 c0_i32_32
  let v70 : BitVec 32 := Scalar.extui v69
  let c0_i32_33 : BitVec 32 := 0#32
  let v71 : BitVec 1 := Scalar.cmpi .slt v57 c0_i32_33
  let v72 : BitVec 32 := Scalar.extui v71
  let v73 : BitVec 32 := Scalar.subi v70 v72
  let c4_i32 : BitVec 32 := 4#32
  let c0_i32_34 : BitVec 32 := 0#32
  let v74 : BitVec 1 := Scalar.cmpi .sgt c4_i32 c0_i32_34
  let v75 : BitVec 32 := Scalar.extui v74
  let c0_i32_35 : BitVec 32 := 0#32
  let v76 : BitVec 1 := Scalar.cmpi .slt c4_i32 c0_i32_35
  let v77 : BitVec 32 := Scalar.extui v76
  let v78 : BitVec 32 := Scalar.subi v75 v77
  let v79 : BitVec 1 := Scalar.cmpi .ne v73 v78
  let v80 : BitVec 32 := Scalar.remsi v57 c4_i32
  let c0_i32_36 : BitVec 32 := 0#32
  let v81 : BitVec 1 := Scalar.cmpi .ne v80 c0_i32_36
  let v82 : BitVec 1 := Scalar.andi v79 v81
  let v68 : BitVec 32 := Scalar.divsi v57 c4_i32
  let c1_i32_37 : BitVec 32 := 1#32
  let v83 : BitVec 32 := Scalar.subi v68 c1_i32_37
  let v84 : BitVec 32 := Scalar.select v82 v83 v68
  let v85 : BitVec 32 := Scalar.subi v84 c0_i32_39
  let c1_i32_40 : BitVec 32 := 1#32
  let v87 : BitVec 32 := Scalar.divsi v85 c1_i32_40
  let v88 : BitVec 32 := Scalar.muli v87 c1_i32_40
  let v89 : BitVec 32 := Scalar.addi c0_i32_39 v88
  let c1_i32_42 : BitVec 32 := 1#32
  let arg11 : BitVec 32 := Scf.iv v89 c1_i32_42 k0_t4
  let v124 : BitVec 32 := Scalar.muli c4_i32_58 arg11
  let c2_i32_115 : BitVec 32 := 2#32
  let v205 : BitVec 32 := Scalar.addi v124 c2_i32_115
  let c1_i32_116 : BitVec 32 := 1#32
  let v206 : BitVec 32 := Scalar.addi v205 c1_i32_116
  let c512_i32_117 : BitVec 32 := 512#32
  let v207 : BitVec 32 := Scalar.muli v206 c512_i32_117
  v207
def k0_mult28 (i : grid0.Coords) (k0_t4 : Fin (k0_t4_loop i).trips) : BitVec 32 :=
  let c4_i32_58 : BitVec 32 := 4#32
  let c0_i32_39 : BitVec 32 := 0#32
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_32 : BitVec 32 := 0#32
  let v69 : BitVec 1 := Scalar.cmpi .sgt v57 c0_i32_32
  let v70 : BitVec 32 := Scalar.extui v69
  let c0_i32_33 : BitVec 32 := 0#32
  let v71 : BitVec 1 := Scalar.cmpi .slt v57 c0_i32_33
  let v72 : BitVec 32 := Scalar.extui v71
  let v73 : BitVec 32 := Scalar.subi v70 v72
  let c4_i32 : BitVec 32 := 4#32
  let c0_i32_34 : BitVec 32 := 0#32
  let v74 : BitVec 1 := Scalar.cmpi .sgt c4_i32 c0_i32_34
  let v75 : BitVec 32 := Scalar.extui v74
  let c0_i32_35 : BitVec 32 := 0#32
  let v76 : BitVec 1 := Scalar.cmpi .slt c4_i32 c0_i32_35
  let v77 : BitVec 32 := Scalar.extui v76
  let v78 : BitVec 32 := Scalar.subi v75 v77
  let v79 : BitVec 1 := Scalar.cmpi .ne v73 v78
  let v80 : BitVec 32 := Scalar.remsi v57 c4_i32
  let c0_i32_36 : BitVec 32 := 0#32
  let v81 : BitVec 1 := Scalar.cmpi .ne v80 c0_i32_36
  let v82 : BitVec 1 := Scalar.andi v79 v81
  let v68 : BitVec 32 := Scalar.divsi v57 c4_i32
  let c1_i32_37 : BitVec 32 := 1#32
  let v83 : BitVec 32 := Scalar.subi v68 c1_i32_37
  let v84 : BitVec 32 := Scalar.select v82 v83 v68
  let v85 : BitVec 32 := Scalar.subi v84 c0_i32_39
  let c1_i32_40 : BitVec 32 := 1#32
  let v87 : BitVec 32 := Scalar.divsi v85 c1_i32_40
  let v88 : BitVec 32 := Scalar.muli v87 c1_i32_40
  let v89 : BitVec 32 := Scalar.addi c0_i32_39 v88
  let c1_i32_42 : BitVec 32 := 1#32
  let arg11 : BitVec 32 := Scf.iv v89 c1_i32_42 k0_t4
  let v124 : BitVec 32 := Scalar.muli c4_i32_58 arg11
  let c3_i32_143 : BitVec 32 := 3#32
  let v245 : BitVec 32 := Scalar.addi v124 c3_i32_143
  let c1_i32_144 : BitVec 32 := 1#32
  let v246 : BitVec 32 := Scalar.addi v245 c1_i32_144
  let c512_i32_145 : BitVec 32 := 512#32
  let v247 : BitVec 32 := Scalar.muli v246 c512_i32_145
  v247
def k0_cond7 (i : grid0.Coords) : BitVec 1 :=
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_44 : BitVec 32 := 0#32
  let v91 : BitVec 1 := Scalar.cmpi .sgt v57 c0_i32_44
  let v92 : BitVec 32 := Scalar.extui v91
  let c0_i32_45 : BitVec 32 := 0#32
  let v93 : BitVec 1 := Scalar.cmpi .slt v57 c0_i32_45
  let v94 : BitVec 32 := Scalar.extui v93
  let v95 : BitVec 32 := Scalar.subi v92 v94
  let c4_i32_43 : BitVec 32 := 4#32
  let c0_i32_46 : BitVec 32 := 0#32
  let v96 : BitVec 1 := Scalar.cmpi .sgt c4_i32_43 c0_i32_46
  let v97 : BitVec 32 := Scalar.extui v96
  let c0_i32_47 : BitVec 32 := 0#32
  let v98 : BitVec 1 := Scalar.cmpi .slt c4_i32_43 c0_i32_47
  let v99 : BitVec 32 := Scalar.extui v98
  let v100 : BitVec 32 := Scalar.subi v97 v99
  let v101 : BitVec 1 := Scalar.cmpi .ne v95 v100
  let v102 : BitVec 32 := Scalar.remsi v57 c4_i32_43
  let c0_i32_48 : BitVec 32 := 0#32
  let v103 : BitVec 1 := Scalar.cmpi .ne v102 c0_i32_48
  let v104 : BitVec 1 := Scalar.andi v101 v103
  let v90 : BitVec 32 := Scalar.divsi v57 c4_i32_43
  let c1_i32_49 : BitVec 32 := 1#32
  let v105 : BitVec 32 := Scalar.subi v90 c1_i32_49
  let v106 : BitVec 32 := Scalar.select v104 v105 v90
  let c4_i32_50 : BitVec 32 := 4#32
  let v107 : BitVec 32 := Scalar.muli v106 c4_i32_50
  let v108 : BitVec 32 := Scalar.subi v57 v107
  let c0_i32_51 : BitVec 32 := 0#32
  let v109 : BitVec 1 := Scalar.cmpi .eq v108 c0_i32_51
  let v110 : BitVec 32 := Scalar.extui v109
  let c0_i32_52 : BitVec 32 := 0#32
  let v111 : BitVec 1 := Scalar.cmpi .ne v110 c0_i32_52
  v111

def k0_mult29 (i : grid0.Coords) : BitVec 32 :=
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_44 : BitVec 32 := 0#32
  let v91 : BitVec 1 := Scalar.cmpi .sgt v57 c0_i32_44
  let v92 : BitVec 32 := Scalar.extui v91
  let c0_i32_45 : BitVec 32 := 0#32
  let v93 : BitVec 1 := Scalar.cmpi .slt v57 c0_i32_45
  let v94 : BitVec 32 := Scalar.extui v93
  let v95 : BitVec 32 := Scalar.subi v92 v94
  let c4_i32_43 : BitVec 32 := 4#32
  let c0_i32_46 : BitVec 32 := 0#32
  let v96 : BitVec 1 := Scalar.cmpi .sgt c4_i32_43 c0_i32_46
  let v97 : BitVec 32 := Scalar.extui v96
  let c0_i32_47 : BitVec 32 := 0#32
  let v98 : BitVec 1 := Scalar.cmpi .slt c4_i32_43 c0_i32_47
  let v99 : BitVec 32 := Scalar.extui v98
  let v100 : BitVec 32 := Scalar.subi v97 v99
  let v101 : BitVec 1 := Scalar.cmpi .ne v95 v100
  let v102 : BitVec 32 := Scalar.remsi v57 c4_i32_43
  let c0_i32_48 : BitVec 32 := 0#32
  let v103 : BitVec 1 := Scalar.cmpi .ne v102 c0_i32_48
  let v104 : BitVec 1 := Scalar.andi v101 v103
  let v90 : BitVec 32 := Scalar.divsi v57 c4_i32_43
  let c1_i32_49 : BitVec 32 := 1#32
  let v105 : BitVec 32 := Scalar.subi v90 c1_i32_49
  let v106 : BitVec 32 := Scalar.select v104 v105 v90
  let c4_i32_50 : BitVec 32 := 4#32
  let v107 : BitVec 32 := Scalar.muli v106 c4_i32_50
  let c0_i32_58 : BitVec 32 := 0#32
  let v124 : BitVec 32 := Scalar.addi v107 c0_i32_58
  let c1_i32_59 : BitVec 32 := 1#32
  let v125 : BitVec 32 := Scalar.addi v124 c1_i32_59
  let c512_i32_60 : BitVec 32 := 512#32
  let v126 : BitVec 32 := Scalar.muli v125 c512_i32_60
  v126
def k0_off18 (i : grid0.Coords) : Fin 3 → Nat :=
  let c0_61 : Index := 0#32
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_44 : BitVec 32 := 0#32
  let v91 : BitVec 1 := Scalar.cmpi .sgt v57 c0_i32_44
  let v92 : BitVec 32 := Scalar.extui v91
  let c0_i32_45 : BitVec 32 := 0#32
  let v93 : BitVec 1 := Scalar.cmpi .slt v57 c0_i32_45
  let v94 : BitVec 32 := Scalar.extui v93
  let v95 : BitVec 32 := Scalar.subi v92 v94
  let c4_i32_43 : BitVec 32 := 4#32
  let c0_i32_46 : BitVec 32 := 0#32
  let v96 : BitVec 1 := Scalar.cmpi .sgt c4_i32_43 c0_i32_46
  let v97 : BitVec 32 := Scalar.extui v96
  let c0_i32_47 : BitVec 32 := 0#32
  let v98 : BitVec 1 := Scalar.cmpi .slt c4_i32_43 c0_i32_47
  let v99 : BitVec 32 := Scalar.extui v98
  let v100 : BitVec 32 := Scalar.subi v97 v99
  let v101 : BitVec 1 := Scalar.cmpi .ne v95 v100
  let v102 : BitVec 32 := Scalar.remsi v57 c4_i32_43
  let c0_i32_48 : BitVec 32 := 0#32
  let v103 : BitVec 1 := Scalar.cmpi .ne v102 c0_i32_48
  let v104 : BitVec 1 := Scalar.andi v101 v103
  let v90 : BitVec 32 := Scalar.divsi v57 c4_i32_43
  let c1_i32_49 : BitVec 32 := 1#32
  let v105 : BitVec 32 := Scalar.subi v90 c1_i32_49
  let v106 : BitVec 32 := Scalar.select v104 v105 v90
  let c4_i32_50 : BitVec 32 := 4#32
  let v107 : BitVec 32 := Scalar.muli v106 c4_i32_50
  let c0_i32_58 : BitVec 32 := 0#32
  let v124 : BitVec 32 := Scalar.addi v107 c0_i32_58
  let c1_i32_59 : BitVec 32 := 1#32
  let v125 : BitVec 32 := Scalar.addi v124 c1_i32_59
  let c512_i32_60 : BitVec 32 := 512#32
  let v126 : BitVec 32 := Scalar.muli v125 c512_i32_60
  let v127 : BitVec 32 := v126
  let v128 : Index := Scalar.indexCast v127
  let c0_62 : Index := 0#32
  ![0, v128.toNat, 0]
def k0_off19 (i : grid0.Coords) (c0_i32_76 : BitVec 32) : Fin 4 → Nat :=
  let c0_77 : Index := 0#32
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_44 : BitVec 32 := 0#32
  let v91 : BitVec 1 := Scalar.cmpi .sgt v57 c0_i32_44
  let v92 : BitVec 32 := Scalar.extui v91
  let c0_i32_45 : BitVec 32 := 0#32
  let v93 : BitVec 1 := Scalar.cmpi .slt v57 c0_i32_45
  let v94 : BitVec 32 := Scalar.extui v93
  let v95 : BitVec 32 := Scalar.subi v92 v94
  let c4_i32_43 : BitVec 32 := 4#32
  let c0_i32_46 : BitVec 32 := 0#32
  let v96 : BitVec 1 := Scalar.cmpi .sgt c4_i32_43 c0_i32_46
  let v97 : BitVec 32 := Scalar.extui v96
  let c0_i32_47 : BitVec 32 := 0#32
  let v98 : BitVec 1 := Scalar.cmpi .slt c4_i32_43 c0_i32_47
  let v99 : BitVec 32 := Scalar.extui v98
  let v100 : BitVec 32 := Scalar.subi v97 v99
  let v101 : BitVec 1 := Scalar.cmpi .ne v95 v100
  let v102 : BitVec 32 := Scalar.remsi v57 c4_i32_43
  let c0_i32_48 : BitVec 32 := 0#32
  let v103 : BitVec 1 := Scalar.cmpi .ne v102 c0_i32_48
  let v104 : BitVec 1 := Scalar.andi v101 v103
  let v90 : BitVec 32 := Scalar.divsi v57 c4_i32_43
  let c1_i32_49 : BitVec 32 := 1#32
  let v105 : BitVec 32 := Scalar.subi v90 c1_i32_49
  let v106 : BitVec 32 := Scalar.select v104 v105 v90
  let c4_i32_50 : BitVec 32 := 4#32
  let v107 : BitVec 32 := Scalar.muli v106 c4_i32_50
  let v151 : BitVec 32 := Scalar.addi v107 c0_i32_76
  let v152 : Index := Scalar.indexCast v151
  let c0_78 : Index := 0#32
  let c0_79 : Index := 0#32
  ![0, v152.toNat, 0, 0]
def k0_cond8 (i : grid0.Coords) : BitVec 1 :=
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_44 : BitVec 32 := 0#32
  let v91 : BitVec 1 := Scalar.cmpi .sgt v57 c0_i32_44
  let v92 : BitVec 32 := Scalar.extui v91
  let c0_i32_45 : BitVec 32 := 0#32
  let v93 : BitVec 1 := Scalar.cmpi .slt v57 c0_i32_45
  let v94 : BitVec 32 := Scalar.extui v93
  let v95 : BitVec 32 := Scalar.subi v92 v94
  let c4_i32_43 : BitVec 32 := 4#32
  let c0_i32_46 : BitVec 32 := 0#32
  let v96 : BitVec 1 := Scalar.cmpi .sgt c4_i32_43 c0_i32_46
  let v97 : BitVec 32 := Scalar.extui v96
  let c0_i32_47 : BitVec 32 := 0#32
  let v98 : BitVec 1 := Scalar.cmpi .slt c4_i32_43 c0_i32_47
  let v99 : BitVec 32 := Scalar.extui v98
  let v100 : BitVec 32 := Scalar.subi v97 v99
  let v101 : BitVec 1 := Scalar.cmpi .ne v95 v100
  let v102 : BitVec 32 := Scalar.remsi v57 c4_i32_43
  let c0_i32_48 : BitVec 32 := 0#32
  let v103 : BitVec 1 := Scalar.cmpi .ne v102 c0_i32_48
  let v104 : BitVec 1 := Scalar.andi v101 v103
  let v90 : BitVec 32 := Scalar.divsi v57 c4_i32_43
  let c1_i32_49 : BitVec 32 := 1#32
  let v105 : BitVec 32 := Scalar.subi v90 c1_i32_49
  let v106 : BitVec 32 := Scalar.select v104 v105 v90
  let c4_i32_50 : BitVec 32 := 4#32
  let v107 : BitVec 32 := Scalar.muli v106 c4_i32_50
  let v112 : BitVec 32 := Scalar.subi v57 v107
  let c1_i32_53 : BitVec 32 := 1#32
  let v113 : BitVec 1 := Scalar.cmpi .eq v112 c1_i32_53
  let v114 : BitVec 32 := Scalar.extui v113
  let c0_i32_54 : BitVec 32 := 0#32
  let v115 : BitVec 1 := Scalar.cmpi .ne v114 c0_i32_54
  v115

def k0_mult30 (i : grid0.Coords) : BitVec 32 :=
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_44 : BitVec 32 := 0#32
  let v91 : BitVec 1 := Scalar.cmpi .sgt v57 c0_i32_44
  let v92 : BitVec 32 := Scalar.extui v91
  let c0_i32_45 : BitVec 32 := 0#32
  let v93 : BitVec 1 := Scalar.cmpi .slt v57 c0_i32_45
  let v94 : BitVec 32 := Scalar.extui v93
  let v95 : BitVec 32 := Scalar.subi v92 v94
  let c4_i32_43 : BitVec 32 := 4#32
  let c0_i32_46 : BitVec 32 := 0#32
  let v96 : BitVec 1 := Scalar.cmpi .sgt c4_i32_43 c0_i32_46
  let v97 : BitVec 32 := Scalar.extui v96
  let c0_i32_47 : BitVec 32 := 0#32
  let v98 : BitVec 1 := Scalar.cmpi .slt c4_i32_43 c0_i32_47
  let v99 : BitVec 32 := Scalar.extui v98
  let v100 : BitVec 32 := Scalar.subi v97 v99
  let v101 : BitVec 1 := Scalar.cmpi .ne v95 v100
  let v102 : BitVec 32 := Scalar.remsi v57 c4_i32_43
  let c0_i32_48 : BitVec 32 := 0#32
  let v103 : BitVec 1 := Scalar.cmpi .ne v102 c0_i32_48
  let v104 : BitVec 1 := Scalar.andi v101 v103
  let v90 : BitVec 32 := Scalar.divsi v57 c4_i32_43
  let c1_i32_49 : BitVec 32 := 1#32
  let v105 : BitVec 32 := Scalar.subi v90 c1_i32_49
  let v106 : BitVec 32 := Scalar.select v104 v105 v90
  let c4_i32_50 : BitVec 32 := 4#32
  let v107 : BitVec 32 := Scalar.muli v106 c4_i32_50
  let c0_i32_58 : BitVec 32 := 0#32
  let v124 : BitVec 32 := Scalar.addi v107 c0_i32_58
  let c1_i32_59 : BitVec 32 := 1#32
  let v125 : BitVec 32 := Scalar.addi v124 c1_i32_59
  let c512_i32_60 : BitVec 32 := 512#32
  let v126 : BitVec 32 := Scalar.muli v125 c512_i32_60
  v126
def k0_off20 (i : grid0.Coords) (c0_i32_58 : BitVec 32) : Fin 3 → Nat :=
  let c0_61 : Index := 0#32
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_44 : BitVec 32 := 0#32
  let v91 : BitVec 1 := Scalar.cmpi .sgt v57 c0_i32_44
  let v92 : BitVec 32 := Scalar.extui v91
  let c0_i32_45 : BitVec 32 := 0#32
  let v93 : BitVec 1 := Scalar.cmpi .slt v57 c0_i32_45
  let v94 : BitVec 32 := Scalar.extui v93
  let v95 : BitVec 32 := Scalar.subi v92 v94
  let c4_i32_43 : BitVec 32 := 4#32
  let c0_i32_46 : BitVec 32 := 0#32
  let v96 : BitVec 1 := Scalar.cmpi .sgt c4_i32_43 c0_i32_46
  let v97 : BitVec 32 := Scalar.extui v96
  let c0_i32_47 : BitVec 32 := 0#32
  let v98 : BitVec 1 := Scalar.cmpi .slt c4_i32_43 c0_i32_47
  let v99 : BitVec 32 := Scalar.extui v98
  let v100 : BitVec 32 := Scalar.subi v97 v99
  let v101 : BitVec 1 := Scalar.cmpi .ne v95 v100
  let v102 : BitVec 32 := Scalar.remsi v57 c4_i32_43
  let c0_i32_48 : BitVec 32 := 0#32
  let v103 : BitVec 1 := Scalar.cmpi .ne v102 c0_i32_48
  let v104 : BitVec 1 := Scalar.andi v101 v103
  let v90 : BitVec 32 := Scalar.divsi v57 c4_i32_43
  let c1_i32_49 : BitVec 32 := 1#32
  let v105 : BitVec 32 := Scalar.subi v90 c1_i32_49
  let v106 : BitVec 32 := Scalar.select v104 v105 v90
  let c4_i32_50 : BitVec 32 := 4#32
  let v107 : BitVec 32 := Scalar.muli v106 c4_i32_50
  let v124 : BitVec 32 := Scalar.addi v107 c0_i32_58
  let c1_i32_59 : BitVec 32 := 1#32
  let v125 : BitVec 32 := Scalar.addi v124 c1_i32_59
  let c512_i32_60 : BitVec 32 := 512#32
  let v126 : BitVec 32 := Scalar.muli v125 c512_i32_60
  let v127 : BitVec 32 := v126
  let v128 : Index := Scalar.indexCast v127
  let c0_62 : Index := 0#32
  ![0, v128.toNat, 0]
def k0_off21 (i : grid0.Coords) (c0_i32_72 : BitVec 32) : Fin 4 → Nat :=
  let c0_73 : Index := 0#32
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_44 : BitVec 32 := 0#32
  let v91 : BitVec 1 := Scalar.cmpi .sgt v57 c0_i32_44
  let v92 : BitVec 32 := Scalar.extui v91
  let c0_i32_45 : BitVec 32 := 0#32
  let v93 : BitVec 1 := Scalar.cmpi .slt v57 c0_i32_45
  let v94 : BitVec 32 := Scalar.extui v93
  let v95 : BitVec 32 := Scalar.subi v92 v94
  let c4_i32_43 : BitVec 32 := 4#32
  let c0_i32_46 : BitVec 32 := 0#32
  let v96 : BitVec 1 := Scalar.cmpi .sgt c4_i32_43 c0_i32_46
  let v97 : BitVec 32 := Scalar.extui v96
  let c0_i32_47 : BitVec 32 := 0#32
  let v98 : BitVec 1 := Scalar.cmpi .slt c4_i32_43 c0_i32_47
  let v99 : BitVec 32 := Scalar.extui v98
  let v100 : BitVec 32 := Scalar.subi v97 v99
  let v101 : BitVec 1 := Scalar.cmpi .ne v95 v100
  let v102 : BitVec 32 := Scalar.remsi v57 c4_i32_43
  let c0_i32_48 : BitVec 32 := 0#32
  let v103 : BitVec 1 := Scalar.cmpi .ne v102 c0_i32_48
  let v104 : BitVec 1 := Scalar.andi v101 v103
  let v90 : BitVec 32 := Scalar.divsi v57 c4_i32_43
  let c1_i32_49 : BitVec 32 := 1#32
  let v105 : BitVec 32 := Scalar.subi v90 c1_i32_49
  let v106 : BitVec 32 := Scalar.select v104 v105 v90
  let c4_i32_50 : BitVec 32 := 4#32
  let v107 : BitVec 32 := Scalar.muli v106 c4_i32_50
  let v139 : BitVec 32 := Scalar.addi v107 c0_i32_72
  let v140 : Index := Scalar.indexCast v139
  let c0_74 : Index := 0#32
  let c0_75 : Index := 0#32
  ![0, v140.toNat, 0, 0]
def k0_mult31 (i : grid0.Coords) : BitVec 32 :=
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_44 : BitVec 32 := 0#32
  let v91 : BitVec 1 := Scalar.cmpi .sgt v57 c0_i32_44
  let v92 : BitVec 32 := Scalar.extui v91
  let c0_i32_45 : BitVec 32 := 0#32
  let v93 : BitVec 1 := Scalar.cmpi .slt v57 c0_i32_45
  let v94 : BitVec 32 := Scalar.extui v93
  let v95 : BitVec 32 := Scalar.subi v92 v94
  let c4_i32_43 : BitVec 32 := 4#32
  let c0_i32_46 : BitVec 32 := 0#32
  let v96 : BitVec 1 := Scalar.cmpi .sgt c4_i32_43 c0_i32_46
  let v97 : BitVec 32 := Scalar.extui v96
  let c0_i32_47 : BitVec 32 := 0#32
  let v98 : BitVec 1 := Scalar.cmpi .slt c4_i32_43 c0_i32_47
  let v99 : BitVec 32 := Scalar.extui v98
  let v100 : BitVec 32 := Scalar.subi v97 v99
  let v101 : BitVec 1 := Scalar.cmpi .ne v95 v100
  let v102 : BitVec 32 := Scalar.remsi v57 c4_i32_43
  let c0_i32_48 : BitVec 32 := 0#32
  let v103 : BitVec 1 := Scalar.cmpi .ne v102 c0_i32_48
  let v104 : BitVec 1 := Scalar.andi v101 v103
  let v90 : BitVec 32 := Scalar.divsi v57 c4_i32_43
  let c1_i32_49 : BitVec 32 := 1#32
  let v105 : BitVec 32 := Scalar.subi v90 c1_i32_49
  let v106 : BitVec 32 := Scalar.select v104 v105 v90
  let c4_i32_50 : BitVec 32 := 4#32
  let v107 : BitVec 32 := Scalar.muli v106 c4_i32_50
  let c1_i32_86 : BitVec 32 := 1#32
  let v164 : BitVec 32 := Scalar.addi v107 c1_i32_86
  let c1_i32_87 : BitVec 32 := 1#32
  let v165 : BitVec 32 := Scalar.addi v164 c1_i32_87
  let c512_i32_88 : BitVec 32 := 512#32
  let v166 : BitVec 32 := Scalar.muli v165 c512_i32_88
  v166
def k0_cond9 (i : grid0.Coords) : BitVec 1 :=
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_44 : BitVec 32 := 0#32
  let v91 : BitVec 1 := Scalar.cmpi .sgt v57 c0_i32_44
  let v92 : BitVec 32 := Scalar.extui v91
  let c0_i32_45 : BitVec 32 := 0#32
  let v93 : BitVec 1 := Scalar.cmpi .slt v57 c0_i32_45
  let v94 : BitVec 32 := Scalar.extui v93
  let v95 : BitVec 32 := Scalar.subi v92 v94
  let c4_i32_43 : BitVec 32 := 4#32
  let c0_i32_46 : BitVec 32 := 0#32
  let v96 : BitVec 1 := Scalar.cmpi .sgt c4_i32_43 c0_i32_46
  let v97 : BitVec 32 := Scalar.extui v96
  let c0_i32_47 : BitVec 32 := 0#32
  let v98 : BitVec 1 := Scalar.cmpi .slt c4_i32_43 c0_i32_47
  let v99 : BitVec 32 := Scalar.extui v98
  let v100 : BitVec 32 := Scalar.subi v97 v99
  let v101 : BitVec 1 := Scalar.cmpi .ne v95 v100
  let v102 : BitVec 32 := Scalar.remsi v57 c4_i32_43
  let c0_i32_48 : BitVec 32 := 0#32
  let v103 : BitVec 1 := Scalar.cmpi .ne v102 c0_i32_48
  let v104 : BitVec 1 := Scalar.andi v101 v103
  let v90 : BitVec 32 := Scalar.divsi v57 c4_i32_43
  let c1_i32_49 : BitVec 32 := 1#32
  let v105 : BitVec 32 := Scalar.subi v90 c1_i32_49
  let v106 : BitVec 32 := Scalar.select v104 v105 v90
  let c4_i32_50 : BitVec 32 := 4#32
  let v107 : BitVec 32 := Scalar.muli v106 c4_i32_50
  let v116 : BitVec 32 := Scalar.subi v57 v107
  let c2_i32_55 : BitVec 32 := 2#32
  let v117 : BitVec 1 := Scalar.cmpi .eq v116 c2_i32_55
  let v118 : BitVec 32 := Scalar.extui v117
  let c0_i32_56 : BitVec 32 := 0#32
  let v119 : BitVec 1 := Scalar.cmpi .ne v118 c0_i32_56
  v119

def k0_mult32 (i : grid0.Coords) : BitVec 32 :=
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_44 : BitVec 32 := 0#32
  let v91 : BitVec 1 := Scalar.cmpi .sgt v57 c0_i32_44
  let v92 : BitVec 32 := Scalar.extui v91
  let c0_i32_45 : BitVec 32 := 0#32
  let v93 : BitVec 1 := Scalar.cmpi .slt v57 c0_i32_45
  let v94 : BitVec 32 := Scalar.extui v93
  let v95 : BitVec 32 := Scalar.subi v92 v94
  let c4_i32_43 : BitVec 32 := 4#32
  let c0_i32_46 : BitVec 32 := 0#32
  let v96 : BitVec 1 := Scalar.cmpi .sgt c4_i32_43 c0_i32_46
  let v97 : BitVec 32 := Scalar.extui v96
  let c0_i32_47 : BitVec 32 := 0#32
  let v98 : BitVec 1 := Scalar.cmpi .slt c4_i32_43 c0_i32_47
  let v99 : BitVec 32 := Scalar.extui v98
  let v100 : BitVec 32 := Scalar.subi v97 v99
  let v101 : BitVec 1 := Scalar.cmpi .ne v95 v100
  let v102 : BitVec 32 := Scalar.remsi v57 c4_i32_43
  let c0_i32_48 : BitVec 32 := 0#32
  let v103 : BitVec 1 := Scalar.cmpi .ne v102 c0_i32_48
  let v104 : BitVec 1 := Scalar.andi v101 v103
  let v90 : BitVec 32 := Scalar.divsi v57 c4_i32_43
  let c1_i32_49 : BitVec 32 := 1#32
  let v105 : BitVec 32 := Scalar.subi v90 c1_i32_49
  let v106 : BitVec 32 := Scalar.select v104 v105 v90
  let c4_i32_50 : BitVec 32 := 4#32
  let v107 : BitVec 32 := Scalar.muli v106 c4_i32_50
  let c0_i32_58 : BitVec 32 := 0#32
  let v124 : BitVec 32 := Scalar.addi v107 c0_i32_58
  let c1_i32_59 : BitVec 32 := 1#32
  let v125 : BitVec 32 := Scalar.addi v124 c1_i32_59
  let c512_i32_60 : BitVec 32 := 512#32
  let v126 : BitVec 32 := Scalar.muli v125 c512_i32_60
  v126
def k0_off22 (i : grid0.Coords) (c0_i32_58 : BitVec 32) : Fin 3 → Nat :=
  let c0_61 : Index := 0#32
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_44 : BitVec 32 := 0#32
  let v91 : BitVec 1 := Scalar.cmpi .sgt v57 c0_i32_44
  let v92 : BitVec 32 := Scalar.extui v91
  let c0_i32_45 : BitVec 32 := 0#32
  let v93 : BitVec 1 := Scalar.cmpi .slt v57 c0_i32_45
  let v94 : BitVec 32 := Scalar.extui v93
  let v95 : BitVec 32 := Scalar.subi v92 v94
  let c4_i32_43 : BitVec 32 := 4#32
  let c0_i32_46 : BitVec 32 := 0#32
  let v96 : BitVec 1 := Scalar.cmpi .sgt c4_i32_43 c0_i32_46
  let v97 : BitVec 32 := Scalar.extui v96
  let c0_i32_47 : BitVec 32 := 0#32
  let v98 : BitVec 1 := Scalar.cmpi .slt c4_i32_43 c0_i32_47
  let v99 : BitVec 32 := Scalar.extui v98
  let v100 : BitVec 32 := Scalar.subi v97 v99
  let v101 : BitVec 1 := Scalar.cmpi .ne v95 v100
  let v102 : BitVec 32 := Scalar.remsi v57 c4_i32_43
  let c0_i32_48 : BitVec 32 := 0#32
  let v103 : BitVec 1 := Scalar.cmpi .ne v102 c0_i32_48
  let v104 : BitVec 1 := Scalar.andi v101 v103
  let v90 : BitVec 32 := Scalar.divsi v57 c4_i32_43
  let c1_i32_49 : BitVec 32 := 1#32
  let v105 : BitVec 32 := Scalar.subi v90 c1_i32_49
  let v106 : BitVec 32 := Scalar.select v104 v105 v90
  let c4_i32_50 : BitVec 32 := 4#32
  let v107 : BitVec 32 := Scalar.muli v106 c4_i32_50
  let v124 : BitVec 32 := Scalar.addi v107 c0_i32_58
  let c1_i32_59 : BitVec 32 := 1#32
  let v125 : BitVec 32 := Scalar.addi v124 c1_i32_59
  let c512_i32_60 : BitVec 32 := 512#32
  let v126 : BitVec 32 := Scalar.muli v125 c512_i32_60
  let v127 : BitVec 32 := v126
  let v128 : Index := Scalar.indexCast v127
  let c0_62 : Index := 0#32
  ![0, v128.toNat, 0]
def k0_off23 (i : grid0.Coords) (c0_i32_72 : BitVec 32) : Fin 4 → Nat :=
  let c0_73 : Index := 0#32
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_44 : BitVec 32 := 0#32
  let v91 : BitVec 1 := Scalar.cmpi .sgt v57 c0_i32_44
  let v92 : BitVec 32 := Scalar.extui v91
  let c0_i32_45 : BitVec 32 := 0#32
  let v93 : BitVec 1 := Scalar.cmpi .slt v57 c0_i32_45
  let v94 : BitVec 32 := Scalar.extui v93
  let v95 : BitVec 32 := Scalar.subi v92 v94
  let c4_i32_43 : BitVec 32 := 4#32
  let c0_i32_46 : BitVec 32 := 0#32
  let v96 : BitVec 1 := Scalar.cmpi .sgt c4_i32_43 c0_i32_46
  let v97 : BitVec 32 := Scalar.extui v96
  let c0_i32_47 : BitVec 32 := 0#32
  let v98 : BitVec 1 := Scalar.cmpi .slt c4_i32_43 c0_i32_47
  let v99 : BitVec 32 := Scalar.extui v98
  let v100 : BitVec 32 := Scalar.subi v97 v99
  let v101 : BitVec 1 := Scalar.cmpi .ne v95 v100
  let v102 : BitVec 32 := Scalar.remsi v57 c4_i32_43
  let c0_i32_48 : BitVec 32 := 0#32
  let v103 : BitVec 1 := Scalar.cmpi .ne v102 c0_i32_48
  let v104 : BitVec 1 := Scalar.andi v101 v103
  let v90 : BitVec 32 := Scalar.divsi v57 c4_i32_43
  let c1_i32_49 : BitVec 32 := 1#32
  let v105 : BitVec 32 := Scalar.subi v90 c1_i32_49
  let v106 : BitVec 32 := Scalar.select v104 v105 v90
  let c4_i32_50 : BitVec 32 := 4#32
  let v107 : BitVec 32 := Scalar.muli v106 c4_i32_50
  let v139 : BitVec 32 := Scalar.addi v107 c0_i32_72
  let v140 : Index := Scalar.indexCast v139
  let c0_74 : Index := 0#32
  let c0_75 : Index := 0#32
  ![0, v140.toNat, 0, 0]
def k0_mult33 (i : grid0.Coords) : BitVec 32 :=
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_44 : BitVec 32 := 0#32
  let v91 : BitVec 1 := Scalar.cmpi .sgt v57 c0_i32_44
  let v92 : BitVec 32 := Scalar.extui v91
  let c0_i32_45 : BitVec 32 := 0#32
  let v93 : BitVec 1 := Scalar.cmpi .slt v57 c0_i32_45
  let v94 : BitVec 32 := Scalar.extui v93
  let v95 : BitVec 32 := Scalar.subi v92 v94
  let c4_i32_43 : BitVec 32 := 4#32
  let c0_i32_46 : BitVec 32 := 0#32
  let v96 : BitVec 1 := Scalar.cmpi .sgt c4_i32_43 c0_i32_46
  let v97 : BitVec 32 := Scalar.extui v96
  let c0_i32_47 : BitVec 32 := 0#32
  let v98 : BitVec 1 := Scalar.cmpi .slt c4_i32_43 c0_i32_47
  let v99 : BitVec 32 := Scalar.extui v98
  let v100 : BitVec 32 := Scalar.subi v97 v99
  let v101 : BitVec 1 := Scalar.cmpi .ne v95 v100
  let v102 : BitVec 32 := Scalar.remsi v57 c4_i32_43
  let c0_i32_48 : BitVec 32 := 0#32
  let v103 : BitVec 1 := Scalar.cmpi .ne v102 c0_i32_48
  let v104 : BitVec 1 := Scalar.andi v101 v103
  let v90 : BitVec 32 := Scalar.divsi v57 c4_i32_43
  let c1_i32_49 : BitVec 32 := 1#32
  let v105 : BitVec 32 := Scalar.subi v90 c1_i32_49
  let v106 : BitVec 32 := Scalar.select v104 v105 v90
  let c4_i32_50 : BitVec 32 := 4#32
  let v107 : BitVec 32 := Scalar.muli v106 c4_i32_50
  let c1_i32_86 : BitVec 32 := 1#32
  let v164 : BitVec 32 := Scalar.addi v107 c1_i32_86
  let c1_i32_87 : BitVec 32 := 1#32
  let v165 : BitVec 32 := Scalar.addi v164 c1_i32_87
  let c512_i32_88 : BitVec 32 := 512#32
  let v166 : BitVec 32 := Scalar.muli v165 c512_i32_88
  v166
def k0_mult34 (i : grid0.Coords) : BitVec 32 :=
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_44 : BitVec 32 := 0#32
  let v91 : BitVec 1 := Scalar.cmpi .sgt v57 c0_i32_44
  let v92 : BitVec 32 := Scalar.extui v91
  let c0_i32_45 : BitVec 32 := 0#32
  let v93 : BitVec 1 := Scalar.cmpi .slt v57 c0_i32_45
  let v94 : BitVec 32 := Scalar.extui v93
  let v95 : BitVec 32 := Scalar.subi v92 v94
  let c4_i32_43 : BitVec 32 := 4#32
  let c0_i32_46 : BitVec 32 := 0#32
  let v96 : BitVec 1 := Scalar.cmpi .sgt c4_i32_43 c0_i32_46
  let v97 : BitVec 32 := Scalar.extui v96
  let c0_i32_47 : BitVec 32 := 0#32
  let v98 : BitVec 1 := Scalar.cmpi .slt c4_i32_43 c0_i32_47
  let v99 : BitVec 32 := Scalar.extui v98
  let v100 : BitVec 32 := Scalar.subi v97 v99
  let v101 : BitVec 1 := Scalar.cmpi .ne v95 v100
  let v102 : BitVec 32 := Scalar.remsi v57 c4_i32_43
  let c0_i32_48 : BitVec 32 := 0#32
  let v103 : BitVec 1 := Scalar.cmpi .ne v102 c0_i32_48
  let v104 : BitVec 1 := Scalar.andi v101 v103
  let v90 : BitVec 32 := Scalar.divsi v57 c4_i32_43
  let c1_i32_49 : BitVec 32 := 1#32
  let v105 : BitVec 32 := Scalar.subi v90 c1_i32_49
  let v106 : BitVec 32 := Scalar.select v104 v105 v90
  let c4_i32_50 : BitVec 32 := 4#32
  let v107 : BitVec 32 := Scalar.muli v106 c4_i32_50
  let c2_i32_114 : BitVec 32 := 2#32
  let v204 : BitVec 32 := Scalar.addi v107 c2_i32_114
  let c1_i32_115 : BitVec 32 := 1#32
  let v205 : BitVec 32 := Scalar.addi v204 c1_i32_115
  let c512_i32_116 : BitVec 32 := 512#32
  let v206 : BitVec 32 := Scalar.muli v205 c512_i32_116
  v206
def k0_cond10 (i : grid0.Coords) : BitVec 1 :=
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_44 : BitVec 32 := 0#32
  let v91 : BitVec 1 := Scalar.cmpi .sgt v57 c0_i32_44
  let v92 : BitVec 32 := Scalar.extui v91
  let c0_i32_45 : BitVec 32 := 0#32
  let v93 : BitVec 1 := Scalar.cmpi .slt v57 c0_i32_45
  let v94 : BitVec 32 := Scalar.extui v93
  let v95 : BitVec 32 := Scalar.subi v92 v94
  let c4_i32_43 : BitVec 32 := 4#32
  let c0_i32_46 : BitVec 32 := 0#32
  let v96 : BitVec 1 := Scalar.cmpi .sgt c4_i32_43 c0_i32_46
  let v97 : BitVec 32 := Scalar.extui v96
  let c0_i32_47 : BitVec 32 := 0#32
  let v98 : BitVec 1 := Scalar.cmpi .slt c4_i32_43 c0_i32_47
  let v99 : BitVec 32 := Scalar.extui v98
  let v100 : BitVec 32 := Scalar.subi v97 v99
  let v101 : BitVec 1 := Scalar.cmpi .ne v95 v100
  let v102 : BitVec 32 := Scalar.remsi v57 c4_i32_43
  let c0_i32_48 : BitVec 32 := 0#32
  let v103 : BitVec 1 := Scalar.cmpi .ne v102 c0_i32_48
  let v104 : BitVec 1 := Scalar.andi v101 v103
  let v90 : BitVec 32 := Scalar.divsi v57 c4_i32_43
  let c1_i32_49 : BitVec 32 := 1#32
  let v105 : BitVec 32 := Scalar.subi v90 c1_i32_49
  let v106 : BitVec 32 := Scalar.select v104 v105 v90
  let c4_i32_50 : BitVec 32 := 4#32
  let v107 : BitVec 32 := Scalar.muli v106 c4_i32_50
  let v120 : BitVec 32 := Scalar.subi v57 v107
  let c3_i32 : BitVec 32 := 3#32
  let v121 : BitVec 1 := Scalar.cmpi .eq v120 c3_i32
  let v122 : BitVec 32 := Scalar.extui v121
  let c0_i32_57 : BitVec 32 := 0#32
  let v123 : BitVec 1 := Scalar.cmpi .ne v122 c0_i32_57
  v123

def k0_mult35 (i : grid0.Coords) : BitVec 32 :=
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_44 : BitVec 32 := 0#32
  let v91 : BitVec 1 := Scalar.cmpi .sgt v57 c0_i32_44
  let v92 : BitVec 32 := Scalar.extui v91
  let c0_i32_45 : BitVec 32 := 0#32
  let v93 : BitVec 1 := Scalar.cmpi .slt v57 c0_i32_45
  let v94 : BitVec 32 := Scalar.extui v93
  let v95 : BitVec 32 := Scalar.subi v92 v94
  let c4_i32_43 : BitVec 32 := 4#32
  let c0_i32_46 : BitVec 32 := 0#32
  let v96 : BitVec 1 := Scalar.cmpi .sgt c4_i32_43 c0_i32_46
  let v97 : BitVec 32 := Scalar.extui v96
  let c0_i32_47 : BitVec 32 := 0#32
  let v98 : BitVec 1 := Scalar.cmpi .slt c4_i32_43 c0_i32_47
  let v99 : BitVec 32 := Scalar.extui v98
  let v100 : BitVec 32 := Scalar.subi v97 v99
  let v101 : BitVec 1 := Scalar.cmpi .ne v95 v100
  let v102 : BitVec 32 := Scalar.remsi v57 c4_i32_43
  let c0_i32_48 : BitVec 32 := 0#32
  let v103 : BitVec 1 := Scalar.cmpi .ne v102 c0_i32_48
  let v104 : BitVec 1 := Scalar.andi v101 v103
  let v90 : BitVec 32 := Scalar.divsi v57 c4_i32_43
  let c1_i32_49 : BitVec 32 := 1#32
  let v105 : BitVec 32 := Scalar.subi v90 c1_i32_49
  let v106 : BitVec 32 := Scalar.select v104 v105 v90
  let c4_i32_50 : BitVec 32 := 4#32
  let v107 : BitVec 32 := Scalar.muli v106 c4_i32_50
  let c0_i32_58 : BitVec 32 := 0#32
  let v124 : BitVec 32 := Scalar.addi v107 c0_i32_58
  let c1_i32_59 : BitVec 32 := 1#32
  let v125 : BitVec 32 := Scalar.addi v124 c1_i32_59
  let c512_i32_60 : BitVec 32 := 512#32
  let v126 : BitVec 32 := Scalar.muli v125 c512_i32_60
  v126
def k0_off24 (i : grid0.Coords) (c0_i32_58 : BitVec 32) : Fin 3 → Nat :=
  let c0_61 : Index := 0#32
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_44 : BitVec 32 := 0#32
  let v91 : BitVec 1 := Scalar.cmpi .sgt v57 c0_i32_44
  let v92 : BitVec 32 := Scalar.extui v91
  let c0_i32_45 : BitVec 32 := 0#32
  let v93 : BitVec 1 := Scalar.cmpi .slt v57 c0_i32_45
  let v94 : BitVec 32 := Scalar.extui v93
  let v95 : BitVec 32 := Scalar.subi v92 v94
  let c4_i32_43 : BitVec 32 := 4#32
  let c0_i32_46 : BitVec 32 := 0#32
  let v96 : BitVec 1 := Scalar.cmpi .sgt c4_i32_43 c0_i32_46
  let v97 : BitVec 32 := Scalar.extui v96
  let c0_i32_47 : BitVec 32 := 0#32
  let v98 : BitVec 1 := Scalar.cmpi .slt c4_i32_43 c0_i32_47
  let v99 : BitVec 32 := Scalar.extui v98
  let v100 : BitVec 32 := Scalar.subi v97 v99
  let v101 : BitVec 1 := Scalar.cmpi .ne v95 v100
  let v102 : BitVec 32 := Scalar.remsi v57 c4_i32_43
  let c0_i32_48 : BitVec 32 := 0#32
  let v103 : BitVec 1 := Scalar.cmpi .ne v102 c0_i32_48
  let v104 : BitVec 1 := Scalar.andi v101 v103
  let v90 : BitVec 32 := Scalar.divsi v57 c4_i32_43
  let c1_i32_49 : BitVec 32 := 1#32
  let v105 : BitVec 32 := Scalar.subi v90 c1_i32_49
  let v106 : BitVec 32 := Scalar.select v104 v105 v90
  let c4_i32_50 : BitVec 32 := 4#32
  let v107 : BitVec 32 := Scalar.muli v106 c4_i32_50
  let v124 : BitVec 32 := Scalar.addi v107 c0_i32_58
  let c1_i32_59 : BitVec 32 := 1#32
  let v125 : BitVec 32 := Scalar.addi v124 c1_i32_59
  let c512_i32_60 : BitVec 32 := 512#32
  let v126 : BitVec 32 := Scalar.muli v125 c512_i32_60
  let v127 : BitVec 32 := v126
  let v128 : Index := Scalar.indexCast v127
  let c0_62 : Index := 0#32
  ![0, v128.toNat, 0]
def k0_off25 (i : grid0.Coords) (c0_i32_72 : BitVec 32) : Fin 4 → Nat :=
  let c0_73 : Index := 0#32
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_44 : BitVec 32 := 0#32
  let v91 : BitVec 1 := Scalar.cmpi .sgt v57 c0_i32_44
  let v92 : BitVec 32 := Scalar.extui v91
  let c0_i32_45 : BitVec 32 := 0#32
  let v93 : BitVec 1 := Scalar.cmpi .slt v57 c0_i32_45
  let v94 : BitVec 32 := Scalar.extui v93
  let v95 : BitVec 32 := Scalar.subi v92 v94
  let c4_i32_43 : BitVec 32 := 4#32
  let c0_i32_46 : BitVec 32 := 0#32
  let v96 : BitVec 1 := Scalar.cmpi .sgt c4_i32_43 c0_i32_46
  let v97 : BitVec 32 := Scalar.extui v96
  let c0_i32_47 : BitVec 32 := 0#32
  let v98 : BitVec 1 := Scalar.cmpi .slt c4_i32_43 c0_i32_47
  let v99 : BitVec 32 := Scalar.extui v98
  let v100 : BitVec 32 := Scalar.subi v97 v99
  let v101 : BitVec 1 := Scalar.cmpi .ne v95 v100
  let v102 : BitVec 32 := Scalar.remsi v57 c4_i32_43
  let c0_i32_48 : BitVec 32 := 0#32
  let v103 : BitVec 1 := Scalar.cmpi .ne v102 c0_i32_48
  let v104 : BitVec 1 := Scalar.andi v101 v103
  let v90 : BitVec 32 := Scalar.divsi v57 c4_i32_43
  let c1_i32_49 : BitVec 32 := 1#32
  let v105 : BitVec 32 := Scalar.subi v90 c1_i32_49
  let v106 : BitVec 32 := Scalar.select v104 v105 v90
  let c4_i32_50 : BitVec 32 := 4#32
  let v107 : BitVec 32 := Scalar.muli v106 c4_i32_50
  let v139 : BitVec 32 := Scalar.addi v107 c0_i32_72
  let v140 : Index := Scalar.indexCast v139
  let c0_74 : Index := 0#32
  let c0_75 : Index := 0#32
  ![0, v140.toNat, 0, 0]
def k0_mult36 (i : grid0.Coords) : BitVec 32 :=
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_44 : BitVec 32 := 0#32
  let v91 : BitVec 1 := Scalar.cmpi .sgt v57 c0_i32_44
  let v92 : BitVec 32 := Scalar.extui v91
  let c0_i32_45 : BitVec 32 := 0#32
  let v93 : BitVec 1 := Scalar.cmpi .slt v57 c0_i32_45
  let v94 : BitVec 32 := Scalar.extui v93
  let v95 : BitVec 32 := Scalar.subi v92 v94
  let c4_i32_43 : BitVec 32 := 4#32
  let c0_i32_46 : BitVec 32 := 0#32
  let v96 : BitVec 1 := Scalar.cmpi .sgt c4_i32_43 c0_i32_46
  let v97 : BitVec 32 := Scalar.extui v96
  let c0_i32_47 : BitVec 32 := 0#32
  let v98 : BitVec 1 := Scalar.cmpi .slt c4_i32_43 c0_i32_47
  let v99 : BitVec 32 := Scalar.extui v98
  let v100 : BitVec 32 := Scalar.subi v97 v99
  let v101 : BitVec 1 := Scalar.cmpi .ne v95 v100
  let v102 : BitVec 32 := Scalar.remsi v57 c4_i32_43
  let c0_i32_48 : BitVec 32 := 0#32
  let v103 : BitVec 1 := Scalar.cmpi .ne v102 c0_i32_48
  let v104 : BitVec 1 := Scalar.andi v101 v103
  let v90 : BitVec 32 := Scalar.divsi v57 c4_i32_43
  let c1_i32_49 : BitVec 32 := 1#32
  let v105 : BitVec 32 := Scalar.subi v90 c1_i32_49
  let v106 : BitVec 32 := Scalar.select v104 v105 v90
  let c4_i32_50 : BitVec 32 := 4#32
  let v107 : BitVec 32 := Scalar.muli v106 c4_i32_50
  let c1_i32_86 : BitVec 32 := 1#32
  let v164 : BitVec 32 := Scalar.addi v107 c1_i32_86
  let c1_i32_87 : BitVec 32 := 1#32
  let v165 : BitVec 32 := Scalar.addi v164 c1_i32_87
  let c512_i32_88 : BitVec 32 := 512#32
  let v166 : BitVec 32 := Scalar.muli v165 c512_i32_88
  v166
def k0_mult37 (i : grid0.Coords) : BitVec 32 :=
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_44 : BitVec 32 := 0#32
  let v91 : BitVec 1 := Scalar.cmpi .sgt v57 c0_i32_44
  let v92 : BitVec 32 := Scalar.extui v91
  let c0_i32_45 : BitVec 32 := 0#32
  let v93 : BitVec 1 := Scalar.cmpi .slt v57 c0_i32_45
  let v94 : BitVec 32 := Scalar.extui v93
  let v95 : BitVec 32 := Scalar.subi v92 v94
  let c4_i32_43 : BitVec 32 := 4#32
  let c0_i32_46 : BitVec 32 := 0#32
  let v96 : BitVec 1 := Scalar.cmpi .sgt c4_i32_43 c0_i32_46
  let v97 : BitVec 32 := Scalar.extui v96
  let c0_i32_47 : BitVec 32 := 0#32
  let v98 : BitVec 1 := Scalar.cmpi .slt c4_i32_43 c0_i32_47
  let v99 : BitVec 32 := Scalar.extui v98
  let v100 : BitVec 32 := Scalar.subi v97 v99
  let v101 : BitVec 1 := Scalar.cmpi .ne v95 v100
  let v102 : BitVec 32 := Scalar.remsi v57 c4_i32_43
  let c0_i32_48 : BitVec 32 := 0#32
  let v103 : BitVec 1 := Scalar.cmpi .ne v102 c0_i32_48
  let v104 : BitVec 1 := Scalar.andi v101 v103
  let v90 : BitVec 32 := Scalar.divsi v57 c4_i32_43
  let c1_i32_49 : BitVec 32 := 1#32
  let v105 : BitVec 32 := Scalar.subi v90 c1_i32_49
  let v106 : BitVec 32 := Scalar.select v104 v105 v90
  let c4_i32_50 : BitVec 32 := 4#32
  let v107 : BitVec 32 := Scalar.muli v106 c4_i32_50
  let c2_i32_114 : BitVec 32 := 2#32
  let v204 : BitVec 32 := Scalar.addi v107 c2_i32_114
  let c1_i32_115 : BitVec 32 := 1#32
  let v205 : BitVec 32 := Scalar.addi v204 c1_i32_115
  let c512_i32_116 : BitVec 32 := 512#32
  let v206 : BitVec 32 := Scalar.muli v205 c512_i32_116
  v206
def k0_mult38 (i : grid0.Coords) : BitVec 32 :=
  let arg2 : BitVec 32 := BitVec.ofNat 32 (i 2).val
  let c1024_i32 : BitVec 32 := 1024#32
  let v40 : BitVec 32 := Scalar.muli arg2 c1024_i32
  let c0_i32_17 : BitVec 32 := 0#32
  let v42 : BitVec 1 := Scalar.cmpi .sgt v40 c0_i32_17
  let v43 : BitVec 32 := Scalar.extui v42
  let c0_i32_18 : BitVec 32 := 0#32
  let v44 : BitVec 1 := Scalar.cmpi .slt v40 c0_i32_18
  let v45 : BitVec 32 := Scalar.extui v44
  let v46 : BitVec 32 := Scalar.subi v43 v45
  let c512_i32 : BitVec 32 := 512#32
  let c0_i32_19 : BitVec 32 := 0#32
  let v47 : BitVec 1 := Scalar.cmpi .sgt c512_i32 c0_i32_19
  let v48 : BitVec 32 := Scalar.extui v47
  let c0_i32_20 : BitVec 32 := 0#32
  let v49 : BitVec 1 := Scalar.cmpi .slt c512_i32 c0_i32_20
  let v50 : BitVec 32 := Scalar.extui v49
  let v51 : BitVec 32 := Scalar.subi v48 v50
  let v52 : BitVec 1 := Scalar.cmpi .ne v46 v51
  let v53 : BitVec 32 := Scalar.remsi v40 c512_i32
  let c0_i32_21 : BitVec 32 := 0#32
  let v54 : BitVec 1 := Scalar.cmpi .ne v53 c0_i32_21
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c0_i32_44 : BitVec 32 := 0#32
  let v91 : BitVec 1 := Scalar.cmpi .sgt v57 c0_i32_44
  let v92 : BitVec 32 := Scalar.extui v91
  let c0_i32_45 : BitVec 32 := 0#32
  let v93 : BitVec 1 := Scalar.cmpi .slt v57 c0_i32_45
  let v94 : BitVec 32 := Scalar.extui v93
  let v95 : BitVec 32 := Scalar.subi v92 v94
  let c4_i32_43 : BitVec 32 := 4#32
  let c0_i32_46 : BitVec 32 := 0#32
  let v96 : BitVec 1 := Scalar.cmpi .sgt c4_i32_43 c0_i32_46
  let v97 : BitVec 32 := Scalar.extui v96
  let c0_i32_47 : BitVec 32 := 0#32
  let v98 : BitVec 1 := Scalar.cmpi .slt c4_i32_43 c0_i32_47
  let v99 : BitVec 32 := Scalar.extui v98
  let v100 : BitVec 32 := Scalar.subi v97 v99
  let v101 : BitVec 1 := Scalar.cmpi .ne v95 v100
  let v102 : BitVec 32 := Scalar.remsi v57 c4_i32_43
  let c0_i32_48 : BitVec 32 := 0#32
  let v103 : BitVec 1 := Scalar.cmpi .ne v102 c0_i32_48
  let v104 : BitVec 1 := Scalar.andi v101 v103
  let v90 : BitVec 32 := Scalar.divsi v57 c4_i32_43
  let c1_i32_49 : BitVec 32 := 1#32
  let v105 : BitVec 32 := Scalar.subi v90 c1_i32_49
  let v106 : BitVec 32 := Scalar.select v104 v105 v90
  let c4_i32_50 : BitVec 32 := 4#32
  let v107 : BitVec 32 := Scalar.muli v106 c4_i32_50
  let c3_i32_142 : BitVec 32 := 3#32
  let v244 : BitVec 32 := Scalar.addi v107 c3_i32_142
  let c1_i32_143 : BitVec 32 := 1#32
  let v245 : BitVec 32 := Scalar.addi v244 c1_i32_143
  let c512_i32_144 : BitVec 32 := 512#32
  let v246 : BitVec 32 := Scalar.muli v245 c512_i32_144
  v246
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x80x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "minus_inf" => some ⊥
  | _ => none
-- ==== ReferenceIdeal.lean ====
abbrev S2x8192x8x96 : Shape := ⟨4, ![2, 8192, 8, 96]⟩
abbrev S2x8192x8x64 : Shape := ⟨4, ![2, 8192, 8, 64]⟩
abbrev S8192 : Shape := ⟨1, ![8192]⟩
abbrev S2x8x8192x8192 : Shape := ⟨4, ![2, 8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S2x8x8192 : Shape := ⟨3, ![2, 8, 8192]⟩
abbrev S2x8x8192x1 : Shape := ⟨4, ![2, 8, 8192, 1]⟩
abbrev S2x8x64x8192 : Shape := ⟨4, ![2, 8, 64, 8192]⟩
abbrev S8x64x2x8192 : Shape := ⟨4, ![8, 64, 2, 8192]⟩
abbrev S512x16384 : Shape := ⟨2, ![512, 16384]⟩

abbrev nBuf : Space → Nat
  | .hbm => 42
  | .vmem => 0
  | .smem => 0
  | _ => 0

abbrev bufTy : (tb : Table) → Fin (tcTables nBuf tb) → BufTy
  | .hbm, ⟨0, _⟩ => ⟨S2x8192x8x96, .f32⟩
  | .hbm, ⟨1, _⟩ => ⟨S2x8192x8x96, .f32⟩
  | .hbm, ⟨2, _⟩ => ⟨S2x8192x8x64, .f32⟩
  | .hbm, ⟨3, _⟩ => ⟨S8192, .i32⟩
  | .hbm, ⟨4, _⟩ => ⟨S2x8x8192x8192, .f32⟩
  | .hbm, ⟨5, _⟩ => ⟨S_, .f32⟩
  | .hbm, ⟨6, _⟩ => ⟨S_, .f32⟩
  | .hbm, ⟨7, _⟩ => ⟨S2x8x8192x8192, .f32⟩
  | .hbm, ⟨8, _⟩ => ⟨S2x8x8192x8192, .f32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S2x8x8192x8192, .i1⟩
  | .hbm, ⟨17, _⟩ => ⟨S2x8x8192x8192, .f32⟩
  | .hbm, ⟨18, _⟩ => ⟨S2x8x8192x8192, .f32⟩
  | .hbm, ⟨19, _⟩ => ⟨S_, .f32⟩
  | .hbm, ⟨20, _⟩ => ⟨S2x8x8192, .f32⟩
  | .hbm, ⟨21, _⟩ => ⟨S_, .f32⟩
  | .hbm, ⟨22, _⟩ => ⟨S2x8x8192, .f32⟩
  | .hbm, ⟨23, _⟩ => ⟨S2x8x8192, .f32⟩
  | .hbm, ⟨24, _⟩ => ⟨S2x8x8192x1, .f32⟩
  | .hbm, ⟨25, _⟩ => ⟨S2x8x8192x8192, .f32⟩
  | .hbm, ⟨26, _⟩ => ⟨S2x8x8192x8192, .f32⟩
  | .hbm, ⟨27, _⟩ => ⟨S2x8x8192x8192, .f32⟩
  | .hbm, ⟨28, _⟩ => ⟨S_, .f32⟩
  | .hbm, ⟨29, _⟩ => ⟨S2x8x8192, .f32⟩
  | .hbm, ⟨30, _⟩ => ⟨S2x8x8192x1, .f32⟩
  | .hbm, ⟨31, _⟩ => ⟨S2x8x8192x8192, .f32⟩
  | .hbm, ⟨32, _⟩ => ⟨S2x8x8192x8192, .f32⟩
  | .hbm, ⟨33, _⟩ => ⟨S_, .f32⟩
  | .hbm, ⟨34, _⟩ => ⟨S_, .f32⟩
  | .hbm, ⟨35, _⟩ => ⟨S2x8x8192x8192, .i1⟩
  | .hbm, ⟨36, _⟩ => ⟨S2x8x8192x8192, .f32⟩
  | .hbm, ⟨37, _⟩ => ⟨S2x8x8192x8192, .f32⟩
  | .hbm, ⟨38, _⟩ => ⟨S2x8x64x8192, .f32⟩
  | .hbm, ⟨39, _⟩ => ⟨S2x8192x8x64, .f32⟩
  | .hbm, ⟨40, _⟩ => ⟨S8x64x2x8192, .f32⟩
  | .hbm, ⟨41, _⟩ => ⟨S512x16384, .f32⟩
  | _, _ => ⟨S2x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel2.lean ====
abbrev S2x8192x8x64 : Shape := ⟨4, ![2, 8192, 8, 64]⟩
abbrev S2x8192x8x3 : Shape := ⟨4, ![2, 8192, 8, 3]⟩
abbrev S2x8192x1024 : Shape := ⟨3, ![2, 8192, 1024]⟩
abbrev S512 : Shape := ⟨1, ![512]⟩
abbrev S1024x1024 : Shape := ⟨2, ![1024, 1024]⟩
abbrev S1024 : Shape := ⟨1, ![1024]⟩
abbrev S8x3x2x8192 : Shape := ⟨4, ![8, 3, 2, 8192]⟩
abbrev S24x16384 : Shape := ⟨2, ![24, 16384]⟩
abbrev S_ : Shape := ⟨0, ![]⟩
abbrev S8x16384 : Shape := ⟨2, ![8, 16384]⟩
abbrev S32x16384 : Shape := ⟨2, ![32, 16384]⟩
abbrev S8x64x2x8192 : Shape := ⟨4, ![8, 64, 2, 8192]⟩
abbrev S512x16384 : Shape := ⟨2, ![512, 16384]⟩
abbrev S16384x1024 : Shape := ⟨2, ![16384, 1024]⟩
abbrev S512x1 : Shape := ⟨2, ![512, 1]⟩
abbrev S1024x1 : Shape := ⟨2, ![1024, 1]⟩
abbrev S1024x16384 : Shape := ⟨2, ![1024, 16384]⟩
abbrev S512x512 : Shape := ⟨2, ![512, 512]⟩
abbrev S32x512 : Shape := ⟨2, ![32, 512]⟩
abbrev S512x1024 : Shape := ⟨2, ![512, 1024]⟩
abbrev S1024x512 : Shape := ⟨2, ![1024, 512]⟩
abbrev S1x512 : Shape := ⟨2, ![1, 512]⟩
abbrev S64x512 : Shape := ⟨2, ![64, 512]⟩

abbrev nBuf : Space → Nat
  | .hbm => 31
  | .vmem => 20
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x8x64, .f32⟩
  | .hbm, ⟨2, _⟩ => ⟨S2x8192x8x64, .f32⟩
  | .hbm, ⟨3, _⟩ => ⟨S2x8192x8x3, .f32⟩
  | .hbm, ⟨4, _⟩ => ⟨S2x8192x8x64, .f32⟩
  | .hbm, ⟨5, _⟩ => ⟨S2x8192x1024, .f32⟩
  | .hbm, ⟨6, _⟩ => ⟨S512, .f32⟩
  | .hbm, ⟨7, _⟩ => ⟨S512, .f32⟩
  | .hbm, ⟨8, _⟩ => ⟨S1024x1024, .f32⟩
  | .hbm, ⟨9, _⟩ => ⟨S1024, .f32⟩
  | .hbm, ⟨10, _⟩ => ⟨S8x3x2x8192, .f32⟩
  | .hbm, ⟨11, _⟩ => ⟨S24x16384, .f32⟩
  | .hbm, ⟨12, _⟩ => ⟨S_, .f32⟩
  | .hbm, ⟨13, _⟩ => ⟨S8x16384, .f32⟩
  | .hbm, ⟨14, _⟩ => ⟨S32x16384, .f32⟩
  | .hbm, ⟨15, _⟩ => ⟨S8x64x2x8192, .f32⟩
  | .hbm, ⟨16, _⟩ => ⟨S512x16384, .f32⟩
  | .hbm, ⟨17, _⟩ => ⟨S8x64x2x8192, .f32⟩
  | .hbm, ⟨18, _⟩ => ⟨S512x16384, .f32⟩
  | .hbm, ⟨19, _⟩ => ⟨S8x64x2x8192, .f32⟩
  | .hbm, ⟨20, _⟩ => ⟨S512x16384, .f32⟩
  | .hbm, ⟨21, _⟩ => ⟨S8x64x2x8192, .f32⟩
  | .hbm, ⟨22, _⟩ => ⟨S512x16384, .f32⟩
  | .hbm, ⟨23, _⟩ => ⟨S16384x1024, .f32⟩
  | .hbm, ⟨24, _⟩ => ⟨S512x1, .f32⟩
  | .hbm, ⟨25, _⟩ => ⟨S512x1, .f32⟩
  | .hbm, ⟨26, _⟩ => ⟨S1024x1024, .f32⟩
  | .hbm, ⟨27, _⟩ => ⟨S1024x1024, .bf16⟩
  | .hbm, ⟨28, _⟩ => ⟨S1024x1, .f32⟩
  | .hbm, ⟨29, _⟩ => ⟨S1024x16384, .f32⟩
  | .hbm, ⟨30, _⟩ => ⟨S1024x16384, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S32x512, .f32⟩
  | .local _ .vmem, ⟨7, _⟩ => ⟨S32x512, .f32⟩
  | .local _ .vmem, ⟨8, _⟩ => ⟨S512x512, .f32⟩
  | .local _ .vmem, ⟨9, _⟩ => ⟨S512x512, .f32⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | .local _ .vmem, ⟨14, _⟩ => ⟨S1024x1024, .bf16⟩
  | .local _ .vmem, ⟨15, _⟩ => ⟨S1024x1, .f32⟩
  | .local _ .vmem, ⟨16, _⟩ => ⟨S1024x512, .f32⟩
  | .local _ .vmem, ⟨17, _⟩ => ⟨S1024x512, .f32⟩
  | .local _ .vmem, ⟨18, _⟩ => ⟨S1024x512, .bf16⟩
  | .local _ .vmem, ⟨19, _⟩ => ⟨S1024x512, .bf16⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S2x8192x8x64 : Shape := ⟨4, ![2, 8192, 8, 64]⟩
abbrev S2x8192x8x3 : Shape := ⟨4, ![2, 8192, 8, 3]⟩
abbrev S2x8192x1024 : Shape := ⟨3, ![2, 8192, 1024]⟩
abbrev S512 : Shape := ⟨1, ![512]⟩
abbrev S1024x1024 : Shape := ⟨2, ![1024, 1024]⟩
abbrev S1024 : Shape := ⟨1, ![1024]⟩
abbrev S2x8192x8x1 : Shape := ⟨4, ![2, 8192, 8, 1]⟩
abbrev S2x8192x512 : Shape := ⟨3, ![2, 8192, 512]⟩
abbrev S_ : Shape := ⟨0, ![]⟩
abbrev S2x8192 : Shape := ⟨2, ![2, 8192]⟩
abbrev S2x8192x1 : Shape := ⟨3, ![2, 8192, 1]⟩
abbrev S1x1x512 : Shape := ⟨3, ![1, 1, 512]⟩
abbrev S16384x1024 : Shape := ⟨2, ![16384, 1024]⟩
abbrev S1024x16384 : Shape := ⟨2, ![1024, 16384]⟩
abbrev S1x1x1024 : Shape := ⟨3, ![1, 1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x8x64, .f32⟩
  | .hbm, ⟨2, _⟩ => ⟨S2x8192x8x64, .f32⟩
  | .hbm, ⟨3, _⟩ => ⟨S2x8192x8x3, .f32⟩
  | .hbm, ⟨4, _⟩ => ⟨S2x8192x8x64, .f32⟩
  | .hbm, ⟨5, _⟩ => ⟨S2x8192x1024, .f32⟩
  | .hbm, ⟨6, _⟩ => ⟨S512, .f32⟩
  | .hbm, ⟨7, _⟩ => ⟨S512, .f32⟩
  | .hbm, ⟨8, _⟩ => ⟨S1024x1024, .f32⟩
  | .hbm, ⟨9, _⟩ => ⟨S1024, .f32⟩
  | .hbm, ⟨10, _⟩ => ⟨S2x8192x8x1, .f32⟩
  | .hbm, ⟨11, _⟩ => ⟨S2x8192x8x64, .f32⟩
  | .hbm, ⟨12, _⟩ => ⟨S2x8192x8x64, .f32⟩
  | .hbm, ⟨13, _⟩ => ⟨S2x8192x8x1, .f32⟩
  | .hbm, ⟨14, _⟩ => ⟨S2x8192x8x64, .f32⟩
  | .hbm, ⟨15, _⟩ => ⟨S2x8192x8x64, .f32⟩
  | .hbm, ⟨16, _⟩ => ⟨S2x8192x8x64, .f32⟩
  | .hbm, ⟨17, _⟩ => ⟨S2x8192x8x1, .f32⟩
  | .hbm, ⟨18, _⟩ => ⟨S2x8192x8x64, .f32⟩
  | .hbm, ⟨19, _⟩ => ⟨S2x8192x8x64, .f32⟩
  | .hbm, ⟨20, _⟩ => ⟨S2x8192x8x64, .f32⟩
  | .hbm, ⟨21, _⟩ => ⟨S2x8192x512, .f32⟩
  | .hbm, ⟨22, _⟩ => ⟨S2x8192x512, .f32⟩
  | .hbm, ⟨23, _⟩ => ⟨S2x8192x512, .f32⟩
  | .hbm, ⟨24, _⟩ => ⟨S_, .f32⟩
  | .hbm, ⟨25, _⟩ => ⟨S2x8192, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S2x8192x1, .f32⟩
  | .hbm, ⟨34, _⟩ => ⟨S2x8192x512, .f32⟩
  | .hbm, ⟨35, _⟩ => ⟨S2x8192x512, .f32⟩
  | .hbm, ⟨36, _⟩ => ⟨S1x1x512, .f32⟩
  | .hbm, ⟨37, _⟩ => ⟨S2x8192x512, .f32⟩
  | .hbm, ⟨38, _⟩ => ⟨S2x8192x512, .f32⟩
  | .hbm, ⟨39, _⟩ => ⟨S2x8192x512, .f32⟩
  | .hbm, ⟨40, _⟩ => ⟨S_, .f32⟩
  | .hbm, ⟨41, _⟩ => ⟨S2x8192, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S2x8192x1, .f32⟩
  | .hbm, ⟨50, _⟩ => ⟨S2x8192x512, .f32⟩
  | .hbm, ⟨51, _⟩ => ⟨S2x8192x512, .f32⟩
  | .hbm, ⟨52, _⟩ => ⟨S1x1x512, .f32⟩
  | .hbm, ⟨53, _⟩ => ⟨S2x8192x512, .f32⟩
  | .hbm, ⟨54, _⟩ => ⟨S2x8192x512, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | .hbm, ⟨58, _⟩ => ⟨S16384x1024, .f32⟩
  | .hbm, ⟨59, _⟩ => ⟨S1024x16384, .f32⟩
  | .hbm, ⟨60, _⟩ => ⟨S2x8192x1024, .f32⟩
  | .hbm, ⟨61, _⟩ => ⟨S_, .f32⟩
  | .hbm, ⟨62, _⟩ => ⟨S2x8192, .f32⟩
  | .hbm, ⟨63, _⟩ => ⟨S2x8192x1, .f32⟩
  | .hbm, ⟨64, _⟩ => ⟨S_, .f32⟩
  | .hbm, ⟨65, _⟩ => ⟨S2x8192x1, .f32⟩
  | .hbm, ⟨66, _⟩ => ⟨S2x8192x1, .f32⟩
  | .hbm, ⟨67, _⟩ => ⟨S_, .f32⟩
  | .hbm, ⟨68, _⟩ => ⟨S2x8192x1, .f32⟩
  | .hbm, ⟨69, _⟩ => ⟨S2x8192x1, .f32⟩
  | .hbm, ⟨70, _⟩ => ⟨S2x8192x1, .f32⟩
  | .hbm, ⟨71, _⟩ => ⟨S2x8192x1024, .f32⟩
  | .hbm, ⟨72, _⟩ => ⟨S2x8192x1024, .f32⟩
  | .hbm, ⟨73, _⟩ => ⟨S1x1x1024, .f32⟩
  | .hbm, ⟨74, _⟩ => ⟨S2x8192x1024, .f32⟩
  | .hbm, ⟨75, _⟩ => ⟨S2x8192x1024, .f32⟩
  | .hbm, ⟨76, _⟩ => ⟨S16384x1024, .f32⟩
  | .hbm, ⟨77, _⟩ => ⟨S1024x16384, .f32⟩
  | .hbm, ⟨78, _⟩ => ⟨S1024x16384, .bf16⟩
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== Kernel3.lean ====
abbrev S1024x16384 : Shape := ⟨2, ![1024, 16384]⟩
abbrev S16384x1024 : Shape := ⟨2, ![16384, 1024]⟩
abbrev S8x128x16384 : Shape := ⟨3, ![8, 128, 16384]⟩
abbrev S1024x512 : Shape := ⟨2, ![1024, 512]⟩
abbrev S2048x1024 : Shape := ⟨2, ![2048, 1024]⟩
abbrev S1024x2048 : Shape := ⟨2, ![1024, 2048]⟩
abbrev S8x16x512 : Shape := ⟨3, ![8, 16, 512]⟩
abbrev S8x128x512 : Shape := ⟨3, ![8, 128, 512]⟩
abbrev S512x1024 : Shape := ⟨2, ![512, 1024]⟩
abbrev S128x1024 : Shape := ⟨2, ![128, 1024]⟩
abbrev S128x512 : Shape := ⟨2, ![128, 512]⟩
abbrev S1x128x512 : Shape := ⟨3, ![1, 128, 512]⟩
abbrev S1x1x512 : Shape := ⟨3, ![1, 1, 512]⟩
abbrev S1x512 : Shape := ⟨2, ![1, 512]⟩
abbrev S2048x512 : Shape := ⟨2, ![2048, 512]⟩

abbrev nBuf : Space → Nat
  | .hbm => 12
  | .vmem => 19
  | .smem => 0
  | _ => 0

abbrev bufTy : (tb : Table) → Fin (tcTables nBuf tb) → BufTy
  | .hbm, ⟨0, _⟩ => ⟨S1024x16384, .bf16⟩
  | .hbm, ⟨1, _⟩ => ⟨S1024x16384, .f32⟩
  | .hbm, ⟨2, _⟩ => ⟨S16384x1024, .f32⟩
  | .hbm, ⟨3, _⟩ => ⟨S16384x1024, .f32⟩
  | .hbm, ⟨4, _⟩ => ⟨S8x128x16384, .bf16⟩
  | .hbm, ⟨5, _⟩ => ⟨S8x128x16384, .bf16⟩
  | .hbm, ⟨6, _⟩ => ⟨S8x128x16384, .bf16⟩
  | .hbm, ⟨7, _⟩ => ⟨S8x128x16384, .bf16⟩
  | .hbm, ⟨8, _⟩ => ⟨S16384x1024, .bf16⟩
  | .hbm, ⟨9, _⟩ => ⟨S1024x16384, .f32⟩
  | .hbm, ⟨10, _⟩ => ⟨S1024x16384, .bf16⟩
  | .hbm, ⟨11, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S8x16x512, .bf16⟩
  | .local _ .vmem, ⟨9, _⟩ => ⟨S8x16x512, .bf16⟩
  | .local _ .vmem, ⟨10, _⟩ => ⟨S8x16x512, .bf16⟩
  | .local _ .vmem, ⟨11, _⟩ => ⟨S8x16x512, .bf16⟩
  | .local _ .vmem, ⟨12, _⟩ => ⟨S8x128x512, .bf16⟩
  | .local _ .vmem, ⟨13, _⟩ => ⟨S8x128x512, .bf16⟩
  | .local _ .vmem, ⟨14, _⟩ => ⟨S8x128x512, .bf16⟩
  | .local _ .vmem, ⟨15, _⟩ => ⟨S8x128x512, .bf16⟩
  | .local _ .vmem, ⟨16, _⟩ => ⟨S512x1024, .f32⟩
  | .local _ .vmem, ⟨17, _⟩ => ⟨S512x1024, .f32⟩
  | .local _ .vmem, ⟨18, _⟩ => ⟨S1024x512, .f32⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v2413 : BitVec 1 := Scalar.cmpi .eq arg1 c7_i32
  let v2414 : BitVec 32 := Scalar.extui v2413
  let c0_i32_1738 : BitVec 32 := 0#32
  let v2415 : BitVec 1 := Scalar.cmpi .ne v2414 c0_i32_1738
  v2415

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Kernel3Ideal.lean ====
variable {F : FTy → Type} [FloatOps F] [Named F]
def κ : String → Option EReal := fun
  | "gelu_1" => some ((-((2 * (6693141 / 8388608)) * (Real.log 2)⁻¹) : ℝ) : EReal)
  | "gelu_3" => some (((-((2 * (6693141 / 8388608)) * (Real.log 2)⁻¹)) * (12003091 / 268435456) : ℝ) : EReal)
  | _ => none
-- ==== Reference3Ideal.lean ====
abbrev S1024x16384 : Shape := ⟨2, ![1024, 16384]⟩
abbrev S16384x1024 : Shape := ⟨2, ![16384, 1024]⟩
abbrev S8x128x16384 : Shape := ⟨3, ![8, 128, 16384]⟩
abbrev S8x1x128x16384 : Shape := ⟨4, ![8, 1, 128, 16384]⟩
abbrev S8x128x1x16384 : Shape := ⟨4, ![8, 128, 1, 16384]⟩
abbrev S8x128x128x16384 : Shape := ⟨4, ![8, 128, 128, 16384]⟩
abbrev S_ : Shape := ⟨0, ![]⟩
abbrev S128x128x16384 : Shape := ⟨3, ![128, 128, 16384]⟩
abbrev S16384x16384 : Shape := ⟨2, ![16384, 16384]⟩

abbrev nBuf : Space → Nat
  | .hbm => 52
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S1024x16384, .f32⟩
  | .hbm, ⟨2, _⟩ => ⟨S16384x1024, .f32⟩
  | .hbm, ⟨3, _⟩ => ⟨S16384x1024, .f32⟩
  | .hbm, ⟨4, _⟩ => ⟨S8x128x16384, .bf16⟩
  | .hbm, ⟨5, _⟩ => ⟨S8x128x16384, .bf16⟩
  | .hbm, ⟨6, _⟩ => ⟨S8x128x16384, .bf16⟩
  | .hbm, ⟨7, _⟩ => ⟨S8x128x16384, .bf16⟩
  | .hbm, ⟨8, _⟩ => ⟨S8x128x16384, .f32⟩
  | .hbm, ⟨9, _⟩ => ⟨S8x128x16384, .f32⟩
  | .hbm, ⟨10, _⟩ => ⟨S8x128x16384, .f32⟩
  | .hbm, ⟨11, _⟩ => ⟨S8x128x16384, .f32⟩
  | .hbm, ⟨12, _⟩ => ⟨S8x1x128x16384, .f32⟩
  | .hbm, ⟨13, _⟩ => ⟨S8x128x1x16384, .f32⟩
  | .hbm, ⟨14, _⟩ => ⟨S8x128x128x16384, .f32⟩
  | .hbm, ⟨15, _⟩ => ⟨S8x128x128x16384, .f32⟩
  | .hbm, ⟨16, _⟩ => ⟨S8x128x128x16384, .i1⟩
  | .hbm, ⟨17, _⟩ => ⟨S8x128x1x16384, .f32⟩
  | .hbm, ⟨18, _⟩ => ⟨S8x1x128x16384, .f32⟩
  | .hbm, ⟨19, _⟩ => ⟨S8x128x128x16384, .f32⟩
  | .hbm, ⟨20, _⟩ => ⟨S8x128x128x16384, .f32⟩
  | .hbm, ⟨21, _⟩ => ⟨S8x128x128x16384, .f32⟩
  | .hbm, ⟨22, _⟩ => ⟨S_, .f32⟩
  | .hbm, ⟨23, _⟩ => ⟨S_, .f32⟩
  | .hbm, ⟨24, _⟩ => ⟨S8x128x128x16384, .f32⟩
  | .hbm, ⟨25, _⟩ => ⟨S8x128x128x16384, .f32⟩
  | .hbm, ⟨26, _⟩ => ⟨S_, .f32⟩
  | .hbm, ⟨27, _⟩ => ⟨S128x128x16384, .f32⟩
  | .hbm, ⟨28, _⟩ => ⟨S16384x16384, .f32⟩
  | .hbm, ⟨29, _⟩ => ⟨S1024x16384, .f32⟩
  | .hbm, ⟨30, _⟩ => ⟨S16384x16384, .f32⟩
  | .hbm, ⟨31, _⟩ => ⟨S16384x16384, .f32⟩
  | .hbm, ⟨32, _⟩ => ⟨S16384x16384, .f32⟩
  | .hbm, ⟨33, _⟩ => ⟨S_, .f32⟩
  | .hbm, ⟨34, _⟩ => ⟨S16384x16384, .f32⟩
  | .hbm, ⟨35, _⟩ => ⟨S16384x16384, .f32⟩
  | .hbm, ⟨36, _⟩ => ⟨S16384x16384, .f32⟩
  | .hbm, ⟨37, _⟩ => ⟨S_, .f32⟩
  | .hbm, ⟨38, _⟩ => ⟨S16384x16384, .f32⟩
  | .hbm, ⟨39, _⟩ => ⟨S16384x16384, .f32⟩
  | .hbm, ⟨40, _⟩ => ⟨S16384x16384, .f32⟩
  | .hbm, ⟨41, _⟩ => ⟨S_, .f32⟩
  | .hbm, ⟨42, _⟩ => ⟨S16384x16384, .f32⟩
  | .hbm, ⟨43, _⟩ => ⟨S16384x16384, .f32⟩
  | .hbm, ⟨44, _⟩ => ⟨S_, .f32⟩
  | .hbm, ⟨45, _⟩ => ⟨S16384x16384, .f32⟩
  | .hbm, ⟨46, _⟩ => ⟨S16384x16384, .f32⟩
  | .hbm, ⟨47, _⟩ => ⟨S16384x16384, .f32⟩
  | .hbm, ⟨48, _⟩ => ⟨S16384x16384, .f32⟩
  | .hbm, ⟨49, _⟩ => ⟨S16384x1024, .f32⟩
  | .hbm, ⟨50, _⟩ => ⟨S16384x1024, .f32⟩
  | .hbm, ⟨51, _⟩ => ⟨S16384x1024, .f32⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Proof.BodyI.Tiles.lean ====
/- What the attention kernel computes at one grid point, as plain functions of its blocks: the scores of one tile
   of keys, the causal mask of a tile, one step of the accumulation in its two forms (against a fixed bound, and
   against a running maximum), the accumulation over the first tiles, and the result.  No memory here. -/
module

public import proofs.«01_k».proof.Proof.Gen.KernelIdeal.Skeleton
public import Idealize.ShloMosaic.Lib.Pointwise.Index

@[expose] public section

noncomputable section

namespace Cert.KernelIdeal.Body

open Idealize.ShloMosaic Idealize.ShloMosaic.TcCoe
open Cert.KernelIdeal.Gen

variable {F : FTy → Type} [FloatOps F] [Named F]

/-- Tile `j` of the keys: rows `512 j … 512 j + 511`. -/
def kTile (x : FVec F S1x8192x128 .bf16) (j : ℕ) : FVec F S1x512x128 .bf16 :=
  fun y => x (ix3 0 ⟨(512 * j + (y 1).val) % 8192, Nat.mod_lt _ (by decide)⟩ (y 2))

/-- Tile `j` of the values. -/
def vTile (x : FVec F S1x16x80x512 .bf16) (j : ℕ) : FVec F S1x1x80x512 .bf16 :=
  fun y => x (ix4 0 ⟨j % 16, Nat.mod_lt _ (by decide)⟩ (y 2) (y 3))

/-- The scores of a tile of keys against the queries: one matrix product. -/
def score (k : FVec F S1x512x128 .bf16) (q : FVec F S1x128x1024 .bf16) : FVec F S512x1024 .f32 :=
  matmul dot_S512x128_S128x1024_S512x1024_1_0_0_1_n_n none (shapeCast S512x128 k shapeCasts_S1x512x128_S512x128)
    (shapeCast S128x1024 q shapeCasts_S1x128x1024_S128x1024) (constant S512x1024 .f32 0x00000000#32)

/-- A tile of scores as a slot of the score buffer holds it. -/
def slot (s : FVec F S512x1024 .f32) : FVec F S1x512x1024 .f32 := shapeCast S1x512x1024 s shapeCasts_S512x1024_S1x512x1024

/-- A slot of the score buffer as a tile of scores. -/
def unslot (s : FVec F S1x512x1024 .f32) : FVec F S512x1024 .f32 := shapeCast S512x1024 s shapeCasts_S1x512x1024_S512x1024

/-- The causal mask of tile `kt` for the query block `qt`: where the key comes after the query, minus infinity. -/
def mask (qt kt : BitVec 32) (s : FVec F S512x1024 .f32) : FVec F S512x1024 .f32 :=
  select (cmpi .sle (addi (broadcast S512x1024 (Scalar.muli kt 512#32)) (iota .tc S512x1024 32 [0] iota_S512x1024_d0_w32))
      (addi (broadcast S512x1024 (Scalar.muli qt 1024#32)) (iota .tc S512x1024 32 [1] iota_S512x1024_d1_w32)))
    s (broadcast S512x1024 (Named.named κ "minus_inf" 0xF149F2CA#32 : F .f32))

/-- The values of a tile weighted by `exp2 (s - m)` and summed over the tile's keys. -/
def weigh (m : FVec F S1x1024 .f32) (s : FVec F S512x1024 .f32) (v : FVec F S1x1x80x512 .bf16) : FVec F S80x1024 .f32 :=
  matmul dot_S80x512_S512x1024_S80x1024_1_0_0_1_n_n none (shapeCast S80x512 v shapeCasts_S1x1x80x512_S80x512)
    (truncf .bf16 (exp2 (subf s (broadcastTo S512x1024 m broadcasts_S1x1024_S512x1024))) bitsLt_bf16_f32)
    (constant S80x1024 .f32 0x00000000#32)

/-- One step of the accumulation against a fixed bound `m`. -/
def addTile (m : FVec F S1x1024 .f32) (s : FVec F S512x1024 .f32) (v : FVec F S1x1x80x512 .bf16) (a : FVec F S80x1024 .f32) :
    FVec F S80x1024 .f32 := addf a (weigh m s v)

/-- The running maximum after a tile. -/
def newMax (m : FVec F S1x1024 .f32) (s : FVec F S512x1024 .f32) : FVec F S1x1024 .f32 :=
  maximumf m (shapeCast S1x1024 (multiReduction .maximumf [0] S1024 s 0xFF800000#32 reduces_S512x1024_S1024 (.inl rfl) rfl) shapeCasts_S1024_S1x1024)

/-- One step of the accumulation against the running maximum: what was accumulated is scaled to the new maximum. -/
def scaleTile (m : FVec F S1x1024 .f32) (s : FVec F S512x1024 .f32) (v : FVec F S1x1x80x512 .bf16) (a : FVec F S80x1024 .f32) :
    FVec F S80x1024 .f32 :=
  addf (mulf (broadcastTo S80x1024 (exp2 (subf m (newMax m s))) broadcasts_S1x1024_S80x1024) a) (weigh (newMax m s) s v)

/-- The accumulation against a fixed bound over the first tiles. -/
def accB (m : FVec F S1x1024 .f32) (s : ℕ → FVec F S512x1024 .f32) (v : ℕ → FVec F S1x1x80x512 .bf16) : ℕ → FVec F S80x1024 .f32
  | 0 => k0_pay177 (F := F)
  | j + 1 => addTile m (s j) (v j) (accB m s v j)

/-- The running maximum over the first tiles, from minus infinity. -/
def maxO (s : ℕ → FVec F S512x1024 .f32) : ℕ → FVec F S1x1024 .f32
  | 0 => k0_pay164 (F := F)
  | j + 1 => newMax (maxO s j) (s j)

/-- The accumulation against the running maximum over the first tiles. -/
def accO (s : ℕ → FVec F S512x1024 .f32) (v : ℕ → FVec F S1x1x80x512 .bf16) : ℕ → FVec F S80x1024 .f32
  | 0 => k0_pay177 (F := F)
  | j + 1 => scaleTile (maxO s j) (s j) (v j) (accO s v j)

/-- The scores of tile `j` for query block `n`: masked in the last two tiles of the block, the tiles `2 n` and
    `2 n + 1`; the tiles before come whole before every query of the block. -/
def tileScore (n : ℕ) (q : FVec F S1x128x1024 .bf16) (k : FVec F S1x8192x128 .bf16) (j : ℕ) : FVec F S512x1024 .f32 :=
  if j < 2 * n then score (kTile k j) q else mask (BitVec.ofNat 32 n) (BitVec.ofNat 32 j) (score (kTile k j) q)

theorem tileScore_lt {n j : ℕ} (q : FVec F S1x128x1024 .bf16) (k : FVec F S1x8192x128 .bf16) (h : j < 2 * n) :
    tileScore n q k j = score (kTile k j) q := if_pos h

theorem tileScore_ge {n j : ℕ} (q : FVec F S1x128x1024 .bf16) (k : FVec F S1x8192x128 .bf16) (h : ¬ j < 2 * n) :
    tileScore n q k j = mask (BitVec.ofNat 32 n) (BitVec.ofNat 32 j) (score (kTile k j) q) := if_neg h

/-- Whether the bound of the block's logits is small enough to weigh against it. -/
def small (q : FVec F S1x128x1024 .bf16) (w : F .f32) : BitVec 1 :=
  Scalar.cmpf .ole (k0_pay178 q w) (Scalar.ofBits .f32 0x42600000#32)

/-- What the kernel writes at query block `n`: the weighted values divided by the sum of the weights (the row of
    ones), by the bound where it is small and by the running maximum elsewhere. -/
def result (n : ℕ) (w : F .f32) (q : FVec F S1x128x1024 .bf16) (k : FVec F S1x8192x128 .bf16) (v : FVec F S1x16x80x512 .bf16) :
    FVec F S64x1024 .f32 :=
  k0_pay192 (if small q w = 1#1 then accB (k0_pay176 q w) (tileScore n q k) (vTile v) (2 * n + 2)
    else accO (tileScore n q k) (vTile v) (2 * n + 2))

end Cert.KernelIdeal.Body
-- ==== Proof.BodyI.Reads.lean ====
/- What the kernel's loads read: a tile of the keys or of the values, a whole buffer, a slot just stored. -/
module

public import proofs.«01_k».proof.Proof.BodyI.Tiles
public import Idealize.ShloMosaic.Lib.Exec
public import Idealize.ShloMosaic.Lib.Tactic
public import Idealize.ShloMosaic.Lib.VecWindow
public import Idealize.ShloMosaic.Lib.WritesUnit
public import Idealize.ShloMosaic.Lib.Pipeline.Value
public import Idealize.ShloMosaic.Lib.Pipeline.ReadBack

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

/-- A load of 512 rows of the keys from row `512 j` reads tile `j`. -/
theorem read_k (m : Memref sig .tc .vmem S1x8192x128 .bf16) (f : BufTy.Contents (Elt F) m.view.ty) {off : Fin 3 → ℕ} {j : ℕ}
    (h : ∀ a, off a + S1x512x128.size a ≤ S1x8192x128.size a) (e : off = ![0, 512 * j, 0]) :
    m.view.readAt (Elt F) (Rect.unit (s := S1x8192x128) off S1x512x128.size h).toLoadRect f = kTile (m.view.read (Elt F) f) j := by
  subst e
  funext y
  refine congrArg (m.view.read (Elt F) f) (funext fun a => Fin.ext ?_)
  have h1 : (y 1).val < 512 := (y 1).isLt
  have h0 : (y 0).val < 1 := (y 0).isLt
  have hj := h 1
  match a with
  | ⟨0, _⟩ => show 0 + 1 * (y 0).val = 0; omega
  | ⟨1, _⟩ => show 512 * j + 1 * (y 1).val = (512 * j + (y 1).val) % 8192; change 512 * j + 512 ≤ 8192 at hj; omega
  | ⟨2, _⟩ => show 0 + 1 * (y 2).val = (y 2).val; omega

/-- A load of one block of the values at block `j` reads tile `j`. -/
theorem read_v (m : Memref sig .tc .vmem S1x16x80x512 .bf16) (f : BufTy.Contents (Elt F) m.view.ty) {off : Fin 4 → ℕ} {j : ℕ}
    (h : ∀ a, off a + S1x1x80x512.size a ≤ S1x16x80x512.size a) (e : off = ![0, j, 0, 0]) :
    m.view.readAt (Elt F) (Rect.unit (s := S1x16x80x512) off S1x1x80x512.size h).toLoadRect f = vTile (m.view.read (Elt F) f) j := by
  subst e
  funext y
  refine congrArg (m.view.read (Elt F) f) (funext fun a => Fin.ext ?_)
  have h0 : (y 0).val < 1 := (y 0).isLt
  have h1 : (y 1).val < 1 := (y 1).isLt
  have hj := h 1
  match a with
  | ⟨0, _⟩ => show 0 + 1 * (y 0).val = 0; omega
  | ⟨1, _⟩ => show j + 1 * (y 1).val = j % 16; change j + 1 ≤ 16 at hj; omega
  | ⟨2, _⟩ => show 0 + 1 * (y 2).val = (y 2).val; omega
  | ⟨3, _⟩ => show 0 + 1 * (y 3).val = (y 3).val; omega

/-- What a load through the rectangle last stored to reads: the vector stored. -/
theorem readAt_last {κ : Kind} {sp : Space} {s : Shape} {e : EltTy} (v : View sig κ sp s e) (f : v.ty.Contents (Elt F)) (r : Rect s)
    (w : r.shape.Idx → Elt F e) (L : List (View.Piece (Elt F) s e)) :
    v.readAt (Elt F) r.toLoadRect (v.writes (Elt F) f (⟨r, w⟩ :: L)) = w :=
  funext fun x => View.read_writes_cons_emb (Val := Elt F) (v := v) (f := f) r w L x

/-! A load of a whole buffer reads the buffer. -/

theorem read_all4 (m : Memref sig .tc .vmem S1x128x1024 .bf16) (f : BufTy.Contents (Elt F) m.view.ty) (h : ∀ a, ![0, 0, 0] a + S1x128x1024.size a ≤ S1x128x1024.size a) :
    m.view.readAt (Elt F) (Rect.unit (s := S1x128x1024) ![0, 0, 0] S1x128x1024.size h).toLoadRect f = m.view.read (Elt F) f := View.readAt_full _ _ _

theorem read_all9 (m : Memref sig .tc .vmem S1x1024 .f32) (f : BufTy.Contents (Elt F) m.view.ty) (h : ∀ a, ![0, 0] a + S1x1024.size a ≤ S1x1024.size a) :
    m.view.readAt (Elt F) (Rect.unit (s := S1x1024) ![0, 0] S1x1024.size h).toLoadRect f = m.view.read (Elt F) f := View.readAt_full _ _ _

theorem read_all10 (m : Memref sig .tc .vmem S80x1024 .f32) (f : BufTy.Contents (Elt F) m.view.ty) (h : ∀ a, ![0, 0] a + S80x1024.size a ≤ S80x1024.size a) :
    m.view.readAt (Elt F) (Rect.unit (s := S80x1024) ![0, 0] S80x1024.size h).toLoadRect f = m.view.read (Elt F) f := View.readAt_full _ _ _

/-- A store of the whole accumulator leaves what was stored. -/
theorem read_set10 (m : Memref sig .tc .vmem S80x1024 .f32) (f : BufTy.Contents (Elt F) m.view.ty) (h : ∀ a, ![0, 0] a + S80x1024.size a ≤ S80x1024.size a)
    (w : FVec F S80x1024 .f32) (L : List (View.Piece (Elt F) S80x1024 .f32)) :
    m.view.read (Elt F) (m.view.writes (Elt F) f (⟨Rect.unit (s := S80x1024) ![0, 0] S80x1024.size h, w⟩ :: L)) = w :=
  View.read_writes_full _ _ _ _ _

/-- A store of the whole running maximum leaves what was stored. -/
theorem read_set9 (m : Memref sig .tc .vmem S1x1024 .f32) (f : BufTy.Contents (Elt F) m.view.ty) (h : ∀ a, ![0, 0] a + S1x1024.size a ≤ S1x1024.size a)
    (w : FVec F S1x1024 .f32) (L : List (View.Piece (Elt F) S1x1024 .f32)) :
    m.view.read (Elt F) (m.view.writes (Elt F) f (⟨Rect.unit (s := S1x1024) ![0, 0] S1x1024.size h, w⟩ :: L)) = w :=
  View.read_writes_full _ _ _ _ _

/-- A store of the whole output block leaves what was stored. -/
theorem read_set7 (m : Memref sig .tc .vmem S64x1024 .f32) (f : BufTy.Contents (Elt F) m.view.ty) (h : ∀ a, ![0, 0] a + S64x1024.size a ≤ S64x1024.size a)
    (w : FVec F S64x1024 .f32) (L : List (View.Piece (Elt F) S64x1024 .f32)) :
    m.view.read (Elt F) (m.view.writes (Elt F) f (⟨Rect.unit (s := S64x1024) ![0, 0] S64x1024.size h, w⟩ :: L)) = w :=
  View.read_writes_full _ _ _ _ _

/-- A tile stored in a slot and loaded back. -/
theorem shapeCast_back (s : FVec F S512x1024 .f32) :
    shapeCast S512x1024 (shapeCast S1x512x1024 s shapeCasts_S512x1024_S1x512x1024) shapeCasts_S1x512x1024_S512x1024 = s :=
  shapeCast_shapeCast _ _ _

/-- The score buffer's slot `0`. -/
def slot0 (m : Memref sig .tc .vmem S4x512x1024 .f32) (f : BufTy.Contents (Elt F) m.view.ty) : FVec F S1x512x1024 .f32 :=
  m.view.readAt (Elt F) (Rect.unit (s := S4x512x1024) ![0, 0, 0] S1x512x1024.size (by decide)).toLoadRect f

end Cert.KernelIdeal.Body
-- ==== Proof.BodyI.Offsets.lean ====
/- Where the kernel's loads start and which of its branches run, in closed form: the query block's number decides
   the trip count of each loop, the remainder after the loop, and every row offset. -/
module

public import proofs.«01_k».proof.Proof.Gen.KernelIdeal

@[expose] public section

noncomputable section

namespace Cert.KernelIdeal.Body

open Idealize.ShloMosaic Idealize.ShloMosaic.TcCoe
open Cert.KernelIdeal.Gen

theorem trips1 : ∀ i : grid0.Coords, (k0_t1_loop i).trips = (i 2).val / 2 := by decide +kernel
theorem trips2 : ∀ i : grid0.Coords, (k0_t2_loop i).trips = 0 := by decide +kernel
theorem trips3 : ∀ i : grid0.Coords, (k0_t3_loop i).trips = (i 2).val / 2 := by decide +kernel
theorem trips4 : ∀ i : grid0.Coords, (k0_t4_loop i).trips = 0 := by decide +kernel

theorem off2 : ∀ (i : grid0.Coords) (k : Fin (k0_t1_loop i).trips) (u : Fin 4),
    k0_off2 i k (BitVec.ofNat 32 u.val) = ![0, 512 * (4 * k.val + u.val + 1), 0] := by decide +kernel
theorem off3 : ∀ (i : grid0.Coords) (k : Fin (k0_t1_loop i).trips) (u : Fin 4),
    k0_off3 i k (BitVec.ofNat 32 u.val) = ![0, 4 * k.val + u.val, 0, 0] := by decide +kernel
theorem off14 : ∀ (i : grid0.Coords) (k : Fin (k0_t3_loop i).trips) (u : Fin 4),
    k0_off14 i k (BitVec.ofNat 32 u.val) = ![0, 512 * (4 * k.val + u.val + 1), 0] := by decide +kernel
theorem off15 : ∀ (i : grid0.Coords) (k : Fin (k0_t3_loop i).trips) (u : Fin 4),
    k0_off15 i k (BitVec.ofNat 32 u.val) = ![0, 4 * k.val + u.val, 0, 0] := by decide +kernel

theorem cond2 : ∀ i : grid0.Coords, k0_cond2 i = if (i 2).val % 2 = 0 then 1#1 else 0#1 := by decide +kernel
theorem cond3 : ∀ i : grid0.Coords, ¬ k0_cond3 i = 1#1 := by decide +kernel
theorem cond4 : ∀ i : grid0.Coords, k0_cond4 i = if (i 2).val % 2 = 0 then 0#1 else 1#1 := by decide +kernel
theorem cond5 : ∀ i : grid0.Coords, ¬ k0_cond5 i = 1#1 := by decide +kernel
theorem cond7 : ∀ i : grid0.Coords, k0_cond7 i = if (i 2).val % 2 = 0 then 1#1 else 0#1 := by decide +kernel
theorem cond8 : ∀ i : grid0.Coords, ¬ k0_cond8 i = 1#1 := by decide +kernel
theorem cond9 : ∀ i : grid0.Coords, k0_cond9 i = if (i 2).val % 2 = 0 then 0#1 else 1#1 := by decide +kernel
theorem cond10 : ∀ i : grid0.Coords, ¬ k0_cond10 i = 1#1 := by decide +kernel

theorem off6 : ∀ i : grid0.Coords, (i 2).val % 2 = 0 → k0_off6 i = ![0, 512 * (2 * (i 2).val + 1), 0] := by decide +kernel
theorem off7 : ∀ (i : grid0.Coords) (u : Fin 2), (i 2).val % 2 = 0 →
    k0_off7 i (BitVec.ofNat 32 u.val) = ![0, 2 * (i 2).val + u.val, 0, 0] := by decide +kernel
theorem off10 : ∀ (i : grid0.Coords) (u : Fin 3), (i 2).val % 2 = 1 →
    k0_off10 i (BitVec.ofNat 32 u.val) = ![0, 512 * (2 * (i 2).val - 2 + u.val + 1), 0] := by decide +kernel
theorem off11 : ∀ (i : grid0.Coords) (u : Fin 4), (i 2).val % 2 = 1 →
    k0_off11 i (BitVec.ofNat 32 u.val) = ![0, 2 * (i 2).val - 2 + u.val, 0, 0] := by decide +kernel
theorem off18 : ∀ i : grid0.Coords, (i 2).val % 2 = 0 → k0_off18 i = ![0, 512 * (2 * (i 2).val + 1), 0] := by decide +kernel
theorem off19 : ∀ (i : grid0.Coords) (u : Fin 2), (i 2).val % 2 = 0 →
    k0_off19 i (BitVec.ofNat 32 u.val) = ![0, 2 * (i 2).val + u.val, 0, 0] := by decide +kernel
theorem off22 : ∀ (i : grid0.Coords) (u : Fin 3), (i 2).val % 2 = 1 →
    k0_off22 i (BitVec.ofNat 32 u.val) = ![0, 512 * (2 * (i 2).val - 2 + u.val + 1), 0] := by decide +kernel
theorem off23 : ∀ (i : grid0.Coords) (u : Fin 4), (i 2).val % 2 = 1 →
    k0_off23 i (BitVec.ofNat 32 u.val) = ![0, 2 * (i 2).val - 2 + u.val, 0, 0] := by decide +kernel

end Cert.KernelIdeal.Body
-- ==== Proof.BodyI.Trip1.lean ====
/- One trip of the kernel's loop over whole tiles, against a fixed bound. -/
module

public import proofs.«01_k».proof.Proof.Gen.KernelIdeal.Frame
public import proofs.«01_k».proof.Proof.BodyI.Reads
public import proofs.«01_k».proof.Proof.BodyI.Offsets
public import Idealize.ShloMosaic.Lib.Exec
public import Idealize.ShloMosaic.Lib.Tactic
public import Idealize.ShloMosaic.Lib.VecWindow
public import Idealize.ShloMosaic.Lib.WritesUnit
public import Idealize.ShloMosaic.Lib.Pipeline.Value
public import Idealize.ShloMosaic.Lib.Pipeline.ReadBack

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

/-- The accumulator after one trip of the loop against a fixed bound: the tile in slot `0`, then three more. -/
def four1 (m : FVec F S1x1024 .f32) (q : FVec F S1x128x1024 .bf16) (k : FVec F S1x8192x128 .bf16) (v : FVec F S1x16x80x512 .bf16) (t : ℕ)
    (s : FVec F S1x512x1024 .f32) (a : FVec F S80x1024 .f32) : FVec F S80x1024 .f32 :=
  addTile m (score (kTile k (4 * t + 3)) q) (vTile v (4 * t + 3))
    (addTile m (score (kTile k (4 * t + 2)) q) (vTile v (4 * t + 2))
      (addTile m (score (kTile k (4 * t + 1)) q) (vTile v (4 * t + 1))
        (addTile m (unslot s) (vTile v (4 * t)) a)))

variable (𝒱 : Variants) (c : Dev nD) (bd : Option 𝒱.V) (E : Set ℕ) (i : grid0.Coords)
  (arg3 : Memref sig .tc .smem S16 .f32) (harg3 : arg3.IsWhole)
  (arg4 : Memref sig .tc .vmem S1x128x1024 .bf16) (harg4 : arg4.IsWhole)
  (arg5 : Memref sig .tc .vmem S1x8192x128 .bf16) (harg5 : arg5.IsWhole)
  (arg6 : Memref sig .tc .vmem S1x16x80x512 .bf16) (harg6 : arg6.IsWhole)
  (arg7 : Memref sig .tc .vmem S64x1024 .f32) (harg7 : arg7.IsWhole)
  (arg8 : Memref sig .tc .vmem S4x512x1024 .f32) (harg8 : arg8.IsWhole)
  (arg9 : Memref sig .tc .vmem S1x1024 .f32) (harg9 : arg9.IsWhole)
  (arg10 : Memref sig .tc .vmem S80x1024 .f32) (harg10 : arg10.IsWhole)

/-- One trip of the loop against a fixed bound: four tiles are scored ahead, four are accumulated. -/
theorem trip1 (v56 c4_i32 v67 v69 : BitVec 32) (v70 : BitVec 1) (k : Fin (k0_t1_loop i).trips)
    (X4 : BufTy.Contents (Elt F) arg4.view.ty) (X5 : BufTy.Contents (Elt F) arg5.view.ty) (X6 : BufTy.Contents (Elt F) arg6.view.ty)
    (X9 : BufTy.Contents (Elt F) arg9.view.ty) (f8 : BufTy.Contents (Elt F) arg8.view.ty) (f10 : BufTy.Contents (Elt F) arg10.view.ty) :
    iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9) ∗ (arg8.view.loc (c : Thread nD τ) ↦[arg8.view.set]{fullShare} f8) ∗ (arg10.view.loc (c : Thread nD τ) ↦[arg10.view.set]{fullShare} f10))
    ⊢ (wp frame (wpE (defs₀ (F := F)) 𝒱 (c : Thread nD τ) bd) E
        (k0_t1_body (F := F) i arg3 harg3 arg4 harg4 arg5 harg5 arg6 harg6 arg7 harg7 arg8 harg8 arg9 harg9 arg10 harg10 v56 c4_i32 v67 v69 v70 k PUnit.unit)
        (fun _ => iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9)
          ∗ (∃ f, (arg8.view.loc (c : Thread nD τ) ↦[arg8.view.set]{fullShare} f) ∗ ⌜slot0 arg8 f = slot (score (kTile (arg5.view.read (Elt F) X5) (4 * k.val + 4)) (arg4.view.read (Elt F) X4))⌝)
          ∗ (∃ f, (arg10.view.loc (c : Thread nD τ) ↦[arg10.view.set]{fullShare} f) ∗ ⌜arg10.view.read (Elt F) f = four1 (arg9.view.read (Elt F) X9) (arg4.view.read (Elt F) X4) (arg5.view.read (Elt F) X5) (arg6.view.read (Elt F) X6) k.val (slot0 arg8 f8) (arg10.view.read (Elt F) f10)⌝)))
      : sProp (MT nD τ sig Unit (Elt F) ℕ (UR sig nD τ) ℕ)) := by
  have k0 : ∀ h, arg5.view.readAt (Elt F) (Rect.unit (s := S1x8192x128) (k0_off2 i k 0#32) S1x512x128.size h).toLoadRect X5
      = kTile (arg5.view.read (Elt F) X5) (4 * k.val + 1) := fun h => read_k arg5 X5 h (off2 i k 0)
  have v0 : ∀ h, arg6.view.readAt (Elt F) (Rect.unit (s := S1x16x80x512) (k0_off3 i k 0#32) S1x1x80x512.size h).toLoadRect X6
      = vTile (arg6.view.read (Elt F) X6) (4 * k.val) := fun h => read_v arg6 X6 h (off3 i k 0)
  have k1 : ∀ h, arg5.view.readAt (Elt F) (Rect.unit (s := S1x8192x128) (k0_off2 i k 1#32) S1x512x128.size h).toLoadRect X5
      = kTile (arg5.view.read (Elt F) X5) (4 * k.val + 2) := fun h => read_k arg5 X5 h (off2 i k 1)
  have v1 : ∀ h, arg6.view.readAt (Elt F) (Rect.unit (s := S1x16x80x512) (k0_off3 i k 1#32) S1x1x80x512.size h).toLoadRect X6
      = vTile (arg6.view.read (Elt F) X6) (4 * k.val + 1) := fun h => read_v arg6 X6 h (off3 i k 1)
  have k2 : ∀ h, arg5.view.readAt (Elt F) (Rect.unit (s := S1x8192x128) (k0_off2 i k 2#32) S1x512x128.size h).toLoadRect X5
      = kTile (arg5.view.read (Elt F) X5) (4 * k.val + 3) := fun h => read_k arg5 X5 h (off2 i k 2)
  have v2 : ∀ h, arg6.view.readAt (Elt F) (Rect.unit (s := S1x16x80x512) (k0_off3 i k 2#32) S1x1x80x512.size h).toLoadRect X6
      = vTile (arg6.view.read (Elt F) X6) (4 * k.val + 2) := fun h => read_v arg6 X6 h (off3 i k 2)
  have k3 : ∀ h, arg5.view.readAt (Elt F) (Rect.unit (s := S1x8192x128) (k0_off2 i k 3#32) S1x512x128.size h).toLoadRect X5
      = kTile (arg5.view.read (Elt F) X5) (4 * k.val + 4) := fun h => read_k arg5 X5 h (off2 i k 3)
  have v3 : ∀ h, arg6.view.readAt (Elt F) (Rect.unit (s := S1x16x80x512) (k0_off3 i k 3#32) S1x1x80x512.size h).toLoadRect X6
      = vTile (arg6.view.read (Elt F) X6) (4 * k.val + 3) := fun h => read_v arg6 X6 h (off3 i k 3)
  unfold k0_t1_body
  iintro ⟨H4, H5, H6, H9, H8, H10⟩
  sl_exec
  sl_step
  isplitl [H4]
  · iexact H4
  isplitl [H5]
  · iexact H5
  isplitl [H6]
  · iexact H6
  isplitl [H9]
  · iexact H9
  isplitl [H8]
  · iexists _
    isplitl [H8]
    · iexact H8
    ipureintro
    sl_unfold_run_names
    unfold slot0
    simp (disch := decide) only [↓ View.readCov_skip, ↓ View.readCov_cons_toLoadRect, ↓ read_all4, ↓ read_all9, ↓ read_all10, ↓ read_set10, ↓ read_set9, shapeCast_back,
      k0_pay1, k0_pay2, k0_pay3, k0_pay4, k0_pay5, k0_pay6, k0_pay48, k0_pay49, shapeCast_self, readAt_last, k0, k1, k2, k3, v0, v1, v2, v3]
    rfl
  · iexists _
    isplitl [H10]
    · iexact H10
    ipureintro
    sl_unfold_run_names
    simp (disch := decide) only [↓ View.readCov_skip, ↓ View.readCov_cons_toLoadRect, ↓ read_all4, ↓ read_all9, ↓ read_all10, ↓ read_set10, ↓ read_set9, shapeCast_back,
      k0_pay1, k0_pay2, k0_pay3, k0_pay4, k0_pay5, k0_pay6, k0_pay48, k0_pay49, shapeCast_self, readAt_last, k0, k1, k2, k3, v0, v1, v2, v3]
    rfl

end Cert.KernelIdeal.Body
-- ==== Proof.BodyI.Trip3.lean ====
/- One trip of the kernel's loop over whole tiles, against the running maximum. -/
module

public import proofs.«01_k».proof.Proof.Gen.KernelIdeal.Frame
public import proofs.«01_k».proof.Proof.BodyI.Reads
public import proofs.«01_k».proof.Proof.BodyI.Offsets
public import Idealize.ShloMosaic.Lib.Exec
public import Idealize.ShloMosaic.Lib.Tactic
public import Idealize.ShloMosaic.Lib.VecWindow
public import Idealize.ShloMosaic.Lib.WritesUnit
public import Idealize.ShloMosaic.Lib.Pipeline.Value
public import Idealize.ShloMosaic.Lib.Pipeline.ReadBack

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

/-- The running maximum after one trip of the online loop: the tile in slot `0`, then three more. -/
def max3 (q : FVec F S1x128x1024 .bf16) (k : FVec F S1x8192x128 .bf16) (t : ℕ) (s : FVec F S1x512x1024 .f32) (m : FVec F S1x1024 .f32) :
    FVec F S1x1024 .f32 :=
  newMax (newMax (newMax (newMax m (unslot s)) (score (kTile k (4 * t + 1)) q)) (score (kTile k (4 * t + 2)) q)) (score (kTile k (4 * t + 3)) q)

/-- The accumulator after one trip of the online loop. -/
def four3 (q : FVec F S1x128x1024 .bf16) (k : FVec F S1x8192x128 .bf16) (v : FVec F S1x16x80x512 .bf16) (t : ℕ)
    (s : FVec F S1x512x1024 .f32) (m : FVec F S1x1024 .f32) (a : FVec F S80x1024 .f32) : FVec F S80x1024 .f32 :=
  scaleTile (newMax (newMax (newMax m (unslot s)) (score (kTile k (4 * t + 1)) q)) (score (kTile k (4 * t + 2)) q))
    (score (kTile k (4 * t + 3)) q) (vTile v (4 * t + 3))
    (scaleTile (newMax (newMax m (unslot s)) (score (kTile k (4 * t + 1)) q)) (score (kTile k (4 * t + 2)) q) (vTile v (4 * t + 2))
      (scaleTile (newMax m (unslot s)) (score (kTile k (4 * t + 1)) q) (vTile v (4 * t + 1))
        (scaleTile m (unslot s) (vTile v (4 * t)) a)))

variable (𝒱 : Variants) (c : Dev nD) (bd : Option 𝒱.V) (E : Set ℕ) (i : grid0.Coords)
  (arg3 : Memref sig .tc .smem S16 .f32) (harg3 : arg3.IsWhole)
  (arg4 : Memref sig .tc .vmem S1x128x1024 .bf16) (harg4 : arg4.IsWhole)
  (arg5 : Memref sig .tc .vmem S1x8192x128 .bf16) (harg5 : arg5.IsWhole)
  (arg6 : Memref sig .tc .vmem S1x16x80x512 .bf16) (harg6 : arg6.IsWhole)
  (arg7 : Memref sig .tc .vmem S64x1024 .f32) (harg7 : arg7.IsWhole)
  (arg8 : Memref sig .tc .vmem S4x512x1024 .f32) (harg8 : arg8.IsWhole)
  (arg9 : Memref sig .tc .vmem S1x1024 .f32) (harg9 : arg9.IsWhole)
  (arg10 : Memref sig .tc .vmem S80x1024 .f32) (harg10 : arg10.IsWhole)

/-- One trip of the online loop: four tiles are scored ahead, four are accumulated. -/
theorem trip3 (v57 c4_i32 v68 v70 : BitVec 32) (k : Fin (k0_t3_loop i).trips)
    (X4 : BufTy.Contents (Elt F) arg4.view.ty) (X5 : BufTy.Contents (Elt F) arg5.view.ty) (X6 : BufTy.Contents (Elt F) arg6.view.ty)
    (f9 : BufTy.Contents (Elt F) arg9.view.ty) (f8 : BufTy.Contents (Elt F) arg8.view.ty) (f10 : BufTy.Contents (Elt F) arg10.view.ty) :
    iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} f9) ∗ (arg8.view.loc (c : Thread nD τ) ↦[arg8.view.set]{fullShare} f8) ∗ (arg10.view.loc (c : Thread nD τ) ↦[arg10.view.set]{fullShare} f10))
    ⊢ (wp frame (wpE (defs₀ (F := F)) 𝒱 (c : Thread nD τ) bd) E
        (k0_t3_body (F := F) i arg3 harg3 arg4 harg4 arg5 harg5 arg6 harg6 arg7 harg7 arg8 harg8 arg9 harg9 arg10 harg10 v57 c4_i32 v68 v70 k PUnit.unit)
        (fun _ => iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg9.view.loc (c : Thread nD τ) ↦[arg9.view.set]{fullShare} f) ∗ ⌜arg9.view.read (Elt F) f = max3 (arg4.view.read (Elt F) X4) (arg5.view.read (Elt F) X5) k.val (slot0 arg8 f8) (arg9.view.read (Elt F) f9)⌝)
          ∗ (∃ f, (arg8.view.loc (c : Thread nD τ) ↦[arg8.view.set]{fullShare} f) ∗ ⌜slot0 arg8 f = slot (score (kTile (arg5.view.read (Elt F) X5) (4 * k.val + 4)) (arg4.view.read (Elt F) X4))⌝)
          ∗ (∃ f, (arg10.view.loc (c : Thread nD τ) ↦[arg10.view.set]{fullShare} f) ∗ ⌜arg10.view.read (Elt F) f = four3 (arg4.view.read (Elt F) X4) (arg5.view.read (Elt F) X5) (arg6.view.read (Elt F) X6) k.val (slot0 arg8 f8) (arg9.view.read (Elt F) f9) (arg10.view.read (Elt F) f10)⌝)))
      : sProp (MT nD τ sig Unit (Elt F) ℕ (UR sig nD τ) ℕ)) := by
  have k0 : ∀ h, arg5.view.readAt (Elt F) (Rect.unit (s := S1x8192x128) (k0_off14 i k 0#32) S1x512x128.size h).toLoadRect X5
      = kTile (arg5.view.read (Elt F) X5) (4 * k.val + 1) := fun h => read_k arg5 X5 h (off14 i k 0)
  have v0 : ∀ h, arg6.view.readAt (Elt F) (Rect.unit (s := S1x16x80x512) (k0_off15 i k 0#32) S1x1x80x512.size h).toLoadRect X6
      = vTile (arg6.view.read (Elt F) X6) (4 * k.val) := fun h => read_v arg6 X6 h (off15 i k 0)
  have k1 : ∀ h, arg5.view.readAt (Elt F) (Rect.unit (s := S1x8192x128) (k0_off14 i k 1#32) S1x512x128.size h).toLoadRect X5
      = kTile (arg5.view.read (Elt F) X5) (4 * k.val + 2) := fun h => read_k arg5 X5 h (off14 i k 1)
  have v1 : ∀ h, arg6.view.readAt (Elt F) (Rect.unit (s := S1x16x80x512) (k0_off15 i k 1#32) S1x1x80x512.size h).toLoadRect X6
      = vTile (arg6.view.read (Elt F) X6) (4 * k.val + 1) := fun h => read_v arg6 X6 h (off15 i k 1)
  have k2 : ∀ h, arg5.view.readAt (Elt F) (Rect.unit (s := S1x8192x128) (k0_off14 i k 2#32) S1x512x128.size h).toLoadRect X5
      = kTile (arg5.view.read (Elt F) X5) (4 * k.val + 3) := fun h => read_k arg5 X5 h (off14 i k 2)
  have v2 : ∀ h, arg6.view.readAt (Elt F) (Rect.unit (s := S1x16x80x512) (k0_off15 i k 2#32) S1x1x80x512.size h).toLoadRect X6
      = vTile (arg6.view.read (Elt F) X6) (4 * k.val + 2) := fun h => read_v arg6 X6 h (off15 i k 2)
  have k3 : ∀ h, arg5.view.readAt (Elt F) (Rect.unit (s := S1x8192x128) (k0_off14 i k 3#32) S1x512x128.size h).toLoadRect X5
      = kTile (arg5.view.read (Elt F) X5) (4 * k.val + 4) := fun h => read_k arg5 X5 h (off14 i k 3)
  have v3 : ∀ h, arg6.view.readAt (Elt F) (Rect.unit (s := S1x16x80x512) (k0_off15 i k 3#32) S1x1x80x512.size h).toLoadRect X6
      = vTile (arg6.view.read (Elt F) X6) (4 * k.val + 3) := fun h => read_v arg6 X6 h (off15 i k 3)
  unfold k0_t3_body
  iintro ⟨H4, H5, H6, H9, H8, H10⟩
  sl_exec
  sl_step
  isplitl [H4]
  · iexact H4
  isplitl [H5]
  · iexact H5
  isplitl [H6]
  · iexact H6
  isplitl [H9]
  · iexists _
    isplitl [H9]
    · iexact H9
    ipureintro
    sl_unfold_run_names
    simp (disch := decide) only [↓ View.readCov_skip, ↓ View.readCov_cons_toLoadRect, ↓ read_all4, ↓ read_all9, ↓ read_all10, ↓ read_set10, ↓ read_set9, shapeCast_back,
      k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71,
      k0_pay166, k0_pay167, k0_pay168, k0_pay169, k0_pay170, shapeCast_self, readAt_last, k0, k1, k2, k3, v0, v1, v2, v3]
    rfl
  isplitl [H8]
  · iexists _
    isplitl [H8]
    · iexact H8
    ipureintro
    sl_unfold_run_names
    unfold slot0
    simp (disch := decide) only [↓ View.readCov_skip, ↓ View.readCov_cons_toLoadRect, ↓ read_all4, ↓ read_all9, ↓ read_all10, ↓ read_set10, ↓ read_set9, shapeCast_back,
      k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71,
      k0_pay166, k0_pay167, k0_pay168, k0_pay169, k0_pay170, shapeCast_self, readAt_last, k0, k1, k2, k3, v0, v1, v2, v3]
    rfl
  · iexists _
    isplitl [H10]
    · iexact H10
    ipureintro
    sl_unfold_run_names
    simp (disch := decide) only [↓ View.readCov_skip, ↓ View.readCov_cons_toLoadRect, ↓ read_all4, ↓ read_all9, ↓ read_all10, ↓ read_set10, ↓ read_set9, shapeCast_back,
      k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71,
      k0_pay166, k0_pay167, k0_pay168, k0_pay169, k0_pay170, shapeCast_self, readAt_last, k0, k1, k2, k3, v0, v1, v2, v3]
    rfl

end Cert.KernelIdeal.Body
-- ==== Proof.BodyI.Loops.lean ====
/- The kernel's loops, by what the buffers hold before each trip. -/
module

public import proofs.«01_k».proof.Proof.Gen.KernelIdeal.Frame
public import proofs.«01_k».proof.Proof.Gen.KernelIdeal.Loops
public import proofs.«01_k».proof.Proof.BodyI.Trip1
public import proofs.«01_k».proof.Proof.BodyI.Trip3
public import proofs.«01_k».proof.Proof.BodyI.Offsets
public import Idealize.ShloMosaic.Lib.Exec
public import Idealize.ShloMosaic.Lib.Tactic
public import Idealize.ShloMosaic.Lib.VecWindow
public import Idealize.ShloMosaic.Lib.WritesUnit
public import Idealize.ShloMosaic.Lib.Pipeline.Value
public import Idealize.ShloMosaic.Lib.Pipeline.ReadBack

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

/-- The slot `0` before trip `t`: what it held at entry, then the tile that the trip before scored ahead. -/
def st8 (q : FVec F S1x128x1024 .bf16) (k : FVec F S1x8192x128 .bf16) (s : FVec F S1x512x1024 .f32) : ℕ → FVec F S1x512x1024 .f32
  | 0 => s
  | t + 1 => slot (score (kTile k (4 * t + 4)) q)

/-- The accumulator before trip `t` of the loop against a fixed bound. -/
def acc1 (m : FVec F S1x1024 .f32) (q : FVec F S1x128x1024 .bf16) (k : FVec F S1x8192x128 .bf16) (v : FVec F S1x16x80x512 .bf16)
    (s : FVec F S1x512x1024 .f32) (a : FVec F S80x1024 .f32) : ℕ → FVec F S80x1024 .f32
  | 0 => a
  | t + 1 => four1 m q k v t (st8 q k s t) (acc1 m q k v s a t)

/-- The running maximum before trip `t` of the online loop. -/
def mx3 (q : FVec F S1x128x1024 .bf16) (k : FVec F S1x8192x128 .bf16) (s : FVec F S1x512x1024 .f32) (m : FVec F S1x1024 .f32) :
    ℕ → FVec F S1x1024 .f32
  | 0 => m
  | t + 1 => max3 q k t (st8 q k s t) (mx3 q k s m t)

/-- The accumulator before trip `t` of the online loop. -/
def acc3 (q : FVec F S1x128x1024 .bf16) (k : FVec F S1x8192x128 .bf16) (v : FVec F S1x16x80x512 .bf16)
    (s : FVec F S1x512x1024 .f32) (m : FVec F S1x1024 .f32) (a : FVec F S80x1024 .f32) : ℕ → FVec F S80x1024 .f32
  | 0 => a
  | t + 1 => four3 q k v t (st8 q k s t) (mx3 q k s m t) (acc3 q k v s m a t)

variable (𝒱 : Variants) (c : Dev nD) (bd : Option 𝒱.V) (E : Set ℕ) (i : grid0.Coords)
  (arg3 : Memref sig .tc .smem S16 .f32) (harg3 : arg3.IsWhole)
  (arg4 : Memref sig .tc .vmem S1x128x1024 .bf16) (harg4 : arg4.IsWhole)
  (arg5 : Memref sig .tc .vmem S1x8192x128 .bf16) (harg5 : arg5.IsWhole)
  (arg6 : Memref sig .tc .vmem S1x16x80x512 .bf16) (harg6 : arg6.IsWhole)
  (arg7 : Memref sig .tc .vmem S64x1024 .f32) (harg7 : arg7.IsWhole)
  (arg8 : Memref sig .tc .vmem S4x512x1024 .f32) (harg8 : arg8.IsWhole)
  (arg9 : Memref sig .tc .vmem S1x1024 .f32) (harg9 : arg9.IsWhole)
  (arg10 : Memref sig .tc .vmem S80x1024 .f32) (harg10 : arg10.IsWhole)

set_option warn.classDefReducibility false in
/-- The loop against a fixed bound, by what the score buffer and the accumulator hold before each trip. -/
@[sl_loop] def loop1
    (X4 : BufTy.Contents (Elt F) arg4.view.ty) (X5 : BufTy.Contents (Elt F) arg5.view.ty) (X6 : BufTy.Contents (Elt F) arg6.view.ty)
    (X9 : BufTy.Contents (Elt F) arg9.view.ty) (G8 : BufTy.Contents (Elt F) arg8.view.ty) (G10 : BufTy.Contents (Elt F) arg10.view.ty) :
    LoopInvTy_k0_t1 (F := F) Unit ℕ (UR sig nD τ) ℕ 𝒱 c bd E i arg3 harg3 arg4 harg4 arg5 harg5 arg6 harg6 arg7 harg7 arg8 harg8 arg9 harg9 arg10 harg10 0#32 0#32 0#32 0#32 0#1 where
  inv k _ := iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9)
    ∗ (∃ f, (arg8.view.loc (c : Thread nD τ) ↦[arg8.view.set]{fullShare} f) ∗ ⌜slot0 arg8 f = st8 (arg4.view.read (Elt F) X4) (arg5.view.read (Elt F) X5) (slot0 arg8 G8) k⌝)
    ∗ (∃ f, (arg10.view.loc (c : Thread nD τ) ↦[arg10.view.set]{fullShare} f) ∗ ⌜arg10.view.read (Elt F) f = acc1 (arg9.view.read (Elt F) X9) (arg4.view.read (Elt F) X4) (arg5.view.read (Elt F) X5) (arg6.view.read (Elt F) X6) (slot0 arg8 G8) (arg10.view.read (Elt F) G10) k⌝))
  step k acc := by
    iintro ⟨H4, H5, H6, H9, ⟨%f8, H8, %h8⟩, ⟨%f10, H10, %h10⟩⟩
    iapply (wp_wand_r Idealize.ShloMosaic.frame (wpE (defs₀ (F := F)) 𝒱 (c : Thread nD τ) bd) E)
    isplitl [H4 H5 H6 H9 H8 H10]
    · iapply (trip1 (F := F) 𝒱 c bd E i arg3 harg3 arg4 harg4 arg5 harg5 arg6 harg6 arg7 harg7 arg8 harg8 arg9 harg9 arg10 harg10 0#32 0#32 0#32 0#32 0#1 k X4 X5 X6 X9 f8 f10)
      isplitl [H4]; · iexact H4
      isplitl [H5]; · iexact H5
      isplitl [H6]; · iexact H6
      isplitl [H9]; · iexact H9
      isplitl [H8]; · iexact H8
      iexact H10
    · iintro %_ ⟨H4, H5, H6, H9, ⟨%g8, H8, %e8⟩, ⟨%g10, H10, %e10⟩⟩
      isplitl [H4]; · iexact H4
      isplitl [H5]; · iexact H5
      isplitl [H6]; · iexact H6
      isplitl [H9]; · iexact H9
      isplitl [H8]
      · iexists _; isplitl [H8]; · iexact H8
        ipureintro; rw [e8]; rfl
      iexists _; isplitl [H10]; · iexact H10
      ipureintro; rw [e10, h8, h10]; rfl

set_option warn.classDefReducibility false in
/-- The loop that would take a remainder of the trip count makes no trip. -/
@[sl_loop] def loop2 (v88 : BitVec 32) :
    LoopInvTy_k0_t2 (F := F) Unit ℕ (UR sig nD τ) ℕ 𝒱 c bd E i arg3 harg3 arg4 harg4 arg5 harg5 arg6 harg6 arg7 harg7 arg8 harg8 arg9 harg9 arg10 harg10 0#32 0#32 0#32 0#32 0#1 v88 where
  inv _ _ := iprop(emp)
  step k _ := (Nat.not_lt_zero _ (Nat.lt_of_lt_of_eq k.isLt (trips2 i))).elim

set_option warn.classDefReducibility false in
/-- The loop against the running maximum, by what the score buffer and the accumulator hold before each trip. -/
@[sl_loop] def loop3
    (X4 : BufTy.Contents (Elt F) arg4.view.ty) (X5 : BufTy.Contents (Elt F) arg5.view.ty) (X6 : BufTy.Contents (Elt F) arg6.view.ty)
    (G9 : BufTy.Contents (Elt F) arg9.view.ty) (G8 : BufTy.Contents (Elt F) arg8.view.ty) (G10 : BufTy.Contents (Elt F) arg10.view.ty) :
    LoopInvTy_k0_t3 (F := F) Unit ℕ (UR sig nD τ) ℕ 𝒱 c bd E i arg3 harg3 arg4 harg4 arg5 harg5 arg6 harg6 arg7 harg7 arg8 harg8 arg9 harg9 arg10 harg10 0#32 0#32 0#32 0#32 where
  inv k _ := iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg9.view.loc (c : Thread nD τ) ↦[arg9.view.set]{fullShare} f) ∗ ⌜arg9.view.read (Elt F) f = mx3 (arg4.view.read (Elt F) X4) (arg5.view.read (Elt F) X5) (slot0 arg8 G8) (arg9.view.read (Elt F) G9) k⌝)
    ∗ (∃ f, (arg8.view.loc (c : Thread nD τ) ↦[arg8.view.set]{fullShare} f) ∗ ⌜slot0 arg8 f = st8 (arg4.view.read (Elt F) X4) (arg5.view.read (Elt F) X5) (slot0 arg8 G8) k⌝)
    ∗ (∃ f, (arg10.view.loc (c : Thread nD τ) ↦[arg10.view.set]{fullShare} f) ∗ ⌜arg10.view.read (Elt F) f = acc3 (arg4.view.read (Elt F) X4) (arg5.view.read (Elt F) X5) (arg6.view.read (Elt F) X6) (slot0 arg8 G8) (arg9.view.read (Elt F) G9) (arg10.view.read (Elt F) G10) k⌝))
  step k acc := by
    iintro ⟨H4, H5, H6, ⟨%f9, H9, %h9⟩, ⟨%f8, H8, %h8⟩, ⟨%f10, H10, %h10⟩⟩
    iapply (wp_wand_r Idealize.ShloMosaic.frame (wpE (defs₀ (F := F)) 𝒱 (c : Thread nD τ) bd) E)
    isplitl [H4 H5 H6 H9 H8 H10]
    · iapply (trip3 (F := F) 𝒱 c bd E i arg3 harg3 arg4 harg4 arg5 harg5 arg6 harg6 arg7 harg7 arg8 harg8 arg9 harg9 arg10 harg10 0#32 0#32 0#32 0#32 k X4 X5 X6 f9 f8 f10)
      isplitl [H4]; · iexact H4
      isplitl [H5]; · iexact H5
      isplitl [H6]; · iexact H6
      isplitl [H9]; · iexact H9
      isplitl [H8]; · iexact H8
      iexact H10
    · iintro %_ ⟨H4, H5, H6, ⟨%g9, H9, %e9⟩, ⟨%g8, H8, %e8⟩, ⟨%g10, H10, %e10⟩⟩
      isplitl [H4]; · iexact H4
      isplitl [H5]; · iexact H5
      isplitl [H6]; · iexact H6
      isplitl [H9]
      · iexists _; isplitl [H9]; · iexact H9
        ipureintro; rw [e9, h8, h9]; rfl
      isplitl [H8]
      · iexists _; isplitl [H8]; · iexact H8
        ipureintro; rw [e8]; rfl
      iexists _; isplitl [H10]; · iexact H10
      ipureintro; rw [e10, h8, h9, h10]; rfl

set_option warn.classDefReducibility false in
/-- The loop that would take a remainder of the trip count makes no trip. -/
@[sl_loop] def loop4 (v89 : BitVec 32) :
    LoopInvTy_k0_t4 (F := F) Unit ℕ (UR sig nD τ) ℕ 𝒱 c bd E i arg3 harg3 arg4 harg4 arg5 harg5 arg6 harg6 arg7 harg7 arg8 harg8 arg9 harg9 arg10 harg10 0#32 0#32 0#32 0#32 v89 where
  inv _ _ := iprop(emp)
  step k _ := (Nat.not_lt_zero _ (Nat.lt_of_lt_of_eq k.isLt (trips4 i))).elim

end Cert.KernelIdeal.Body
-- ==== Proof.BodyI.Last.lean ====
module

public import proofs.«01_k».proof.Proof.Gen.KernelIdeal.Frame
public import proofs.«01_k».proof.Proof.BodyI.Loops
public import proofs.«01_k».proof.Proof.BodyI.Offsets
public import Idealize.ShloMosaic.Lib.Exec
public import Idealize.ShloMosaic.Lib.Tactic
public import Idealize.ShloMosaic.Lib.VecWindow
public import Idealize.ShloMosaic.Lib.WritesUnit
public import Idealize.ShloMosaic.Lib.Pipeline.Value
public import Idealize.ShloMosaic.Lib.Pipeline.ReadBack

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

/-- The bound's factor of a grid point: the word of its head and batch. -/
def wAt (i : grid0.Coords) (x : FVec F S16 .f32) : F .f32 := x (ix1 ⟨(2 * (i 1).val + (i 0).val) % 16, Nat.mod_lt _ (by decide)⟩)

/-- The load of the grid point's word. -/
theorem read_w (i : grid0.Coords) (m : Memref sig .tc .smem S16 .f32) (f : BufTy.Contents (Elt F) m.view.ty)
    (h : ∀ a, k0_off1 i a + S1.size a ≤ S16.size a) (z : (Rect.unit (s := S16) (k0_off1 i) S1.size h).toLoadRect.shape.Idx) :
    m.view.readAt (Elt F) (Rect.unit (s := S16) (k0_off1 i) S1.size h).toLoadRect f z = wAt i (m.view.read (Elt F) f) := by
  refine congrArg (m.view.read (Elt F) f) (funext fun a => Fin.ext ?_)
  have hz : (z a).val < S1.size a := (z a).isLt
  have h' := h a
  match a with
  | ⟨0, _⟩ =>
    change (z 0).val < 1 at hz
    change k0_off1 i 0 + 1 ≤ 16 at h'
    show k0_off1 i 0 + 1 * (z 0).val = (2 * (i 1).val + (i 0).val) % 16
    have e : k0_off1 i 0 = 2 * (i 1).val + (i 0).val := congrFun (k0_off1_eq i) 0
    omega

/-! What the payloads of the last tiles compute, the mask's words given. -/

theorem pay14_eq {a W W' : BitVec 32} (s : FVec F S1x512x1024 .f32) (h : Scalar.addi W 0#32 = W') :
    k0_pay14 a W s = mask a W' (unslot s) := by subst h; rfl

theorem pay17_eq {a W W' : BitVec 32} (s : FVec F S1x512x1024 .f32) (v : FVec F S1x1x80x512 .bf16) (x : FVec F S80x1024 .f32)
    (m : FVec F S1x1024 .f32) (h : Scalar.addi W 1#32 = W') :
    k0_pay17 a W s v x m = addTile m (mask a W' (unslot s)) v x := by subst h; rfl

theorem pay32_eq {a W W' : BitVec 32} (s : FVec F S1x512x1024 .f32) (m : FVec F S1x1024 .f32) (h : Scalar.addi W 2#32 = W') :
    k0_pay32 a W s m = exp2 (subf (mask a W' (unslot s)) (broadcastTo S512x1024 m broadcasts_S1x1024_S512x1024)) := by subst h; rfl

theorem pay34_eq {a W W' : BitVec 32} (s : FVec F S1x512x1024 .f32) (v : FVec F S1x1x80x512 .bf16) (x : FVec F S80x1024 .f32)
    (m : FVec F S1x1024 .f32) (h : Scalar.addi W 3#32 = W') :
    k0_pay34 a W s v x m = addTile m (mask a W' (unslot s)) v x := by
  subst h; unfold k0_pay34; simp only [shapeCast_self]; rfl

theorem pay95_eq {a W W' : BitVec 32} (s : FVec F S1x512x1024 .f32) (h : Scalar.addi W 0#32 = W') :
    k0_pay95 a W s = mask a W' (unslot s) := by subst h; rfl

theorem pay101_eq {a W W' : BitVec 32} (s : FVec F S1x512x1024 .f32) (h : Scalar.addi W 1#32 = W') :
    k0_pay101 a W s = mask a W' (unslot s) := by subst h; rfl

theorem pay132_eq {a w W' : BitVec 32} (s : FVec F S512x1024 .f32) (h : w = Scalar.muli W' 512#32) :
    k0_pay132 a s w (iota .tc S512x1024 32 [0] iota_S512x1024_d0_w32) = mask a W' s := by subst h; rfl

theorem pay187_eq (i : grid0.Coords) {w W' : BitVec 32} (s : FVec F S512x1024 .f32) (h : w = W') :
    k0_pay187 i s w 512#32 = mask (BitVec.ofNat 32 (i 2).val) W' s := by subst h; rfl

/-! The last tiles of a query block: two for an even block, four for an odd one, the masked ones the last two. -/

/-- Two masked tiles against a fixed bound, the first scored ahead. -/
def two1 (m : FVec F S1x1024 .f32) (n j : ℕ) (q : FVec F S1x128x1024 .bf16) (k : FVec F S1x8192x128 .bf16) (v : FVec F S1x16x80x512 .bf16)
    (s : FVec F S1x512x1024 .f32) (a : FVec F S80x1024 .f32) : FVec F S80x1024 .f32 :=
  addTile m (mask (BitVec.ofNat 32 n) (BitVec.ofNat 32 (j + 1)) (score (kTile k (j + 1)) q)) (vTile v (j + 1))
    (addTile m (mask (BitVec.ofNat 32 n) (BitVec.ofNat 32 j) (unslot s)) (vTile v j) a)

/-- Two whole tiles and two masked ones against a fixed bound, the first scored ahead. -/
def last1 (m : FVec F S1x1024 .f32) (n j : ℕ) (q : FVec F S1x128x1024 .bf16) (k : FVec F S1x8192x128 .bf16) (v : FVec F S1x16x80x512 .bf16)
    (s : FVec F S1x512x1024 .f32) (a : FVec F S80x1024 .f32) : FVec F S80x1024 .f32 :=
  addTile m (mask (BitVec.ofNat 32 n) (BitVec.ofNat 32 (j + 3)) (score (kTile k (j + 3)) q)) (vTile v (j + 3))
    (addTile m (mask (BitVec.ofNat 32 n) (BitVec.ofNat 32 (j + 2)) (score (kTile k (j + 2)) q)) (vTile v (j + 2))
      (addTile m (score (kTile k (j + 1)) q) (vTile v (j + 1)) (addTile m (unslot s) (vTile v j) a)))

/-- Two masked tiles against the running maximum, the first scored ahead. -/
def two3 (m : FVec F S1x1024 .f32) (n j : ℕ) (q : FVec F S1x128x1024 .bf16) (k : FVec F S1x8192x128 .bf16) (v : FVec F S1x16x80x512 .bf16)
    (s : FVec F S1x512x1024 .f32) (a : FVec F S80x1024 .f32) : FVec F S80x1024 .f32 :=
  scaleTile (newMax m (mask (BitVec.ofNat 32 n) (BitVec.ofNat 32 j) (unslot s)))
    (mask (BitVec.ofNat 32 n) (BitVec.ofNat 32 (j + 1)) (score (kTile k (j + 1)) q)) (vTile v (j + 1))
    (scaleTile m (mask (BitVec.ofNat 32 n) (BitVec.ofNat 32 j) (unslot s)) (vTile v j) a)

/-- Two whole tiles and two masked ones against the running maximum, the first scored ahead. -/
def last3 (m : FVec F S1x1024 .f32) (n j : ℕ) (q : FVec F S1x128x1024 .bf16) (k : FVec F S1x8192x128 .bf16) (v : FVec F S1x16x80x512 .bf16)
    (s : FVec F S1x512x1024 .f32) (a : FVec F S80x1024 .f32) : FVec F S80x1024 .f32 :=
  scaleTile (newMax (newMax (newMax m (unslot s)) (score (kTile k (j + 1)) q)) (mask (BitVec.ofNat 32 n) (BitVec.ofNat 32 (j + 2)) (score (kTile k (j + 2)) q)))
    (mask (BitVec.ofNat 32 n) (BitVec.ofNat 32 (j + 3)) (score (kTile k (j + 3)) q)) (vTile v (j + 3))
    (scaleTile (newMax (newMax m (unslot s)) (score (kTile k (j + 1)) q)) (mask (BitVec.ofNat 32 n) (BitVec.ofNat 32 (j + 2)) (score (kTile k (j + 2)) q)) (vTile v (j + 2))
      (scaleTile (newMax m (unslot s)) (score (kTile k (j + 1)) q) (vTile v (j + 1)) (scaleTile m (unslot s) (vTile v j) a)))

end Cert.KernelIdeal.Body
-- ==== Proof.BodyI.SmallEven.lean ====
module

public import proofs.«01_k».proof.Proof.Gen.KernelIdeal.Frame
public import proofs.«01_k».proof.Proof.BodyI.Last
public import proofs.«01_k».proof.Proof.BodyI.Offsets
public import Idealize.ShloMosaic.Lib.Exec
public import Idealize.ShloMosaic.Lib.Tactic
public import Idealize.ShloMosaic.Lib.VecWindow
public import Idealize.ShloMosaic.Lib.WritesUnit
public import Idealize.ShloMosaic.Lib.Pipeline.Value
public import Idealize.ShloMosaic.Lib.Pipeline.ReadBack

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

variable (𝒱 : Variants) (c : Dev nD) (bd : Option 𝒱.V) (E : Set ℕ) (i : grid0.Coords)
  (arg3 : Memref sig .tc .smem S16 .f32) (harg3 : arg3.IsWhole)
  (arg4 : Memref sig .tc .vmem S1x128x1024 .bf16) (harg4 : arg4.IsWhole)
  (arg5 : Memref sig .tc .vmem S1x8192x128 .bf16) (harg5 : arg5.IsWhole)
  (arg6 : Memref sig .tc .vmem S1x16x80x512 .bf16) (harg6 : arg6.IsWhole)
  (arg7 : Memref sig .tc .vmem S64x1024 .f32) (harg7 : arg7.IsWhole)
  (arg8 : Memref sig .tc .vmem S4x512x1024 .f32) (harg8 : arg8.IsWhole)
  (arg9 : Memref sig .tc .vmem S1x1024 .f32) (harg9 : arg9.IsWhole)
  (arg10 : Memref sig .tc .vmem S80x1024 .f32) (harg10 : arg10.IsWhole)

/-- The body at an even query block whose bound is small. -/
theorem body_small_even
    (X3 : BufTy.Contents (Elt F) arg3.view.ty) (X4 : BufTy.Contents (Elt F) arg4.view.ty) (X5 : BufTy.Contents (Elt F) arg5.view.ty)
    (X6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty)
    (hn : (i 2).val % 2 = 0)
    (hs : small (arg4.view.read (Elt F) X4) (wAt i (arg3.view.read (Elt F) X3)) = 1#1)
    (Q : FVec F S1x128x1024 .bf16) (K : FVec F S1x8192x128 .bf16) (V : FVec F S1x16x80x512 .bf16) (w : F .f32)
    (hQ : arg4.view.read (Elt F) X4 = Q) (hK : arg5.view.read (Elt F) X5 = K) (hV : arg6.view.read (Elt F) X6 = V)
    (hw : wAt i (arg3.view.read (Elt F) X3) = w) :
    iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))
    ⊢ (wp frame (wpE (defs₀ (F := F)) 𝒱 (c : Thread nD τ) bd) E
        (cc0_mla_attn (F := F) i arg3 harg3 arg4 harg4 arg5 harg5 arg6 harg6 arg7 harg7 arg8 harg8 arg9 harg9 arg10 harg10)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg7.view.loc (c : Thread nD τ) ↦[arg7.view.set]{fullShare} f) ∗ ⌜arg7.view.read (Elt F) f = k0_pay192 (two1 (k0_pay176 Q w) (i 2).val (2 * (i 2).val) Q K V (st8 Q K (slot (score (kTile K 0) Q)) ((i 2).val / 2)) (acc1 (k0_pay176 Q w) Q K V (slot (score (kTile K 0) Q)) (k0_pay177 (F := F)) ((i 2).val / 2)))⌝) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f))))
      : sProp (MT nD τ sig Unit (Elt F) ℕ (UR sig nD τ) ℕ)) := by
  have h2 : k0_cond2 i = 1#1 := by rw [cond2, if_pos hn]
  have h3 := cond3 i
  have h4 : ¬ k0_cond4 i = 1#1 := by rw [cond4, if_pos hn]; decide
  have h5 := cond5 i
  unfold cc0_mla_attn
  iintro ⟨H3, H4, H5, H6, H7, H8, H9, H10⟩
  sl_exec
  have e22 : body_small_even.sl.v22 (F := F) i arg3 arg4 X3 X4 = 1#1 := by
    unfold body_small_even.sl.v22 body_small_even.sl.r body_small_even.sl.cst_7
    rw [read_w, read_all4]; exact hs
  rw [if_pos (show body_small_even.sl.v24 (F := F) i arg3 arg4 X3 X4 = 1#1 by unfold body_small_even.sl.v24 body_small_even.sl.v23; rw [e22]; decide)]
  sl_exec
  rw [if_neg (show ¬ body_small_even.sl.v27 (F := F) i arg3 arg4 X3 X4 = 1#1 by
    rw [show body_small_even.sl.v27 (F := F) i arg3 arg4 X3 X4 = Scalar.cmpi .ne (Scalar.extui (Scalar.xori (body_small_even.sl.v22 (F := F) i arg3 arg4 X3 X4) 1#1)) 0#32 from rfl, e22]; decide)]
  sl_exec
  sl_step
  isplitl [H3]; · iexact H3
  isplitl [H4]; · iexact H4
  isplitl [H5]; · iexact H5
  isplitl [H6]; · iexact H6
  isplitl [H7]
  · iexists _; isplitl [H7]; · iexact H7
    ipureintro
    clear e22
    have v0 := fun h => read_v arg6 X6 h (show k0_off7 i 0#32 = _ from off7 i 0 hn)
    have v1 := fun h => read_v arg6 X6 h (show k0_off7 i 1#32 = _ from off7 i 1 hn)
    have k1 := fun h => read_k arg5 X5 h (off6 i hn)
    have k0 := fun h => read_k (j := 0) arg5 X5 h rfl
    have T : Scf.trips (k0_t1_loop i).lb (k0_t1_loop i).ub (k0_t1_loop i).st = (i 2).val / 2 := trips1 i
    rw [hQ, hK] at hL5
    rw [hQ, hK, hV] at hL7
    revert hL5 hL7 T
    sl_unfold_run_names
    unfold slot0
    simp (disch := decide) only [↓ View.readCov_skip, ↓ View.readCov_cons_toLoadRect, ↓ read_all4, ↓ read_all9, ↓ read_all10, ↓ read_set10, ↓ read_set9, ↓ read_set7, ↓ read_w, ↓ v0, ↓ v1, ↓ k1, ↓ k0, shapeCast_back, shapeCast_self, readAt_last, hQ, hK, hV, hw, k0_pay179, k0_pay46, k0_pay47, k0_pay13, k0_pay16, k0_pay15]
    intro e8 e10 T
    rw [T] at e8 e10
    first | rw [e8, e10] | rw [e10]
    try rw [T]
    rw [pay17_eq (W' := BitVec.ofNat 32 ((2 * (i 2).val) + 1)), pay14_eq (W' := BitVec.ofNat 32 (2 * (i 2).val))]
    rotate_left
    · revert hn; clear * -; generalize i 2 = n; revert n; decide +kernel
    · revert hn; clear * -; generalize i 2 = n; revert n; decide +kernel
    try unfold unslot
    try simp only [shapeCast_back]
    rfl
  isplitl [H8]; · iexists _; iexact H8
  isplitl [H9]; · iexists _; iexact H9
  iexists _; iexact H10

end Cert.KernelIdeal.Body
-- ==== Proof.BodyI.SmallOdd.lean ====
module

public import proofs.«01_k».proof.Proof.Gen.KernelIdeal.Frame
public import proofs.«01_k».proof.Proof.BodyI.Last
public import proofs.«01_k».proof.Proof.BodyI.Offsets
public import Idealize.ShloMosaic.Lib.Exec
public import Idealize.ShloMosaic.Lib.Tactic
public import Idealize.ShloMosaic.Lib.VecWindow
public import Idealize.ShloMosaic.Lib.WritesUnit
public import Idealize.ShloMosaic.Lib.Pipeline.Value
public import Idealize.ShloMosaic.Lib.Pipeline.ReadBack

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

variable (𝒱 : Variants) (c : Dev nD) (bd : Option 𝒱.V) (E : Set ℕ) (i : grid0.Coords)
  (arg3 : Memref sig .tc .smem S16 .f32) (harg3 : arg3.IsWhole)
  (arg4 : Memref sig .tc .vmem S1x128x1024 .bf16) (harg4 : arg4.IsWhole)
  (arg5 : Memref sig .tc .vmem S1x8192x128 .bf16) (harg5 : arg5.IsWhole)
  (arg6 : Memref sig .tc .vmem S1x16x80x512 .bf16) (harg6 : arg6.IsWhole)
  (arg7 : Memref sig .tc .vmem S64x1024 .f32) (harg7 : arg7.IsWhole)
  (arg8 : Memref sig .tc .vmem S4x512x1024 .f32) (harg8 : arg8.IsWhole)
  (arg9 : Memref sig .tc .vmem S1x1024 .f32) (harg9 : arg9.IsWhole)
  (arg10 : Memref sig .tc .vmem S80x1024 .f32) (harg10 : arg10.IsWhole)

/-- The body at an odd query block whose bound is small. -/
theorem body_small_odd
    (X3 : BufTy.Contents (Elt F) arg3.view.ty) (X4 : BufTy.Contents (Elt F) arg4.view.ty) (X5 : BufTy.Contents (Elt F) arg5.view.ty)
    (X6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty)
    (hn : (i 2).val % 2 = 1)
    (hs : small (arg4.view.read (Elt F) X4) (wAt i (arg3.view.read (Elt F) X3)) = 1#1)
    (Q : FVec F S1x128x1024 .bf16) (K : FVec F S1x8192x128 .bf16) (V : FVec F S1x16x80x512 .bf16) (w : F .f32)
    (hQ : arg4.view.read (Elt F) X4 = Q) (hK : arg5.view.read (Elt F) X5 = K) (hV : arg6.view.read (Elt F) X6 = V)
    (hw : wAt i (arg3.view.read (Elt F) X3) = w) :
    iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))
    ⊢ (wp frame (wpE (defs₀ (F := F)) 𝒱 (c : Thread nD τ) bd) E
        (cc0_mla_attn (F := F) i arg3 harg3 arg4 harg4 arg5 harg5 arg6 harg6 arg7 harg7 arg8 harg8 arg9 harg9 arg10 harg10)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg7.view.loc (c : Thread nD τ) ↦[arg7.view.set]{fullShare} f) ∗ ⌜arg7.view.read (Elt F) f = k0_pay192 (last1 (k0_pay176 Q w) (i 2).val (2 * (i 2).val - 2) Q K V (st8 Q K (slot (score (kTile K 0) Q)) ((i 2).val / 2)) (acc1 (k0_pay176 Q w) Q K V (slot (score (kTile K 0) Q)) (k0_pay177 (F := F)) ((i 2).val / 2)))⌝) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f))))
      : sProp (MT nD τ sig Unit (Elt F) ℕ (UR sig nD τ) ℕ)) := by
  have h2 : ¬ k0_cond2 i = 1#1 := by rw [cond2, if_neg (by omega)]; decide
  have h3 := cond3 i
  have h4 : k0_cond4 i = 1#1 := by rw [cond4, if_neg (by omega)]
  have h5 := cond5 i
  unfold cc0_mla_attn
  iintro ⟨H3, H4, H5, H6, H7, H8, H9, H10⟩
  sl_exec
  have e22 : body_small_odd.sl.v22 (F := F) i arg3 arg4 X3 X4 = 1#1 := by
    unfold body_small_odd.sl.v22 body_small_odd.sl.r body_small_odd.sl.cst_7
    rw [read_w, read_all4]; exact hs
  rw [if_pos (show body_small_odd.sl.v24 (F := F) i arg3 arg4 X3 X4 = 1#1 by unfold body_small_odd.sl.v24 body_small_odd.sl.v23; rw [e22]; decide)]
  sl_exec
  rw [if_neg (show ¬ body_small_odd.sl.v27 (F := F) i arg3 arg4 X3 X4 = 1#1 by
    rw [show body_small_odd.sl.v27 (F := F) i arg3 arg4 X3 X4 = Scalar.cmpi .ne (Scalar.extui (Scalar.xori (body_small_odd.sl.v22 (F := F) i arg3 arg4 X3 X4) 1#1)) 0#32 from rfl, e22]; decide)]
  sl_exec
  sl_step
  isplitl [H3]; · iexact H3
  isplitl [H4]; · iexact H4
  isplitl [H5]; · iexact H5
  isplitl [H6]; · iexact H6
  isplitl [H7]
  · iexists _; isplitl [H7]; · iexact H7
    ipureintro
    clear e22
    have v0 := fun h => read_v arg6 X6 h (show k0_off11 i 0#32 = _ from off11 i 0 hn)
    have v1 := fun h => read_v arg6 X6 h (show k0_off11 i 1#32 = _ from off11 i 1 hn)
    have v2 := fun h => read_v arg6 X6 h (show k0_off11 i 2#32 = _ from off11 i 2 hn)
    have v3 := fun h => read_v arg6 X6 h (show k0_off11 i 3#32 = _ from off11 i 3 hn)
    have k1 := fun h => read_k arg5 X5 h (show k0_off10 i 0#32 = _ from off10 i 0 hn)
    have k2 := fun h => read_k arg5 X5 h (show k0_off10 i 1#32 = _ from off10 i 1 hn)
    have k3 := fun h => read_k arg5 X5 h (show k0_off10 i 2#32 = _ from off10 i 2 hn)
    have k0 := fun h => read_k (j := 0) arg5 X5 h rfl
    have T : Scf.trips (k0_t1_loop i).lb (k0_t1_loop i).ub (k0_t1_loop i).st = (i 2).val / 2 := trips1 i
    rw [hQ, hK] at hL5
    rw [hQ, hK, hV] at hL7
    revert hL5 hL7 T
    sl_unfold_run_names
    unfold slot0
    simp (disch := decide) only [↓ View.readCov_skip, ↓ View.readCov_cons_toLoadRect, ↓ read_all4, ↓ read_all9, ↓ read_all10, ↓ read_set10, ↓ read_set9, ↓ read_set7, ↓ read_w, ↓ v0, ↓ v1, ↓ v2, ↓ v3, ↓ k1, ↓ k2, ↓ k3, ↓ k0, shapeCast_back, shapeCast_self, readAt_last, hQ, hK, hV, hw, k0_pay179, k0_pay46, k0_pay47, k0_pay26, k0_pay27, k0_pay28, k0_pay29, k0_pay30, k0_pay31, k0_pay33]
    intro e8 e10 T
    rw [T] at e8 e10
    first | rw [e8, e10] | rw [e10]
    try rw [T]
    rw [pay34_eq (W' := BitVec.ofNat 32 ((2 * (i 2).val - 2) + 3)), pay32_eq (W' := BitVec.ofNat 32 ((2 * (i 2).val - 2) + 2))]
    rotate_left
    · revert hn; clear * -; generalize i 2 = n; revert n; decide +kernel
    · revert hn; clear * -; generalize i 2 = n; revert n; decide +kernel
    try unfold unslot
    try simp only [shapeCast_back]
    rfl
  isplitl [H8]; · iexists _; iexact H8
  isplitl [H9]; · iexists _; iexact H9
  iexists _; iexact H10

end Cert.KernelIdeal.Body
-- ==== Proof.BodyI.OnlineEven.lean ====
module

public import proofs.«01_k».proof.Proof.Gen.KernelIdeal.Frame
public import proofs.«01_k».proof.Proof.BodyI.Last
public import proofs.«01_k».proof.Proof.BodyI.Offsets
public import Idealize.ShloMosaic.Lib.Exec
public import Idealize.ShloMosaic.Lib.Tactic
public import Idealize.ShloMosaic.Lib.VecWindow
public import Idealize.ShloMosaic.Lib.WritesUnit
public import Idealize.ShloMosaic.Lib.Pipeline.Value
public import Idealize.ShloMosaic.Lib.Pipeline.ReadBack

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

variable (𝒱 : Variants) (c : Dev nD) (bd : Option 𝒱.V) (E : Set ℕ) (i : grid0.Coords)
  (arg3 : Memref sig .tc .smem S16 .f32) (harg3 : arg3.IsWhole)
  (arg4 : Memref sig .tc .vmem S1x128x1024 .bf16) (harg4 : arg4.IsWhole)
  (arg5 : Memref sig .tc .vmem S1x8192x128 .bf16) (harg5 : arg5.IsWhole)
  (arg6 : Memref sig .tc .vmem S1x16x80x512 .bf16) (harg6 : arg6.IsWhole)
  (arg7 : Memref sig .tc .vmem S64x1024 .f32) (harg7 : arg7.IsWhole)
  (arg8 : Memref sig .tc .vmem S4x512x1024 .f32) (harg8 : arg8.IsWhole)
  (arg9 : Memref sig .tc .vmem S1x1024 .f32) (harg9 : arg9.IsWhole)
  (arg10 : Memref sig .tc .vmem S80x1024 .f32) (harg10 : arg10.IsWhole)

/-- The body at an even query block whose bound is not small. -/
theorem body_online_even
    (X3 : BufTy.Contents (Elt F) arg3.view.ty) (X4 : BufTy.Contents (Elt F) arg4.view.ty) (X5 : BufTy.Contents (Elt F) arg5.view.ty)
    (X6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty)
    (hn : (i 2).val % 2 = 0)
    (hs : ¬ small (arg4.view.read (Elt F) X4) (wAt i (arg3.view.read (Elt F) X3)) = 1#1)
    (Q : FVec F S1x128x1024 .bf16) (K : FVec F S1x8192x128 .bf16) (V : FVec F S1x16x80x512 .bf16) (w : F .f32)
    (hQ : arg4.view.read (Elt F) X4 = Q) (hK : arg5.view.read (Elt F) X5 = K) (hV : arg6.view.read (Elt F) X6 = V)
    (hw : wAt i (arg3.view.read (Elt F) X3) = w) :
    iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))
    ⊢ (wp frame (wpE (defs₀ (F := F)) 𝒱 (c : Thread nD τ) bd) E
        (cc0_mla_attn (F := F) i arg3 harg3 arg4 harg4 arg5 harg5 arg6 harg6 arg7 harg7 arg8 harg8 arg9 harg9 arg10 harg10)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg7.view.loc (c : Thread nD τ) ↦[arg7.view.set]{fullShare} f) ∗ ⌜arg7.view.read (Elt F) f = k0_pay192 (two3 (mx3 Q K (slot (score (kTile K 0) Q)) (k0_pay164 (F := F)) ((i 2).val / 2)) (i 2).val (2 * (i 2).val) Q K V (st8 Q K (slot (score (kTile K 0) Q)) ((i 2).val / 2)) (acc3 Q K V (slot (score (kTile K 0) Q)) (k0_pay164 (F := F)) (k0_pay177 (F := F)) ((i 2).val / 2)))⌝) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f))))
      : sProp (MT nD τ sig Unit (Elt F) ℕ (UR sig nD τ) ℕ)) := by
  have h7 : k0_cond7 i = 1#1 := by rw [cond7, if_pos hn]
  have h8 := cond8 i
  have h9 : ¬ k0_cond9 i = 1#1 := by rw [cond9, if_pos hn]; decide
  have h10 := cond10 i
  unfold cc0_mla_attn
  iintro ⟨H3, H4, H5, H6, H7, H8, H9, H10⟩
  sl_exec
  have e22 : body_online_even.sl.v22 (F := F) i arg3 arg4 X3 X4 = 0#1 := by
    unfold body_online_even.sl.v22 body_online_even.sl.r body_online_even.sl.cst_7
    rw [read_w, read_all4]
    exact (BitVec.eq_zero_or_eq_one _).resolve_right hs
  rw [if_neg (show ¬ body_online_even.sl.v24 (F := F) i arg3 arg4 X3 X4 = 1#1 by unfold body_online_even.sl.v24 body_online_even.sl.v23; rw [e22]; decide)]
  sl_exec
  rw [if_pos (show body_online_even.sl.v27 (F := F) i arg3 arg4 X3 X4 = 1#1 by
    rw [show body_online_even.sl.v27 (F := F) i arg3 arg4 X3 X4 = Scalar.cmpi .ne (Scalar.extui (Scalar.xori (body_online_even.sl.v22 (F := F) i arg3 arg4 X3 X4) 1#1)) 0#32 from rfl, e22]; decide)]
  sl_exec
  sl_step
  isplitl [H3]; · iexact H3
  isplitl [H4]; · iexact H4
  isplitl [H5]; · iexact H5
  isplitl [H6]; · iexact H6
  isplitl [H7]
  · iexists _; isplitl [H7]; · iexact H7
    ipureintro
    clear e22
    have v0 := fun h => read_v arg6 X6 h (show k0_off19 i 0#32 = _ from off19 i 0 hn)
    have v1 := fun h => read_v arg6 X6 h (show k0_off19 i 1#32 = _ from off19 i 1 hn)
    have k1 := fun h => read_k arg5 X5 h (off18 i hn)
    have k0 := fun h => read_k (j := 0) arg5 X5 h rfl
    have T : Scf.trips (k0_t3_loop i).lb (k0_t3_loop i).ub (k0_t3_loop i).st = (i 2).val / 2 := trips3 i
    rw [hQ, hK] at hL4
    rw [hQ, hK] at hL6
    rw [hQ, hK, hV] at hL8
    revert hL4 hL6 hL8 T
    sl_unfold_run_names
    unfold slot0
    simp (disch := decide) only [↓ View.readCov_skip, ↓ View.readCov_cons_toLoadRect, ↓ read_all4, ↓ read_all9, ↓ read_all10, ↓ read_set10, ↓ read_set9, ↓ read_set7, ↓ read_w, ↓ v0, ↓ v1, ↓ k1, ↓ k0, shapeCast_back, shapeCast_self, readAt_last, hQ, hK, hV, hw, k0_pay164, k0_pay165, k0_pay94, k0_pay96, k0_pay97, k0_pay98, k0_pay99, k0_pay100, k0_pay102, k0_pay180, k0_pay181, k0_pay182]
    intro e9 e8 e10 T
    rw [T] at e9 e8 e10
    try rw [e8]
    try rw [e9]
    try rw [e10]
    try rw [T]
    rw [pay101_eq (W' := BitVec.ofNat 32 ((2 * (i 2).val) + 1)), pay95_eq (W' := BitVec.ofNat 32 (2 * (i 2).val))]
    rotate_left
    · revert hn; clear * -; generalize i 2 = n; revert n; decide +kernel
    · revert hn; clear * -; generalize i 2 = n; revert n; decide +kernel
    try unfold unslot
    try simp only [shapeCast_back]
    rfl
  isplitl [H8]; · iexists _; iexact H8
  isplitl [H9]; · iexists _; iexact H9
  iexists _; iexact H10

end Cert.KernelIdeal.Body
-- ==== Proof.BodyI.OnlineOdd.lean ====
module

public import proofs.«01_k».proof.Proof.Gen.KernelIdeal.Frame
public import proofs.«01_k».proof.Proof.BodyI.Last
public import proofs.«01_k».proof.Proof.BodyI.Offsets
public import Idealize.ShloMosaic.Lib.Exec
public import Idealize.ShloMosaic.Lib.Tactic
public import Idealize.ShloMosaic.Lib.VecWindow
public import Idealize.ShloMosaic.Lib.WritesUnit
public import Idealize.ShloMosaic.Lib.Pipeline.Value
public import Idealize.ShloMosaic.Lib.Pipeline.ReadBack

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

variable (𝒱 : Variants) (c : Dev nD) (bd : Option 𝒱.V) (E : Set ℕ) (i : grid0.Coords)
  (arg3 : Memref sig .tc .smem S16 .f32) (harg3 : arg3.IsWhole)
  (arg4 : Memref sig .tc .vmem S1x128x1024 .bf16) (harg4 : arg4.IsWhole)
  (arg5 : Memref sig .tc .vmem S1x8192x128 .bf16) (harg5 : arg5.IsWhole)
  (arg6 : Memref sig .tc .vmem S1x16x80x512 .bf16) (harg6 : arg6.IsWhole)
  (arg7 : Memref sig .tc .vmem S64x1024 .f32) (harg7 : arg7.IsWhole)
  (arg8 : Memref sig .tc .vmem S4x512x1024 .f32) (harg8 : arg8.IsWhole)
  (arg9 : Memref sig .tc .vmem S1x1024 .f32) (harg9 : arg9.IsWhole)
  (arg10 : Memref sig .tc .vmem S80x1024 .f32) (harg10 : arg10.IsWhole)

/-- The body at an odd query block whose bound is not small. -/
theorem body_online_odd
    (X3 : BufTy.Contents (Elt F) arg3.view.ty) (X4 : BufTy.Contents (Elt F) arg4.view.ty) (X5 : BufTy.Contents (Elt F) arg5.view.ty)
    (X6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty)
    (hn : (i 2).val % 2 = 1)
    (hs : ¬ small (arg4.view.read (Elt F) X4) (wAt i (arg3.view.read (Elt F) X3)) = 1#1)
    (Q : FVec F S1x128x1024 .bf16) (K : FVec F S1x8192x128 .bf16) (V : FVec F S1x16x80x512 .bf16) (w : F .f32)
    (hQ : arg4.view.read (Elt F) X4 = Q) (hK : arg5.view.read (Elt F) X5 = K) (hV : arg6.view.read (Elt F) X6 = V)
    (hw : wAt i (arg3.view.read (Elt F) X3) = w) :
    iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))
    ⊢ (wp frame (wpE (defs₀ (F := F)) 𝒱 (c : Thread nD τ) bd) E
        (cc0_mla_attn (F := F) i arg3 harg3 arg4 harg4 arg5 harg5 arg6 harg6 arg7 harg7 arg8 harg8 arg9 harg9 arg10 harg10)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg7.view.loc (c : Thread nD τ) ↦[arg7.view.set]{fullShare} f) ∗ ⌜arg7.view.read (Elt F) f = k0_pay192 (last3 (mx3 Q K (slot (score (kTile K 0) Q)) (k0_pay164 (F := F)) ((i 2).val / 2)) (i 2).val (2 * (i 2).val - 2) Q K V (st8 Q K (slot (score (kTile K 0) Q)) ((i 2).val / 2)) (acc3 Q K V (slot (score (kTile K 0) Q)) (k0_pay164 (F := F)) (k0_pay177 (F := F)) ((i 2).val / 2)))⌝) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f))))
      : sProp (MT nD τ sig Unit (Elt F) ℕ (UR sig nD τ) ℕ)) := by
  have h7 : ¬ k0_cond7 i = 1#1 := by rw [cond7, if_neg (by omega)]; decide
  have h8 := cond8 i
  have h9 : k0_cond9 i = 1#1 := by rw [cond9, if_neg (by omega)]
  have h10 := cond10 i
  unfold cc0_mla_attn
  iintro ⟨H3, H4, H5, H6, H7, H8, H9, H10⟩
  sl_exec
  have e22 : body_online_odd.sl.v22 (F := F) i arg3 arg4 X3 X4 = 0#1 := by
    unfold body_online_odd.sl.v22 body_online_odd.sl.r body_online_odd.sl.cst_7
    rw [read_w, read_all4]
    exact (BitVec.eq_zero_or_eq_one _).resolve_right hs
  rw [if_neg (show ¬ body_online_odd.sl.v24 (F := F) i arg3 arg4 X3 X4 = 1#1 by unfold body_online_odd.sl.v24 body_online_odd.sl.v23; rw [e22]; decide)]
  sl_exec
  rw [if_pos (show body_online_odd.sl.v27 (F := F) i arg3 arg4 X3 X4 = 1#1 by
    rw [show body_online_odd.sl.v27 (F := F) i arg3 arg4 X3 X4 = Scalar.cmpi .ne (Scalar.extui (Scalar.xori (body_online_odd.sl.v22 (F := F) i arg3 arg4 X3 X4) 1#1)) 0#32 from rfl, e22]; decide)]
  sl_exec
  sl_step
  isplitl [H3]; · iexact H3
  isplitl [H4]; · iexact H4
  isplitl [H5]; · iexact H5
  isplitl [H6]; · iexact H6
  isplitl [H7]
  · iexists _; isplitl [H7]; · iexact H7
    ipureintro
    clear e22
    have v0 := fun h => read_v arg6 X6 h (show k0_off23 i 0#32 = _ from off23 i 0 hn)
    have v1 := fun h => read_v arg6 X6 h (show k0_off23 i 1#32 = _ from off23 i 1 hn)
    have v2 := fun h => read_v arg6 X6 h (show k0_off23 i 2#32 = _ from off23 i 2 hn)
    have v3 := fun h => read_v arg6 X6 h (show k0_off23 i 3#32 = _ from off23 i 3 hn)
    have k1 := fun h => read_k arg5 X5 h (show k0_off22 i 0#32 = _ from off22 i 0 hn)
    have k2 := fun h => read_k arg5 X5 h (show k0_off22 i 1#32 = _ from off22 i 1 hn)
    have k3 := fun h => read_k arg5 X5 h (show k0_off22 i 2#32 = _ from off22 i 2 hn)
    have k0 := fun h => read_k (j := 0) arg5 X5 h rfl
    have T : Scf.trips (k0_t3_loop i).lb (k0_t3_loop i).ub (k0_t3_loop i).st = (i 2).val / 2 := trips3 i
    rw [hQ, hK] at hL4
    rw [hQ, hK] at hL6
    rw [hQ, hK, hV] at hL8
    revert hL4 hL6 hL8 T
    sl_unfold_run_names
    unfold slot0
    simp (disch := decide) only [↓ View.readCov_skip, ↓ View.readCov_cons_toLoadRect, ↓ read_all4, ↓ read_all9, ↓ read_all10, ↓ read_set10, ↓ read_set9, ↓ read_set7, ↓ read_w, ↓ v0, ↓ v1, ↓ v2, ↓ v3, ↓ k1, ↓ k2, ↓ k3, ↓ k0, shapeCast_back, shapeCast_self, readAt_last, hQ, hK, hV, hw, k0_pay164, k0_pay165, k0_pay117, k0_pay118, k0_pay119, k0_pay120, k0_pay121, k0_pay122, k0_pay123, k0_pay124, k0_pay125, k0_pay126, k0_pay127, k0_pay128, k0_pay129, k0_pay130, k0_pay131, k0_pay133, k0_pay134, k0_pay135, k0_pay136, k0_pay188, k0_pay189, k0_pay190]
    intro e9 e8 e10 T
    rw [T] at e9 e8 e10
    try rw [e8]
    try rw [e9]
    try rw [e10]
    try rw [T]
    rw [pay187_eq (W' := BitVec.ofNat 32 ((2 * (i 2).val - 2) + 3)), pay132_eq (W' := BitVec.ofNat 32 ((2 * (i 2).val - 2) + 2))]
    rotate_left
    · revert hn; clear * -; generalize i 2 = n; revert n; decide +kernel
    · revert hn; clear * -; generalize i 2 = n; revert n; decide +kernel
    try unfold unslot
    try simp only [shapeCast_back]
    rfl
  isplitl [H8]; · iexists _; iexact H8
  isplitl [H9]; · iexists _; iexact H9
  iexists _; iexact H10

end Cert.KernelIdeal.Body
-- ==== Proof.BodyI.Run.lean ====
module

public import proofs.«01_k».proof.Proof.Gen.KernelIdeal.Frame
public import proofs.«01_k».proof.Proof.BodyI.SmallEven
public import proofs.«01_k».proof.Proof.BodyI.SmallOdd
public import proofs.«01_k».proof.Proof.BodyI.OnlineEven
public import proofs.«01_k».proof.Proof.BodyI.OnlineOdd
public import proofs.«01_k».proof.Proof.BodyI.Offsets
public import Idealize.ShloMosaic.Lib.Exec
public import Idealize.ShloMosaic.Lib.Tactic
public import Idealize.ShloMosaic.Lib.VecWindow
public import Idealize.ShloMosaic.Lib.WritesUnit
public import Idealize.ShloMosaic.Lib.Pipeline.Value
public import Idealize.ShloMosaic.Lib.Pipeline.ReadBack

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

theorem unslot_slot (s : FVec F S512x1024 .f32) : unslot (slot s) = s := shapeCast_back s

/-- Before trip `t` slot `0` holds tile `4 t`, scored ahead. -/
theorem st8_eq (q : FVec F S1x128x1024 .bf16) (k : FVec F S1x8192x128 .bf16) (t : ℕ) :
    st8 q k (slot (score (kTile k 0) q)) t = slot (score (kTile k (4 * t)) q) := by
  cases t <;> rfl

theorem acc1_eq (m : FVec F S1x1024 .f32) (q : FVec F S1x128x1024 .bf16) (k : FVec F S1x8192x128 .bf16) (v : FVec F S1x16x80x512 .bf16) (t : ℕ) :
    acc1 m q k v (slot (score (kTile k 0) q)) (k0_pay177 (F := F)) t = accB m (fun j => score (kTile k j) q) (vTile v) (4 * t) := by
  induction t with
  | zero => rfl
  | succ t ih =>
    show four1 m q k v t _ _ = _
    rw [ih, st8_eq, four1, unslot_slot]
    rfl

theorem mx3_eq (q : FVec F S1x128x1024 .bf16) (k : FVec F S1x8192x128 .bf16) (t : ℕ) :
    mx3 q k (slot (score (kTile k 0) q)) (k0_pay164 (F := F)) t = maxO (fun j => score (kTile k j) q) (4 * t) := by
  induction t with
  | zero => rfl
  | succ t ih =>
    show max3 q k t _ _ = _
    rw [ih, st8_eq, max3, unslot_slot]
    rfl

theorem acc3_eq (q : FVec F S1x128x1024 .bf16) (k : FVec F S1x8192x128 .bf16) (v : FVec F S1x16x80x512 .bf16) (t : ℕ) :
    acc3 q k v (slot (score (kTile k 0) q)) (k0_pay164 (F := F)) (k0_pay177 (F := F)) t
      = accO (fun j => score (kTile k j) q) (vTile v) (4 * t) := by
  induction t with
  | zero => rfl
  | succ t ih =>
    show four3 q k v t _ _ _ = _
    rw [ih, st8_eq, mx3_eq, four3, unslot_slot]
    rfl

theorem accB_congr (m : FVec F S1x1024 .f32) {s s' : ℕ → FVec F S512x1024 .f32} (v : ℕ → FVec F S1x1x80x512 .bf16) (T : ℕ)
    (h : ∀ j < T, s j = s' j) : accB m s v T = accB m s' v T := by
  induction T with
  | zero => rfl
  | succ T ih => rw [accB, accB, h T (by omega), ih fun j hj => h j (by omega)]

theorem maxO_congr {s s' : ℕ → FVec F S512x1024 .f32} (T : ℕ) (h : ∀ j < T, s j = s' j) : maxO s T = maxO s' T := by
  induction T with
  | zero => rfl
  | succ T ih => rw [maxO, maxO, h T (by omega), ih fun j hj => h j (by omega)]

theorem accO_congr {s s' : ℕ → FVec F S512x1024 .f32} (v : ℕ → FVec F S1x1x80x512 .bf16) (T : ℕ)
    (h : ∀ j < T, s j = s' j) : accO s v T = accO s' v T := by
  induction T with
  | zero => rfl
  | succ T ih => rw [accO, accO, h T (by omega), maxO_congr T fun j hj => h j (by omega), ih fun j hj => h j (by omega)]

/-! The loop and the last tiles together: the accumulation over the block's tiles. -/

variable (m : FVec F S1x1024 .f32) (n : ℕ) (q : FVec F S1x128x1024 .bf16) (k : FVec F S1x8192x128 .bf16) (v : FVec F S1x16x80x512 .bf16)

theorem small_even_eq (hn : n % 2 = 0) :
    two1 m n (2 * n) q k v (st8 q k (slot (score (kTile k 0) q)) (n / 2)) (acc1 m q k v (slot (score (kTile k 0) q)) (k0_pay177 (F := F)) (n / 2))
      = accB m (tileScore n q k) (vTile v) (2 * n + 2) := by
  have e : 4 * (n / 2) = 2 * n := by omega
  rw [acc1_eq, st8_eq, two1, unslot_slot, e, accB, accB, tileScore_ge q k (by omega : ¬ 2 * n < 2 * n), tileScore_ge q k (by omega : ¬ 2 * n + 1 < 2 * n),
    accB_congr m (vTile v) (2 * n) fun j hj => (tileScore_lt q k hj).symm]

theorem small_odd_eq (hn : n % 2 = 1) :
    last1 m n (2 * n - 2) q k v (st8 q k (slot (score (kTile k 0) q)) (n / 2)) (acc1 m q k v (slot (score (kTile k 0) q)) (k0_pay177 (F := F)) (n / 2))
      = accB m (tileScore n q k) (vTile v) (2 * n + 2) := by
  obtain ⟨j, rfl⟩ : ∃ j, n = j + 1 := ⟨n - 1, by omega⟩
  have e : 4 * ((j + 1) / 2) = 2 * j := by omega
  have e' : 2 * (j + 1) - 2 = 2 * j := by omega
  have e2 : 2 * (j + 1) + 2 = 2 * j + 4 := by omega
  rw [acc1_eq, st8_eq, last1, unslot_slot, e, e', e2, accB, accB, accB, accB, tileScore_lt q k (by omega : 2 * j < 2 * (j + 1)),
    tileScore_lt q k (by omega : 2 * j + 1 < 2 * (j + 1)),
    tileScore_ge q k (by omega : ¬ 2 * j + 2 < 2 * (j + 1)), tileScore_ge q k (by omega : ¬ 2 * j + 3 < 2 * (j + 1)),
    accB_congr m (vTile v) (2 * j) fun i hi => (tileScore_lt q k (by omega : i < 2 * (j + 1))).symm]

theorem online_even_eq (hn : n % 2 = 0) :
    two3 (mx3 q k (slot (score (kTile k 0) q)) (k0_pay164 (F := F)) (n / 2)) n (2 * n) q k v (st8 q k (slot (score (kTile k 0) q)) (n / 2))
        (acc3 q k v (slot (score (kTile k 0) q)) (k0_pay164 (F := F)) (k0_pay177 (F := F)) (n / 2))
      = accO (tileScore n q k) (vTile v) (2 * n + 2) := by
  have e : 4 * (n / 2) = 2 * n := by omega
  rw [acc3_eq, mx3_eq, st8_eq, two3, unslot_slot, e, accO, accO, maxO, tileScore_ge q k (by omega : ¬ 2 * n < 2 * n), tileScore_ge q k (by omega : ¬ 2 * n + 1 < 2 * n),
    accO_congr (vTile v) (2 * n) fun j hj => (tileScore_lt q k hj).symm, maxO_congr (2 * n) fun j hj => (tileScore_lt q k hj).symm]

theorem online_odd_eq (hn : n % 2 = 1) :
    last3 (mx3 q k (slot (score (kTile k 0) q)) (k0_pay164 (F := F)) (n / 2)) n (2 * n - 2) q k v (st8 q k (slot (score (kTile k 0) q)) (n / 2))
        (acc3 q k v (slot (score (kTile k 0) q)) (k0_pay164 (F := F)) (k0_pay177 (F := F)) (n / 2))
      = accO (tileScore n q k) (vTile v) (2 * n + 2) := by
  obtain ⟨j, rfl⟩ : ∃ j, n = j + 1 := ⟨n - 1, by omega⟩
  have e : 4 * ((j + 1) / 2) = 2 * j := by omega
  have e' : 2 * (j + 1) - 2 = 2 * j := by omega
  have e2 : 2 * (j + 1) + 2 = 2 * j + 4 := by omega
  rw [acc3_eq, mx3_eq, st8_eq, last3, unslot_slot, e, e', e2, accO, accO, accO, accO, maxO, maxO, maxO, tileScore_lt q k (by omega : 2 * j < 2 * (j + 1)),
    tileScore_lt q k (by omega : 2 * j + 1 < 2 * (j + 1)),
    tileScore_ge q k (by omega : ¬ 2 * j + 2 < 2 * (j + 1)), tileScore_ge q k (by omega : ¬ 2 * j + 3 < 2 * (j + 1)),
    accO_congr (vTile v) (2 * j) fun i hi => (tileScore_lt q k (by omega : i < 2 * (j + 1))).symm,
    maxO_congr (2 * j) fun i hi => (tileScore_lt q k (by omega : i < 2 * (j + 1))).symm]

variable (𝒱 : Variants) (c : Dev nD) (bd : Option 𝒱.V) (E : Set ℕ) (i : grid0.Coords)
  (arg3 : Memref sig .tc .smem S16 .f32) (harg3 : arg3.IsWhole)
  (arg4 : Memref sig .tc .vmem S1x128x1024 .bf16) (harg4 : arg4.IsWhole)
  (arg5 : Memref sig .tc .vmem S1x8192x128 .bf16) (harg5 : arg5.IsWhole)
  (arg6 : Memref sig .tc .vmem S1x16x80x512 .bf16) (harg6 : arg6.IsWhole)
  (arg7 : Memref sig .tc .vmem S64x1024 .f32) (harg7 : arg7.IsWhole)
  (arg8 : Memref sig .tc .vmem S4x512x1024 .f32) (harg8 : arg8.IsWhole)
  (arg9 : Memref sig .tc .vmem S1x1024 .f32) (harg9 : arg9.IsWhole)
  (arg10 : Memref sig .tc .vmem S80x1024 .f32) (harg10 : arg10.IsWhole)

/-- The body on any contents: it leaves its inputs, and the output block holds `result` of them. -/
theorem body_run
    (X3 : BufTy.Contents (Elt F) arg3.view.ty) (X4 : BufTy.Contents (Elt F) arg4.view.ty) (X5 : BufTy.Contents (Elt F) arg5.view.ty)
    (X6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty) :
    iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))
    ⊢ (wp frame (wpE (defs₀ (F := F)) 𝒱 (c : Thread nD τ) bd) E
        (cc0_mla_attn (F := F) i arg3 harg3 arg4 harg4 arg5 harg5 arg6 harg6 arg7 harg7 arg8 harg8 arg9 harg9 arg10 harg10)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg7.view.loc (c : Thread nD τ) ↦[arg7.view.set]{fullShare} f) ∗ ⌜arg7.view.read (Elt F) f = result (i 2).val (wAt i (arg3.view.read (Elt F) X3)) (arg4.view.read (Elt F) X4) (arg5.view.read (Elt F) X5) (arg6.view.read (Elt F) X6)⌝) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f))))
      : sProp (MT nD τ sig Unit (Elt F) ℕ (UR sig nD τ) ℕ)) := by
  by_cases hs : small (arg4.view.read (Elt F) X4) (wAt i (arg3.view.read (Elt F) X3)) = 1#1
  · rw [result, if_pos hs]
    rcases Nat.mod_two_eq_zero_or_one (i 2).val with hn | hn
    · rw [← small_even_eq _ _ _ _ _ hn]
      exact body_small_even (F := F) 𝒱 c bd E i arg3 harg3 arg4 harg4 arg5 harg5 arg6 harg6 arg7 harg7 arg8 harg8 arg9 harg9 arg10 harg10 X3 X4 X5 X6 f7 f8 f9 f10 hn hs _ _ _ _ rfl rfl rfl rfl
    · rw [← small_odd_eq _ _ _ _ _ hn]
      exact body_small_odd (F := F) 𝒱 c bd E i arg3 harg3 arg4 harg4 arg5 harg5 arg6 harg6 arg7 harg7 arg8 harg8 arg9 harg9 arg10 harg10 X3 X4 X5 X6 f7 f8 f9 f10 hn hs _ _ _ _ rfl rfl rfl rfl
  · rw [result, if_neg hs]
    rcases Nat.mod_two_eq_zero_or_one (i 2).val with hn | hn
    · rw [← online_even_eq _ _ _ _ hn]
      exact body_online_even (F := F) 𝒱 c bd E i arg3 harg3 arg4 harg4 arg5 harg5 arg6 harg6 arg7 harg7 arg8 harg8 arg9 harg9 arg10 harg10 X3 X4 X5 X6 f7 f8 f9 f10 hn hs _ _ _ _ rfl rfl rfl rfl
    · rw [← online_odd_eq _ _ _ _ hn]
      exact body_online_odd (F := F) 𝒱 c bd E i arg3 harg3 arg4 harg4 arg5 harg5 arg6 harg6 arg7 harg7 arg8 harg8 arg9 harg9 arg10 harg10 X3 X4 X5 X6 f7 f8 f9 f10 hn hs _ _ _ _ rfl rfl rfl rfl

end Cert.KernelIdeal.Body
-- ==== Proof.BodyI.Launch.lean ====
/-
  The kernel's run. The pipeline's proof data: every input window keeps its block, the output window's block ends at
  `result` of the four input blocks; the body's triple (Run.lean) discharges the library's obligation, and the library's
  launch theorem gives the run of the whole program, from which the frame is read.
-/
module

public import proofs.«01_k».proof.Proof.BodyI.Run
public import proofs.«01_k».proof.Proof.Gen.KernelIdeal.Frame

@[expose] public section

set_option maxRecDepth 16384
set_option maxHeartbeats 1000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves in the output block at point `t`. -/
def outBlock (c : Dev nD) (t : Fin cfg0.N) : FVec F S64x1024 .f32 :=
  result (grid0.coords t 2).val (wAt (grid0.coords t) (iblk m c 0 t)) (iblk m c 1 t) (iblk m c 2 t) (iblk m c 3 t)

/-- The proof data on core `c`: each array at its contents when the region is entered, each input window's block left as
    fetched, the output block at `outBlock`, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock m c t
    | ⟨_ + 5, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after4 (c : Dev nD) (t : Fin cfg0.N) : (dats m 0 c).after 4 t = outBlock m c t := by
  dsimp only [dats]

abbrev 𝒱₀ : Variants := Variants.none

theorem body_obligation (c : Dev nD) : BodyObligation (dats m 0 c) (defs₀ (F := F)) 𝒱₀ () Set.univ := fun t => by
  have hb0 := before0_0_of m (dats m 0 c) (A_eq m c 0) (fun t => by dsimp only [dats]) t
  have hb1 := before0_1_of m (dats m 0 c) (A_eq m c 1) (fun t => by dsimp only [dats]) t
  have hb2 := before0_2_of m (dats m 0 c) (A_eq m c 2) (fun t => by dsimp only [dats]) t
  have hb3 := before0_3_of m (dats m 0 c) (A_eq m c 3) (fun t => by dsimp only [dats]) t
  rw [bigSep_W0, bigSep_W0]
  rw [show (dats m 0 c).Φ t.castSucc = Pipeline.ΦA spec0 c from rfl, show (dats m 0 c).Φ t.succ = Pipeline.ΦA spec0 c from rfl]
  unfold Pipeline.ΦA Dat.owesAt Pipeline.owesWithin
  rw [scopedRest0_eq]
  rw [show (dats m 0 c).owed t.castSucc = 0 from rfl, show (dats m 0 c).owed t.succ = 0 from rfl]
  simp only [hb0, hb1, hb2, hb3]
  unfold owns
  iintro ⟨⟨⟨⟨%f8, H8⟩, ⟨%f9, H9⟩, ⟨%f10, H10⟩⟩, HP⟩, HO, ⟨%d0, %f0, %e0, H0⟩, ⟨%d1, %f1, %e1, H1⟩, ⟨%d2, %f2, %e2, H2⟩, ⟨%d3, %f3, %e3, H3⟩, ⟨%d4, %f4, %e4, H4⟩⟩
  have hbody := body_run (F := F) 𝒱₀ c none Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4))
    (Memref.whole cc0_scratch0) (Memref.isWhole_whole _) (Memref.whole cc0_scratch1) (Memref.isWhole_whole _)
    (Memref.whole cc0_scratch2) (Memref.isWhole_whole _) f0 f1 f2 f3 f4 f8 f9 f10
  rw [show View.read (Elt F) (st0_0 t).view f0 = iblk m c 0 t from e0, show View.read (Elt F) (st0_1 t).view f1 = iblk m c 1 t from e1,
    show View.read (Elt F) (st0_2 t).view f2 = iblk m c 2 t from e2, show View.read (Elt F) (st0_3 t).view f3 = iblk m c 3 t from e3] at hbody
  simp only [Memref.view_whole, View.set_whole] at hbody
  iapply (wp_wand_r frame (wpE (defs₀ (F := F)) 𝒱₀ (c : Thread nD τ) none) Set.univ)
  isplitl [H0 H1 H2 H3 H4 H8 H9 H10]
  · iapply hbody
    isplitl [H0]; · iexact H0
    isplitl [H1]; · iexact H1
    isplitl [H2]; · iexact H2
    isplitl [H3]; · iexact H3
    isplitl [H4]; · iexact H4
    isplitl [H8]; · iexact H8
    isplitl [H9]; · iexact H9
    iexact H10
  iintro %a ⟨H0, H1, H2, H3, ⟨%g, H4, %e⟩, H8, H9, H10⟩
  isplitl [HP H8 H9 H10]
  · isplitl [H8 H9 H10]
    · isplitl [H8]; · iexact H8
      isplitl [H9]; · iexact H9
      iexact H10
    iexact HP
  isplitl [HO]
  · iexact HO
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  iexists _; isplitr; swap; (· iexact H4); ipureintro; exact e

-- the launch theorem's implicit arguments are found by unifying its conclusion with this one
set_option backward.isDefEq.respectTransparency.types false in
/-- The run: every weakly fair execution ends with each window's array at what the proof data compute, and with every
    semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) 0 launch0 defs₀ 𝒱₀ m ρ main (fun c => (body_obligation m c).loose)
    (fun c => (dats m 0 c).share_full fun _ => rfl) (fun _ _ => rfl) (V m) (hmain m 𝒱₀) (A_eq m) (fun _ _ => rfl)
    (fun r => Pipeline.FramePost cfgs (dats m) 0 (V m) r ∧ r.2.sem = fun _ => 0) (fun _ h => h)

/-- The frame: the three arguments end as launched, and every semaphore counter is zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_with_sems (frame_of m ρ (dats m) (A_eq m)) (run_main m ρ)

end Cert.KernelIdeal.Body
-- ==== Proof.Frames.lean ====
/-
  The frames of the three programs and the ledger of the named constant.
-/
module

public import proofs.«01_k».proof.Defs
public import proofs.«01_k».proof.Proof.BodyI.Launch
public import proofs.«01_k».proof.Proof.BodyB.Launch
public import proofs.«01_k».proof.Proof.Gen.ReferenceIdeal.Run
public import Idealize.ShloMosaic.Lib.Claim

@[expose] public section

set_option maxRecDepth 16384

noncomputable section

namespace Cert.Proof

open Idealize.ShloMosaic Idealize.ShloMosaic.TcCoe Idealize.SL.Sem

theorem frame_P : Cert.quiescent_Kernel (hKernel := Cert.Kernel.Gen.facts) := fun m g _ => Cert.Kernel.Body.frame_main m g

theorem frame_PI : Cert.quiescent_KernelIdeal (hKernelIdeal := Cert.KernelIdeal.Gen.facts) :=
  fun m g _ => Cert.KernelIdeal.Body.frame_main m g

theorem frame_RI : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

theorem preserves : Cert.preserves_Kernel_KernelIdeal := IdealRules.named_const.statement Cert.KernelIdeal.κ "minus_inf" .f32 0xF149F2CA#32 ⊥ rfl

end Cert.Proof
-- ==== Proof.Value.MaxLe.lean ====
/- The host's maximum along the last axis is the least upper bound of the start and the row's elements. -/
module

public import Idealize.ShloMosaic.Lib.Pointwise

@[expose] public section

noncomputable section

namespace Cert.Proof.MaxLe

open Idealize.ShloMosaic Idealize.ShloMosaic.TcCoe

theorem fold_le {α : Type*} (s : Finset α) (f : α → EReal) (b z : EReal) :
    s.fold max b f ≤ z ↔ b ≤ z ∧ ∀ i ∈ s, f i ≤ z := Finset.fold_max_le z

theorem reduce_le {s t u : Shape} {φ : FTy} {axes : List (Fin s.rank)} (x : FVec Ideal s φ) (init : FVec Ideal u φ) (h : s.ReducesTo axes t)
    (hu : 0 < u.numel) (j : t.Idx) (z : EReal) :
    (show EReal from Host.reduce (α := Ideal φ) FloatOps.maximumf x init h hu j) ≤ z
      ↔ (show EReal from init (Shape.Idx.first hu)) ≤ z ∧ ∀ i, h.drop i = j → (show EReal from x i) ≤ z := by
  have e := Host.reduce_eq_fold (f := (FloatOps.maximumf : Ideal φ → Ideal φ → Ideal φ)) x init h hu j
  rw [e]
  refine (fold_le _ _ _ _).trans ?_
  simp only [Finset.mem_filter, Finset.mem_univ, true_and]

variable {n0 n1 n2 n3 : ℕ}

theorem reduce3_le {u : Shape} {φ : FTy} (x : FVec Ideal ⟨3, ![n0, n1, n2]⟩ φ) (init : FVec Ideal u φ)
    (h : Shape.ReducesTo ⟨3, ![n0, n1, n2]⟩ [2] ⟨2, ![n0, n1]⟩) (hu : 0 < u.numel) (a : Fin n0) (b : Fin n1) (z : EReal) :
    (show EReal from Host.reduce (α := Ideal φ) FloatOps.maximumf x init h hu (ix2 a b)) ≤ z
      ↔ (show EReal from init (Shape.Idx.first hu)) ≤ z ∧ ∀ k, (show EReal from x (ix3 a b k)) ≤ z := by
  rw [reduce_le]
  refine and_congr Iff.rfl ⟨fun H k => H _ ((h.fiber_r3_a2 _ _).2 ⟨k, rfl⟩), fun H i hi => ?_⟩
  obtain ⟨k, rfl⟩ := (h.fiber_r3_a2 _ _).1 hi
  exact H k

theorem reduce4_le {u : Shape} {φ : FTy} (x : FVec Ideal ⟨4, ![n0, n1, n2, n3]⟩ φ) (init : FVec Ideal u φ)
    (h : Shape.ReducesTo ⟨4, ![n0, n1, n2, n3]⟩ [3] ⟨3, ![n0, n1, n2]⟩) (hu : 0 < u.numel) (a : Fin n0) (b : Fin n1) (c : Fin n2) (z : EReal) :
    (show EReal from Host.reduce (α := Ideal φ) FloatOps.maximumf x init h hu (ix3 a b c)) ≤ z
      ↔ (show EReal from init (Shape.Idx.first hu)) ≤ z ∧ ∀ k, (show EReal from x (ix4 a b c k)) ≤ z := by
  rw [reduce_le]
  refine and_congr Iff.rfl ⟨fun H k => H _ ((h.fiber_r4_a3 _ _).2 ⟨k, rfl⟩), fun H i hi => ?_⟩
  obtain ⟨k, rfl⟩ := (h.fiber_r4_a3 _ _).1 hi
  exact H k

theorem maximumf_le {s : Shape} {φ : FTy} (x y : FVec Ideal s φ) (i : s.Idx) (z : EReal) :
    (show EReal from maximumf x y i) ≤ z ↔ (show EReal from x i) ≤ z ∧ (show EReal from y i) ≤ z := max_le_iff

/-- The larger of `x` and the row's maximum, `x` and the start being minus infinity. -/
theorem max_reduce4_le {u : Shape} {φ : FTy} (x : FVec Ideal ⟨4, ![n0, n1, n2, n3]⟩ φ) (y : FVec Ideal ⟨3, ![n0, n1, n2]⟩ φ) (init : FVec Ideal u φ)
    (h : Shape.ReducesTo ⟨4, ![n0, n1, n2, n3]⟩ [3] ⟨3, ![n0, n1, n2]⟩) (hu : 0 < u.numel) (a : Fin n0) (b : Fin n1) (c : Fin n2) (z : EReal)
    (hy : (show EReal from y (ix3 a b c)) = ⊥) (hi : (show EReal from init (Shape.Idx.first hu)) = ⊥) :
    (show EReal from maximumf y (Host.reduce (α := Ideal φ) FloatOps.maximumf x init h hu) (ix3 a b c)) ≤ z
      ↔ ∀ k, (show EReal from x (ix4 a b c k)) ≤ z := by
  rw [maximumf_le, reduce4_le, hy, hi]
  exact (and_iff_right bot_le).trans (and_iff_right bot_le)

end Cert.Proof.MaxLe
-- ==== Proof.Value.RefAt.lean ====
/- The reference read at one index: its output is the values weighted by the causal softmax of the scaled inner
   products. -/
module

public import proofs.«01_k».proof.Proof.Gen.ReferenceIdeal.Run
public import proofs.«01_k».proof.Proof.Value.MaxLe

@[expose] public section

set_option maxRecDepth 16384

noncomputable section

namespace Cert.ReferenceIdeal.At

open Idealize.ShloMosaic Idealize.ShloMosaic.TcCoe
open Cert.ReferenceIdeal Cert.ReferenceIdeal.Gen

/-- The causal mask. -/
def causal : IVec S2x8x8192x8192 1 :=
  broadcastInDim S2x8x8192x8192 ![2, 3] bcast_S8192x8192_S2x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

variable (Q K : FVec Ideal S2x8192x8x96 .f32) (V : FVec Ideal S2x8192x8x64 .f32)

/-- The logits, minus infinity where the key comes after the query. -/
def masked : FVec Ideal S2x8x8192x8192 .f32 :=
  select causal (Host.divf (Host.dotGeneral dot_S2x8192x8x96_S2x8192x8x96_S2x8x8192x8192_3_3_1_1_02_02 none Q K) (broadcastInDim S2x8x8192x8192 ![] bcast_S_S2x8x8192x8192 (Host.sqrt (constant S_ .f32 0x42C00000#32)))) (broadcastInDim S2x8x8192x8192 ![] bcast_S_S2x8x8192x8192 (id (constant S_ .f32 0xFF800000#32)))

/-- The largest logit of a row. -/
def top : FVec Ideal S2x8x8192 .f32 :=
  maximumf (broadcastInDim S2x8x8192 ![] bcast_S_S2x8x8192 (constant S_ .f32 0xFF800000#32)) (Host.reduce FloatOps.maximumf (masked Q K) (constant S_ .f32 0xFF800000#32) reducesTo_S2x8x8192x8192_S2x8x8192_d3 h_S_)

/-- The exponentials of the logits less the largest. -/
def raised : FVec Ideal S2x8x8192x8192 .f32 :=
  Host.exp (subf (masked Q K) (broadcastInDim S2x8x8192x8192 ![0, 1, 2, 3] bcast_S2x8x8192x1_S2x8x8192x8192_0_1_2_3 (broadcastInDim S2x8x8192x1 ![0, 1, 2] bcast_S2x8x8192_S2x8x8192x1_0_1_2 (top Q K))))

/-- The weights. -/
def prob : FVec Ideal S2x8x8192x8192 .f32 :=
  select causal (Host.divf (raised Q K) (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduceAdd (raised Q K) (constant S_ .f32 0x00000000#32) reducesTo_S2x8x8192x8192_S2x8x8192_d3 h_S_)))) (broadcastInDim S2x8x8192x8192 ![] bcast_S_S2x8x8192x8192 (id (constant S_ .f32 0x00000000#32)))

/-- The result. -/
def out : FVec Ideal S512x16384 .f32 :=
  shapeCast _ (transpose S8x64x2x8192 [2, 3, 0, 1] (transpose S2x8192x8x64 [0, 3, 1, 2] (Host.dotGeneral dot_S2x8192x8x64_S2x8x8192x8192_S2x8x64x8192_1_3_3_2_02_01 none V (prob Q K)) transposes_S2x8x64x8192_S2x8192x8x64_0_3_1_2) transposes_S2x8192x8x64_S8x64x2x8192_2_3_0_1) shapeCasts_S8x64x2x8192_S512x16384

theorem res_eq (m : (ℓ : Loc nD τ sig) → Buf (Elt Ideal) ℓ) (c : Dev nD) :
    Value.res_main_v26 m c = out (m ((c.tc : Thread nD τ).loc main_arg0)) (m ((c.tc : Thread nD τ).loc main_arg1)) (m ((c.tc : Thread nD τ).loc main_arg2)) := rfl

theorem low_bits : Ideal.ofBits .f32 0xFF800000#32 = ⊥ := by simp [Ideal.ofBits, Ideal.ieee]

theorem causal_at (b : Fin 2) (h : Fin 8) (s j : Fin 8192) :
    causal (ix4 b h s j) = BitVec.ofBool (decide (j.val ≤ s.val)) := by
  have hs := s.isLt
  have hj := j.isLt
  pointwise [causal]
  have h3 : (BitVec.ofNat 32 j.val).sle (BitVec.ofNat 32 s.val) = decide (j.val ≤ s.val) := by
    rw [BitVec.sle_eq_decide, BitVec.toInt_eq_toNat_of_lt (by simp only [BitVec.toNat_ofNat]; omega), BitVec.toInt_eq_toNat_of_lt (by simp only [BitVec.toNat_ofNat]; omega)]
    simp only [BitVec.toNat_ofNat]
    congr 1
    apply propext
    constructor <;> intro h <;> omega
  simp only [IntOp.cmpi, h3]

theorem masked_at (b : Fin 2) (h : Fin 8) (s j : Fin 8192) :
    masked Q K (ix4 b h s j) = if j.val ≤ s.val then
      Ideal.div (∑ d : Fin 96, Q (ix4 b s h d) * K (ix4 b j h d)) (Ideal.sqrt (Ideal.ofBits .f32 0x42C00000#32)) else ⊥ := by
  have e := causal_at b h s j
  pointwise [masked]
  rw [e]
  by_cases hc : j.val ≤ s.val
  · simp only [hc, decide_true, if_true]; rfl
  · simp only [hc, decide_false, if_false]; exact low_bits

theorem low_first : (show EReal from constant (F := Ideal) S_ .f32 0xFF800000#32 (Shape.Idx.first h_S_)) = ⊥ := by
  pointwise
  exact low_bits

theorem low_at (b : Fin 2) (h : Fin 8) (s : Fin 8192) :
    (show EReal from broadcastInDim S2x8x8192 ![] bcast_S_S2x8x8192 (constant (F := Ideal) S_ .f32 0xFF800000#32) (ix3 b h s)) = ⊥ := by
  pointwise
  exact low_bits

/-- The largest logit is the least upper bound of the row. -/
theorem top_le (b : Fin 2) (h : Fin 8) (s : Fin 8192) (z : EReal) :
    (show EReal from top Q K (ix3 b h s)) ≤ z ↔ ∀ j : Fin 8192, (show EReal from masked Q K (ix4 b h s j)) ≤ z := by
  unfold top
  exact Cert.Proof.MaxLe.max_reduce4_le (masked Q K) _ _ reducesTo_S2x8x8192x8192_S2x8x8192_d3 h_S_ b h s z (low_at b h s) low_first

theorem raised_at (b : Fin 2) (h : Fin 8) (s j : Fin 8192) :
    raised Q K (ix4 b h s j) = Ideal.exp (masked Q K (ix4 b h s j) - top Q K (ix3 b h s)) := by
  pointwise [raised]

theorem prob_at (b : Fin 2) (h : Fin 8) (s j : Fin 8192) :
    prob Q K (ix4 b h s j) = if j.val ≤ s.val then
      Ideal.div (raised Q K (ix4 b h s j)) (∑ i : Fin 8192, raised Q K (ix4 b h s i)) else 0 := by
  have e := causal_at b h s j
  pointwise [prob]
  rw [e]
  by_cases hc : j.val ≤ s.val
  · simp only [hc, decide_true, if_true]; rfl
  · simp only [hc, decide_false, if_false]; exact Ideal.ofBits_zero_f32

theorem out_at (b : Fin 2) (h : Fin 8) (s : Fin 8192) (d : Fin 64) :
    out Q K V (ix2 ⟨64 * h.val + d.val, by omega⟩ ⟨8192 * b.val + s.val, by omega⟩)
      = ∑ j : Fin 8192, V (ix4 b j h d) * prob Q K (ix4 b h s j) := by
  pointwise [out]

end Cert.ReferenceIdeal.At
-- ==== Proof.Value.Soft.lean ====
/- The mathematics of a causal softmax accumulated key by key: sums of values weighted by powers of two, over the
   extended reals.  The values may be infinite; the logits are real, and the weights are real and not negative, so
   that a common factor of the weights passes through the sums. -/
module

public import Idealize.ShloMosaic.Lib.Pointwise

@[expose] public section

noncomputable section

namespace Cert.Proof.Soft

open Idealize.ShloMosaic

/-- A real factor that is not negative passes through a finite sum of extended reals. -/
theorem mul_sum {ι : Type*} (s : Finset ι) (f : ι → EReal) {c : ℝ} (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.2 hc) (EReal.coe_ne_top c) _ _

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logit of key `j` for the query at position `p`: minus infinity where the key comes after the query. -/
def logit (t : ℕ → ℝ) (p j : ℕ) : EReal := if j ≤ p then (t j : EReal) else ⊥

/-- The weight of key `j` against the number `M`. -/
def wt (t : ℕ → ℝ) (p : ℕ) (M : ℝ) (j : ℕ) : ℝ := if j ≤ p then (2 : ℝ) ^ (t j - M) else 0

theorem wt_nonneg (t : ℕ → ℝ) (p : ℕ) (M : ℝ) (j : ℕ) : 0 ≤ wt t p M j := by
  unfold wt; split
  · positivity
  · exact le_rfl

/-- The power of two of a logit less `M` is the weight. -/
theorem exp2_logit (t : ℕ → ℝ) (p : ℕ) (M : ℝ) (j : ℕ) : Ideal.exp2 (logit t p j - (M : EReal)) = (wt t p M j : EReal) := by
  unfold logit wt
  split
  · rw [← EReal.coe_sub, Ideal.exp2_coe]; rfl
  · rw [EReal.bot_sub, Ideal.exp2_bot]; rfl

theorem wt_shift (t : ℕ → ℝ) (p : ℕ) (M M' : ℝ) (j : ℕ) : (2 : ℝ) ^ (M - M') * wt t p M j = wt t p M' j := by
  unfold wt
  split
  · rw [← Real.rpow_add (by norm_num)]; congr 1; ring
  · exact mul_zero _

/-- The weighted sum of the first `n` keys. -/
def acc (v : ℕ → EReal) (t : ℕ → ℝ) (p : ℕ) (M : ℝ) (n : ℕ) : EReal := ∑ j ∈ Finset.range n, v j * (wt t p M j : EReal)

theorem acc_add (v : ℕ → EReal) (t : ℕ → ℝ) (p : ℕ) (M : ℝ) (n k : ℕ) :
    acc v t p M (n + k) = acc v t p M n + ∑ r : Fin k, v (n + r.val) * (wt t p M (n + r.val) : EReal) := by
  unfold acc
  rw [Finset.sum_range_add, Finset.sum_range (fun x => v (n + x) * (wt t p M (n + x) : EReal))]

/-- Scaling to another number scales every weight. -/
theorem acc_shift (v : ℕ → EReal) (t : ℕ → ℝ) (p : ℕ) (M M' : ℝ) (n : ℕ) :
    Ideal.exp2 ((M : EReal) - (M' : EReal)) * acc v t p M n = acc v t p M' n := by
  have h : Ideal.exp2 ((M : EReal) - (M' : EReal)) = (((2 : ℝ) ^ (M - M') : ℝ) : EReal) := by
    rw [← EReal.coe_sub, Ideal.exp2_coe]; rfl
  unfold acc
  rw [h, mul_sum _ _ (by positivity)]
  refine Finset.sum_congr rfl fun j _ => ?_
  rw [← mul_assoc, mul_comm (((2 : ℝ) ^ (M - M') : ℝ) : EReal) (v j), mul_assoc, ← EReal.coe_mul, wt_shift]

/-- Past the query no key has weight. -/
theorem acc_past (v : ℕ → EReal) (t : ℕ → ℝ) (p : ℕ) (M : ℝ) {n N : ℕ} (h : n ≤ N) (hp : p < n) : acc v t p M N = acc v t p M n := by
  unfold acc
  refine (Finset.sum_subset (Finset.range_subset_range.2 h) fun j _ hj => ?_).symm
  have : ¬ j ≤ p := fun hle => hj (Finset.mem_range.2 (lt_of_le_of_lt hle hp))
  rw [wt, if_neg this]; simp

/-- The sum of the weights of the first `n` keys, a positive number as soon as there is a key. -/
def mass (t : ℕ → ℝ) (p : ℕ) (M : ℝ) (n : ℕ) : ℝ := ∑ j ∈ Finset.range n, wt t p M j

theorem mass_pos (t : ℕ → ℝ) (p : ℕ) (M : ℝ) {n : ℕ} (h : 0 < n) : 0 < mass t p M n := by
  refine Finset.sum_pos' (fun j _ => wt_nonneg t p M j) ⟨0, Finset.mem_range.2 h, ?_⟩
  rw [wt, if_pos (Nat.zero_le p)]; positivity

theorem acc_ones (t : ℕ → ℝ) (p : ℕ) (M : ℝ) (n : ℕ) : acc (fun _ => 1) t p M n = (mass t p M n : EReal) := by
  unfold acc mass; rw [coe_sum]; simp

theorem mass_shift (t : ℕ → ℝ) (p : ℕ) (M M' : ℝ) (n : ℕ) : (2 : ℝ) ^ (M - M') * mass t p M n = mass t p M' n := by
  unfold mass; rw [Finset.mul_sum]; exact Finset.sum_congr rfl fun j _ => wt_shift t p M M' j

/-- The softmax weight of key `j` among the first `n` keys. -/
def soft (t : ℕ → ℝ) (p n j : ℕ) : ℝ := wt t p 0 j / mass t p 0 n

/-- The softmax weight does not depend on the number subtracted. -/
theorem soft_eq (t : ℕ → ℝ) (p : ℕ) (M : ℝ) {n : ℕ} (h : 0 < n) (j : ℕ) : wt t p M j / mass t p M n = soft t p n j := by
  have h0 := (mass_pos t p 0 h).ne'
  have hM := (mass_pos t p M h).ne'
  have h2 : (2 : ℝ) ^ (0 - M) ≠ 0 := by positivity
  unfold soft
  rw [← wt_shift t p 0 M j, ← mass_shift t p 0 M n, mul_div_mul_left _ _ h2]

/-- What a query's accumulated values divided by its accumulated weights are: the values weighted by the softmax. -/
theorem acc_div (v : ℕ → EReal) (t : ℕ → ℝ) (p : ℕ) (M : ℝ) {n N : ℕ} (h : 0 < n) (hN : n ≤ N) (hp : p < n) :
    acc v t p M n * Ideal.div 1 (acc (fun _ => 1) t p M n) = ∑ j : Fin N, v j.val * (soft t p N j.val : EReal) := by
  have hpos := mass_pos t p M h
  have hd : Ideal.div 1 (acc (fun _ => 1) t p M n) = ((mass t p M n)⁻¹ : ℝ) := by
    rw [acc_ones]
    unfold Ideal.div
    rw [if_neg (fun e => hpos.ne' (EReal.coe_eq_zero.1 e)), one_mul, EReal.coe_inv]
  have hm : mass t p M N = mass t p M n := by
    have := acc_past (fun _ => 1) t p M hN hp
    rw [acc_ones, acc_ones] at this
    exact EReal.coe_injective this
  rw [hd, ← acc_past v t p M hN hp, mul_comm, acc, mul_sum _ _ (inv_nonneg.2 hpos.le), Finset.sum_range]
  refine Finset.sum_congr rfl fun j _ => ?_
  rw [mul_comm, mul_assoc, ← EReal.coe_mul, ← div_eq_mul_inv, ← hm, soft_eq t p M (lt_of_lt_of_le h hN)]

/-- The maximum of finitely many extended reals below infinity is below infinity. -/
theorem fold_max_lt_top {ι : Type*} (s : Finset ι) (f : ι → EReal) (h : ∀ i ∈ s, f i < ⊤) : s.fold max ⊥ f < ⊤ :=
  Finset.fold_max_lt _ |>.2 ⟨bot_lt_top, h⟩

theorem logit_lt_top (t : ℕ → ℝ) (p j : ℕ) : logit t p j < ⊤ := by
  unfold logit; split
  · exact EReal.coe_lt_top _
  · exact bot_lt_top

theorem logit_zero (t : ℕ → ℝ) (p : ℕ) : logit t p 0 = (t 0 : EReal) := if_pos (Nat.zero_le p)

end Cert.Proof.Soft
-- ==== Proof.Value.HostAt.lean ====
/- The kernel's operands read at one index: the scaled queries, the keys and the values in the layout of the
   projections, and the largest key norm of every head. -/
module

public import proofs.«01_k».proof.Proof.Gen.KernelIdeal.Frame
public import proofs.«01_k».proof.Proof.Value.MaxLe
public import Idealize.ShloMosaic.Lib.Claim

@[expose] public section

set_option maxRecDepth 16384

noncomputable section

namespace Cert.KernelIdeal.At

open Idealize.ShloMosaic Idealize.ShloMosaic.TcCoe
open Cert.KernelIdeal Cert.KernelIdeal.Gen

variable (Q K : FVec Ideal S2x8192x8x96 .f32) (V : FVec Ideal S2x8192x8x64 .f32)

/-- The divisor of the queries. -/
def scale : FVec Ideal S_ .f32 := mulf (Host.sqrt (constant S_ .f32 0x42C00000#32)) (Host.log (constant S_ .f32 0x40000000#32))

/-- The queries, channels first, scaled and padded with zeros. -/
def hostQ : FVec Ideal S8x128x16384 .bf16 :=
  truncf .bf16 (concatenate S8x128x16384 1
    [⟨S8x96x16384, Host.divf (shapeCast S8x96x16384 (transpose S8x96x2x8192 [2, 3, 0, 1] Q transposes_S2x8192x8x96_S8x96x2x8192_2_3_0_1) shapeCasts_S8x96x2x8192_S8x96x16384)
        (broadcastInDim S8x96x16384 ![] bcast_S_S8x96x16384 scale)⟩,
      ⟨S8x32x16384, broadcastInDim S8x32x16384 ![] bcast_S_S8x32x16384 (constant (F := Ideal) S_ .f32 0x00000000#32)⟩]
    concatenates_S8x96x16384_S8x32x16384_S8x128x16384_d1) bitsLt_bf16_f32

/-- The keys by head and token. -/
def hostY : FVec Ideal S8x16384x96 .f32 :=
  shapeCast S8x16384x96 (transpose S8x2x8192x96 [2, 0, 1, 3] K transposes_S2x8192x8x96_S8x2x8192x96_2_0_1_3) shapeCasts_S8x2x8192x96_S8x16384x96

/-- The keys, padded with zeros. -/
def hostK : FVec Ideal S8x16384x128 .bf16 :=
  truncf .bf16 (concatenate S8x16384x128 2
    [⟨S8x16384x96, hostY K⟩, ⟨S8x16384x32, broadcastInDim S8x16384x32 ![] bcast_S_S8x16384x32 (constant (F := Ideal) S_ .f32 0x00000000#32)⟩]
    concatenates_S8x16384x96_S8x16384x32_S8x16384x128_d2) bitsLt_bf16_f32

/-- The squared norms of the keys. -/
def hostN : FVec Ideal S8x16384 .f32 :=
  Host.reduceAdd (mulf (hostY K) (hostY K)) (constant (F := Ideal) S_ .f32 0x00000000#32) reducesTo_S8x16384x96_S8x16384_d2 h_S_

/-- The largest key norm of every head and batch. -/
def hostW : FVec Ideal S16 .f32 :=
  shapeCast S16 (Host.sqrt (Host.reduce FloatOps.maximumf (shapeCast S8x2x8192 (hostN K) shapeCasts_S8x16384_S8x2x8192 : FVec Ideal S8x2x8192 .f32)
    (constant (F := Ideal) S_ .f32 0xFF800000#32) reducesTo_S8x2x8192_S8x2_d2 h_S_ : FVec Ideal S8x2 .f32)) shapeCasts_S8x2_S16

/-- The values, channels first, with the rows of ones below, by tiles of keys. -/
def hostV : FVec Ideal S8x32x80x512 .bf16 :=
  transpose S8x32x80x512 [0, 2, 1, 3] (shapeCast S8x80x32x512 (truncf .bf16 (concatenate S8x80x16384 1
    [⟨S8x64x16384, shapeCast S8x64x16384 (transpose S8x64x2x8192 [2, 3, 0, 1] V transposes_S2x8192x8x64_S8x64x2x8192_2_3_0_1) shapeCasts_S8x64x2x8192_S8x64x16384⟩,
      ⟨S8x16x16384, broadcastInDim S8x16x16384 ![] bcast_S_S8x16x16384 (constant (F := Ideal) S_ .f32 0x3F800000#32)⟩]
    concatenates_S8x64x16384_S8x16x16384_S8x80x16384_d1) bitsLt_bf16_f32) shapeCasts_S8x80x16384_S8x80x32x512) transposes_S8x80x32x512_S8x32x80x512_0_2_1_3

theorem hostQ_at (h : Fin 8) (d : Fin 128) (b : Fin 2) (s : Fin 8192) :
    hostQ Q (ix3 h d ⟨8192 * b.val + s.val, by omega⟩) = if hd : d.val < 96 then
      Ideal.div (Q (ix4 b s h ⟨d.val, hd⟩)) (Ideal.sqrt (Ideal.ofBits .f32 0x42C00000#32) * Ideal.log (Ideal.ofBits .f32 0x40000000#32)) else 0 := by
  pointwise [hostQ, scale]

theorem hostY_at (h : Fin 8) (b : Fin 2) (s : Fin 8192) (d : Fin 96) :
    hostY K (ix3 h ⟨8192 * b.val + s.val, by omega⟩ d) = K (ix4 b s h d) := by
  pointwise [hostY]

theorem hostK_at (h : Fin 8) (b : Fin 2) (s : Fin 8192) (d : Fin 128) :
    hostK K (ix3 h ⟨8192 * b.val + s.val, by omega⟩ d) = if hd : d.val < 96 then K (ix4 b s h ⟨d.val, hd⟩) else 0 := by
  pointwise [hostK]
  split
  · exact hostY_at K h b s _
  · rfl

theorem hostN_at (h : Fin 8) (x : Fin 16384) :
    hostN K (ix2 h x) = ∑ d : Fin 96, hostY K (ix3 h x d) * hostY K (ix3 h x d) := by
  pointwise [hostN]

theorem hostV_at (h : Fin 8) (j : Fin 16) (d : Fin 80) (r : Fin 512) (b : Fin 2) :
    hostV V (ix4 h ⟨16 * b.val + j.val, by omega⟩ d r) = if hd : d.val < 64 then V (ix4 b ⟨512 * j.val + r.val, by omega⟩ h ⟨d.val, hd⟩) else 1 := by
  pointwise [hostV]
  split
  · refine congrArg (fun x => V (ix4 b x h _)) (Fin.ext ?_)
    show ((16 * b.val + j.val) * 512 + r.val) % 8192 = 512 * j.val + r.val
    omega
  · rfl

variable (m : (ℓ : Loc nD τ sig) → Buf (Elt Ideal) ℓ) (c : Dev nD)

theorem read_q : Gen.V m c main_v9 = hostQ (m ((c : Thread nD τ).loc main_arg0)) := by
  entry_read
  rfl
theorem read_k : Gen.V m c main_v16 = hostK (m ((c : Thread nD τ).loc main_arg1)) := by
  entry_read
  rfl
theorem read_v : Gen.V m c main_v23 = hostV (m ((c : Thread nD τ).loc main_arg2)) := by
  entry_read
  rfl
theorem read_w : Gen.V m c main_v27 = hostW (m ((c : Thread nD τ).loc main_arg1)) := by
  entry_read
  rfl

end Cert.KernelIdeal.At
-- ==== Proof.Value.TileAt.lean ====
/- The kernel's tile functions read at one index, over the extended reals. -/
module

public import proofs.«01_k».proof.Proof.BodyI.Tiles
public import Idealize.ShloMosaic.Lib.Pointwise

@[expose] public section

set_option maxRecDepth 16384

noncomputable section

namespace Cert.KernelIdeal.At

open Idealize.ShloMosaic Idealize.ShloMosaic.TcCoe
open Cert.KernelIdeal.Gen Cert.KernelIdeal.Body

/-- A score is the inner product of a key and a query. -/
theorem score_at (k : FVec Ideal S1x512x128 .bf16) (q : FVec Ideal S1x128x1024 .bf16) (r : Fin 512) (l : Fin 1024) :
    score k q (ix2 r l) = ∑ d : Fin 128, k (ix3 0 r d) * q (ix3 0 d l) := by
  pointwise [score]

/-- The pattern the running maximum starts from is minus infinity. -/
theorem low_bits : Ideal.ofBits .f32 0xFF800000#32 = ⊥ := by simp [Ideal.ofBits, Ideal.ieee]

/-- Where the key's position is past the query's, the score is minus infinity. -/
theorem mask_at (n j : ℕ) (hn : n < 8) (hj : j < 16) (s : FVec Ideal S512x1024 .f32) (r : Fin 512) (l : Fin 1024) :
    mask (BitVec.ofNat 32 n) (BitVec.ofNat 32 j) s (ix2 r l) = if j * 512 + r.val ≤ n * 1024 + l.val then s (ix2 r l) else ⊥ := by
  have e : Named.named κ "minus_inf" 4048155338#32 = (⊥ : Ideal .f32) := rfl
  have hr := r.isLt
  have hl := l.isLt
  pointwise [mask]
  rw [e]
  have h1 : IntOp.addi (Scalar.muli (BitVec.ofNat 32 j) 512#32) (BitVec.ofNat 32 r.val) = BitVec.ofNat 32 (j * 512 + r.val) := by
    apply BitVec.eq_of_toNat_eq
    simp only [IntOp.addi, Scalar.muli, IntOp.muli, BitVec.toNat_add, BitVec.toNat_mul, BitVec.toNat_ofNat]
    omega
  have h2 : IntOp.addi (Scalar.muli (BitVec.ofNat 32 n) 1024#32) (BitVec.ofNat 32 l.val) = BitVec.ofNat 32 (n * 1024 + l.val) := by
    apply BitVec.eq_of_toNat_eq
    simp only [IntOp.addi, Scalar.muli, IntOp.muli, BitVec.toNat_add, BitVec.toNat_mul, BitVec.toNat_ofNat]
    omega
  rw [h1, h2]
  have h3 : (BitVec.ofNat 32 (j * 512 + r.val)).sle (BitVec.ofNat 32 (n * 1024 + l.val)) = decide (j * 512 + r.val ≤ n * 1024 + l.val) := by
    rw [BitVec.sle_eq_decide, BitVec.toInt_eq_toNat_of_lt (by simp only [BitVec.toNat_ofNat]; omega), BitVec.toInt_eq_toNat_of_lt (by simp only [BitVec.toNat_ofNat]; omega)]
    simp only [BitVec.toNat_ofNat]
    congr 1
    apply propext
    constructor <;> intro h <;> omega
  simp only [IntOp.cmpi, h3, Scalar.select]
  by_cases h : j * 512 + r.val ≤ n * 1024 + l.val <;> simp [h]

/-- The weighted values of a tile. -/
theorem weigh_at (m : FVec Ideal S1x1024 .f32) (s : FVec Ideal S512x1024 .f32) (v : FVec Ideal S1x1x80x512 .bf16) (d : Fin 80) (l : Fin 1024) :
    weigh m s v (ix2 d l) = ∑ r : Fin 512, v (ix4 0 0 d r) * Ideal.exp2 (s (ix2 r l) - m (ix2 0 l)) := by
  pointwise [weigh]
  rfl

theorem newMax_at (m : FVec Ideal S1x1024 .f32) (s : FVec Ideal S512x1024 .f32) (l : Fin 1024) :
    newMax m s (ix2 0 l) = max (m (ix2 0 l)) (Finset.univ.fold max ⊥ fun r : Fin 512 => s (ix2 r l)) := by
  pointwise [newMax]
  rw [low_bits]

theorem scaleTile_at (m : FVec Ideal S1x1024 .f32) (s : FVec Ideal S512x1024 .f32) (v : FVec Ideal S1x1x80x512 .bf16) (a : FVec Ideal S80x1024 .f32)
    (d : Fin 80) (l : Fin 1024) :
    scaleTile m s v a (ix2 d l) = Ideal.exp2 (m (ix2 0 l) - newMax m s (ix2 0 l)) * a (ix2 d l) + weigh (newMax m s) s v (ix2 d l) := by
  pointwise [scaleTile]
  rfl

theorem addTile_at (m : FVec Ideal S1x1024 .f32) (s : FVec Ideal S512x1024 .f32) (v : FVec Ideal S1x1x80x512 .bf16) (a : FVec Ideal S80x1024 .f32)
    (d : Fin 80) (l : Fin 1024) :
    addTile m s v a (ix2 d l) = a (ix2 d l) + weigh m s v (ix2 d l) := by
  pointwise [addTile]

theorem zero_at (d : Fin 80) (l : Fin 1024) : k0_pay177 (F := Ideal) (ix2 d l) = 0 := by
  pointwise [k0_pay177]

theorem low_at (l : Fin 1024) : k0_pay164 (F := Ideal) (ix2 0 l) = ⊥ := by
  pointwise [k0_pay164]
  exact low_bits

/-- The bound of the logits of one query: the norm of the query times the scaled key norm. -/
theorem bound_at (q : FVec Ideal S1x128x1024 .bf16) (w : Ideal .f32) (l : Fin 1024) :
    (show FVec Ideal S1x1024 .f32 from k0_pay176 (F := Ideal) q w) (ix2 0 l) = Ideal.sqrt (∑ d : Fin 128, q (ix3 0 d l) * q (ix3 0 d l)) * ((w : EReal) * Ideal.ofBits .f32 0x3F828F5C#32) := by
  pointwise [k0_pay176]

/-- What is written: an accumulated row times the inverse of the row of the weights' sums. -/
theorem final_at (a : FVec Ideal S80x1024 .f32) (d : Fin 64) (l : Fin 1024) :
    k0_pay192 a (ix2 d l) = a (ix2 ⟨d.val, by omega⟩ l) * Ideal.div 1 (a (ix2 64 l)) := by
  pointwise [k0_pay192]

end Cert.KernelIdeal.At
-- ==== Proof.Value.Finite.lean ====
/- What the precondition gives: the queries, the keys and every number computed from them alone are real. -/
module

public import proofs.«01_k».proof.Defs
public import proofs.«01_k».proof.Proof.Gen.Pre_finite_qk
public import proofs.«01_k».proof.Proof.Value.HostAt
public import proofs.«01_k».proof.Proof.Value.TileAt
public import proofs.«01_k».proof.Proof.Value.Soft
public import Idealize.ShloMosaic.Lib.ReduceAll

@[expose] public section

set_option maxRecDepth 16384

noncomputable section

namespace Cert.Proof.Finite

open Idealize.ShloMosaic Idealize.ShloMosaic.TcCoe

theorem real_of_abs_lt (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe r => exact ⟨r, rfl⟩

/-- The precondition makes every query and every key real. -/
theorem real_qk (Q K : FVec Ideal Cert.Pre_finite_qk.S2x8192x8x96 .f32) (V : FVec Ideal Cert.Pre_finite_qk.S2x8192x8x64 .f32)
    (h : Cert.Pre_finite_qk.fn (F := Ideal) Q K V = fun _ => 1#1) :
    (∀ i, ∃ r : ℝ, (Q i : EReal) = (r : EReal)) ∧ ∀ i, ∃ r : ℝ, (K i : EReal) = (r : EReal) := by
  haveI : Subsingleton Cert.Pre_finite_qk.S_.Idx := ⟨fun a b => funext fun x => x.elim0⟩
  have h0 := congrFun h (fun x => x.elim0)
  dsimp only [Cert.Pre_finite_qk.fn] at h0
  obtain ⟨h1, h2⟩ := IntOp.andi_eq_one.1 h0
  exact ⟨fun i => real_of_abs_lt _ (Host.reduce_andi_all _ _ _ _ _ h1 i), fun i => real_of_abs_lt _ (Host.reduce_andi_all _ _ _ _ _ h2 i)⟩

theorem ninety_six : Ideal.ofBits .f32 0x42C00000#32 = ((96 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem margin : ∃ r : ℝ, Ideal.ofBits .f32 0x3F828F5C#32 = (r : EReal) := by
  simp [Ideal.ofBits, Ideal.ieee, -EReal.coe_mul]

theorem sqrt96 : Ideal.sqrt (Ideal.ofBits .f32 0x42C00000#32) = (Real.sqrt 96 : EReal) := by
  rw [ninety_six, Ideal.sqrt_coe, if_neg (by norm_num)]
theorem log2 : Ideal.log (Ideal.ofBits .f32 0x40000000#32) = (Real.log 2 : EReal) := by
  rw [two, Ideal.log_coe, if_neg (by norm_num)]

/-- A quotient of reals by a nonzero real. -/
theorem div_real (x y : ℝ) (h : y ≠ 0) : Ideal.div (x : EReal) (y : EReal) = ((x / y : ℝ) : EReal) := by
  unfold Ideal.div
  rw [if_neg (fun e => h (EReal.coe_eq_zero.1 e)), div_eq_mul_inv, EReal.coe_mul, EReal.coe_inv]

/-- The largest of a row of real numbers that are not negative has a real square root. -/
theorem hostW_real (K : FVec Ideal Cert.KernelIdeal.S2x8192x8x96 .f32) (hK : ∀ i, ∃ r : ℝ, (K i : EReal) = (r : EReal)) (i : Fin 16) :
    ∃ r : ℝ, (Cert.KernelIdeal.At.hostW K (ix1 i) : EReal) = (r : EReal) := by
  have hn : ∀ (h : Fin 8) (x : Fin 16384), ∃ r : ℝ, 0 ≤ r ∧ (Cert.KernelIdeal.At.hostN K (ix2 h x) : EReal) = (r : EReal) := fun h x => by
    have hy : ∀ d : Fin 96, ∃ r : ℝ, (Cert.KernelIdeal.At.hostY K (ix3 h x d) : EReal) = (r : EReal) := fun d => by
      have e := Cert.KernelIdeal.At.hostY_at K h ⟨x.val / 8192, by omega⟩ ⟨x.val % 8192, by omega⟩ d
      have ex : (⟨8192 * (x.val / 8192) + x.val % 8192, by omega⟩ : Fin 16384) = x := Fin.ext (Nat.div_add_mod _ _)
      rw [ex] at e
      rw [e]; exact hK _
    choose y hy using hy
    refine ⟨∑ d, y d * y d, Finset.sum_nonneg fun d _ => mul_self_nonneg _, ?_⟩
    rw [Cert.KernelIdeal.At.hostN_at, Cert.Proof.Soft.coe_sum]
    exact Finset.sum_congr rfl fun d _ => by rw [hy d, EReal.coe_mul]
  have hR : ∀ (h : Fin 8) (b : Fin 2), ∃ r : ℝ, 0 ≤ r ∧ (show EReal from Host.reduce (α := Ideal .f32) FloatOps.maximumf
      (shapeCast Cert.KernelIdeal.S8x2x8192 (Cert.KernelIdeal.At.hostN K) Cert.KernelIdeal.Gen.shapeCasts_S8x16384_S8x2x8192 : FVec Ideal Cert.KernelIdeal.S8x2x8192 .f32)
      (constant (F := Ideal) Cert.KernelIdeal.S_ .f32 0xFF800000#32) Cert.KernelIdeal.Gen.reducesTo_S8x2x8192_S8x2_d2 Cert.KernelIdeal.Gen.h_S_ (ix2 h b)) = (r : EReal) := fun h b => by
    have H := Cert.Proof.MaxLe.reduce3_le (shapeCast Cert.KernelIdeal.S8x2x8192 (Cert.KernelIdeal.At.hostN K) Cert.KernelIdeal.Gen.shapeCasts_S8x16384_S8x2x8192 : FVec Ideal Cert.KernelIdeal.S8x2x8192 .f32)
      (constant (F := Ideal) Cert.KernelIdeal.S_ .f32 0xFF800000#32) Cert.KernelIdeal.Gen.reducesTo_S8x2x8192_S8x2_d2 Cert.KernelIdeal.Gen.h_S_ h b
    have e : (show EReal from constant (F := Ideal) Cert.KernelIdeal.S_ .f32 0xFF800000#32 (Shape.Idx.first Cert.KernelIdeal.Gen.h_S_)) = ⊥ := Cert.KernelIdeal.At.low_bits
    generalize Host.reduce (α := Ideal .f32) FloatOps.maximumf _ _ _ _ _ = R at H ⊢
    change EReal at R
    have hrow : ∀ k : Fin 8192, ∃ r : ℝ, 0 ≤ r ∧ (show EReal from (shapeCast Cert.KernelIdeal.S8x2x8192 (Cert.KernelIdeal.At.hostN K) Cert.KernelIdeal.Gen.shapeCasts_S8x16384_S8x2x8192 : FVec Ideal Cert.KernelIdeal.S8x2x8192 .f32) (ix3 h b k)) = (r : EReal) := fun k => by
      have e : (shapeCast Cert.KernelIdeal.S8x2x8192 (Cert.KernelIdeal.At.hostN K) Cert.KernelIdeal.Gen.shapeCasts_S8x16384_S8x2x8192 : FVec Ideal Cert.KernelIdeal.S8x2x8192 .f32) (ix3 h b k)
          = Cert.KernelIdeal.At.hostN K (ix2 h ⟨8192 * b.val + k.val, by omega⟩) := by
        pointwise
        exact congrArg (fun x => Cert.KernelIdeal.At.hostN K (ix2 h x)) (Fin.ext (by show b.val * 8192 + k.val = 8192 * b.val + k.val; omega))
      rw [e]; exact hn _ _
    choose f hf0 hf using hrow
    obtain ⟨B, hB⟩ := (Set.finite_range f).bddAbove
    have hle : R ≤ (B : EReal) := (H _).2 ⟨by rw [e]; exact bot_le, fun k => by rw [hf k]; exact EReal.coe_le_coe_iff.2 (hB ⟨k, rfl⟩)⟩
    have hge : (f 0 : EReal) ≤ R := by rw [← hf 0]; exact ((H R).1 le_rfl).2 0
    have hR0 : (0 : EReal) ≤ R := le_trans (EReal.coe_nonneg.2 (hf0 0)) hge
    have h1 : R ≠ ⊤ := (lt_of_le_of_lt hle (EReal.coe_lt_top B)).ne
    have h2 : R ≠ ⊥ := (lt_of_lt_of_le EReal.bot_lt_zero hR0).ne'
    refine ⟨R.toReal, ?_, (EReal.coe_toReal h1 h2).symm⟩
    exact EReal.toReal_nonneg hR0
  obtain ⟨r, h0, hr⟩ := hR ⟨i.val / 2, by omega⟩ ⟨i.val % 2, by omega⟩
  refine ⟨Real.sqrt r, ?_⟩
  have e : (Cert.KernelIdeal.At.hostW K (ix1 i) : EReal) = Ideal.sqrt (show EReal from Host.reduce (α := Ideal .f32) FloatOps.maximumf
      (shapeCast Cert.KernelIdeal.S8x2x8192 (Cert.KernelIdeal.At.hostN K) Cert.KernelIdeal.Gen.shapeCasts_S8x16384_S8x2x8192 : FVec Ideal Cert.KernelIdeal.S8x2x8192 .f32)
      (constant (F := Ideal) Cert.KernelIdeal.S_ .f32 0xFF800000#32) Cert.KernelIdeal.Gen.reducesTo_S8x2x8192_S8x2_d2 Cert.KernelIdeal.Gen.h_S_ (ix2 ⟨i.val / 2, by omega⟩ ⟨i.val % 2, by omega⟩)) := by
    unfold Cert.KernelIdeal.At.hostW
    generalize Host.reduce (α := Ideal .f32) FloatOps.maximumf _ _ _ _ = R
    pointwise
  rw [e, hr, Ideal.sqrt_coe, if_neg (not_lt.2 h0)]

/-- The bound of a query's logits is real. -/
theorem bound_real (q : FVec Ideal Cert.KernelIdeal.S1x128x1024 .bf16) (w : Ideal .f32) (l : Fin 1024)
    (hq : ∀ d, ∃ r : ℝ, (q (ix3 0 d l) : EReal) = (r : EReal)) (hw : ∃ r : ℝ, (w : EReal) = (r : EReal)) :
    ∃ M : ℝ, (show FVec Ideal Cert.KernelIdeal.S1x1024 .f32 from Cert.KernelIdeal.Gen.k0_pay176 (F := Ideal) q w) (ix2 0 l) = (M : EReal) := by
  choose f hf using hq
  obtain ⟨r, rfl⟩ := hw
  obtain ⟨u, hu⟩ := margin
  refine ⟨Real.sqrt (∑ d, f d * f d) * (r * u), ?_⟩
  have hs : (∑ d : Fin 128, q (ix3 0 d l) * q (ix3 0 d l) : EReal) = ((∑ d, f d * f d : ℝ) : EReal) := by
    rw [Cert.Proof.Soft.coe_sum]
    exact Finset.sum_congr rfl fun d _ => by rw [hf d, EReal.coe_mul]
  rw [Cert.KernelIdeal.At.bound_at, hs, hu, Ideal.sqrt_coe, if_neg (not_lt.2 (Finset.sum_nonneg fun d _ => mul_self_nonneg _))]
  rw [EReal.coe_mul, EReal.coe_mul]

end Cert.Proof.Finite
-- ==== Proof.Value.RefSoft.lean ====
/- The reference's weights are the causal softmax in powers of two. -/
module

public import proofs.«01_k».proof.Proof.Value.RefAt
public import proofs.«01_k».proof.Proof.Value.Soft
public import proofs.«01_k».proof.Proof.Value.Finite

@[expose] public section

set_option maxRecDepth 16384

noncomputable section

namespace Cert.ReferenceIdeal.At

open Idealize.ShloMosaic Idealize.ShloMosaic.TcCoe
open Cert.ReferenceIdeal Cert.ReferenceIdeal.Gen
open Cert.Proof.Soft Cert.Proof.Finite

/-- The logits in the scale of powers of two: the inner product of a query and a key over `√96 · log 2`. -/
def expo (Qr Kr : S2x8192x8x96.Idx → ℝ) (b : Fin 2) (h : Fin 8) (s : Fin 8192) (j : ℕ) : ℝ :=
  (∑ d : Fin 96, Qr (ix4 b s h d) * Kr (ix4 b ⟨j % 8192, Nat.mod_lt _ (by decide)⟩ h d)) / (Real.sqrt 96 * Real.log 2)

/-- An exponential in powers of two. -/
theorem exp_pow (x M : ℝ) : Real.exp (x * Real.log 2 - M) = (2 : ℝ) ^ (x - M / Real.log 2) := by
  have h2 : Real.log 2 ≠ 0 := (Real.log_pos (by norm_num)).ne'
  rw [Real.rpow_def_of_pos (by norm_num)]
  congr 1
  field_simp

theorem scale_pos : 0 < Real.sqrt 96 * Real.log 2 := mul_pos (Real.sqrt_pos.2 (by norm_num)) (Real.log_pos (by norm_num))

theorem expo_at (Qr Kr : S2x8192x8x96.Idx → ℝ) (b : Fin 2) (h : Fin 8) (s j : Fin 8192) :
    expo Qr Kr b h s j.val = (∑ d : Fin 96, Qr (ix4 b s h d) * Kr (ix4 b j h d)) / (Real.sqrt 96 * Real.log 2) := by
  have e : (⟨j.val % 8192, Nat.mod_lt _ (by decide)⟩ : Fin 8192) = j := Fin.ext (Nat.mod_eq_of_lt j.isLt)
  unfold expo; rw [e]

variable (Q K : FVec Ideal S2x8192x8x96 .f32) (Qr Kr : S2x8192x8x96.Idx → ℝ)

theorem masked_real (hQ : ∀ i, (Q i : EReal) = (Qr i : EReal)) (hK : ∀ i, (K i : EReal) = (Kr i : EReal)) (b : Fin 2) (h : Fin 8) (s j : Fin 8192) :
    (masked Q K (ix4 b h s j) : EReal) = if j.val ≤ s.val then ((expo Qr Kr b h s j.val * Real.log 2 : ℝ) : EReal) else ⊥ := by
  have hsum : (∑ d : Fin 96, Q (ix4 b s h d) * K (ix4 b j h d) : EReal) = ((∑ d : Fin 96, Qr (ix4 b s h d) * Kr (ix4 b j h d) : ℝ) : EReal) := by
    rw [coe_sum]
    exact Finset.sum_congr rfl fun d _ => by rw [hQ, hK, EReal.coe_mul]
  have h2 : Real.log 2 ≠ 0 := (Real.log_pos (by norm_num)).ne'
  have h96 : Real.sqrt 96 ≠ 0 := (Real.sqrt_pos.2 (by norm_num)).ne'
  rw [masked_at, hsum, sqrt96, div_real _ _ h96, expo_at]
  refine if_congr Iff.rfl (congrArg _ ?_) rfl
  field_simp

theorem top_real (hQ : ∀ i, (Q i : EReal) = (Qr i : EReal)) (hK : ∀ i, (K i : EReal) = (Kr i : EReal)) (b : Fin 2) (h : Fin 8) (s : Fin 8192) :
    ∃ M : ℝ, (top Q K (ix3 b h s) : EReal) = (M : EReal) := by
  have H := top_le Q K b h s
  generalize top Q K (ix3 b h s) = R at H ⊢
  change EReal at R
  obtain ⟨B, hB⟩ := (Set.finite_range fun j : Fin 8192 => expo Qr Kr b h s j.val * Real.log 2).bddAbove
  have hle : R ≤ (B : EReal) := (H _).2 fun j => by
    rw [masked_real Q K Qr Kr hQ hK]
    split
    · exact EReal.coe_le_coe_iff.2 (hB ⟨j, rfl⟩)
    · exact bot_le
  have hge : (masked Q K (ix4 b h s 0) : EReal) ≤ R := (H R).1 le_rfl 0
  rw [masked_real Q K Qr Kr hQ hK, if_pos (show (0 : Fin 8192).val ≤ s.val from Nat.zero_le _)] at hge
  have h1 : R ≠ ⊤ := (lt_of_le_of_lt hle (EReal.coe_lt_top B)).ne
  have h2 : R ≠ ⊥ := (lt_of_lt_of_le (EReal.bot_lt_coe _) hge).ne'
  exact ⟨R.toReal, (EReal.coe_toReal h1 h2).symm⟩

theorem prob_soft (hQ : ∀ i, (Q i : EReal) = (Qr i : EReal)) (hK : ∀ i, (K i : EReal) = (Kr i : EReal)) (b : Fin 2) (h : Fin 8) (s j : Fin 8192) :
    (prob Q K (ix4 b h s j) : EReal) = (soft (expo Qr Kr b h s) s.val 8192 j.val : EReal) := by
  obtain ⟨M, hM⟩ := top_real Q K Qr Kr hQ hK b h s
  have h2 : Real.log 2 ≠ 0 := (Real.log_pos (by norm_num)).ne'
  have hr : ∀ j : Fin 8192, (raised Q K (ix4 b h s j) : EReal) = (wt (expo Qr Kr b h s) s.val (M / Real.log 2) j.val : EReal) := fun j => by
    rw [raised_at, masked_real Q K Qr Kr hQ hK, hM]
    unfold wt
    split
    · rw [← EReal.coe_sub, Ideal.exp_coe, exp_pow]
    · rw [EReal.bot_sub, Ideal.exp_bot]; rfl
  have hs : (∑ i : Fin 8192, raised Q K (ix4 b h s i) : EReal) = (mass (expo Qr Kr b h s) s.val (M / Real.log 2) 8192 : EReal) := by
    unfold mass
    rw [Finset.sum_range, coe_sum]
    exact Finset.sum_congr rfl fun i _ => hr i
  rw [prob_at, hs, hr, div_real _ _ (mass_pos _ _ _ (by norm_num)).ne', soft_eq _ _ _ (by norm_num)]
  split
  · rfl
  · rename_i hc
    unfold soft wt
    rw [if_neg hc, zero_div]; rfl

end Cert.ReferenceIdeal.At
-- ==== Proof.Value.Row.lean ====
/- One query of one block: both accumulations of the kernel compute, column by column, the values weighted by the
   causal softmax. -/
module

public import proofs.«01_k».proof.Proof.Value.TileAt
public import proofs.«01_k».proof.Proof.Value.Soft

@[expose] public section

set_option maxRecDepth 16384

noncomputable section

namespace Cert.KernelIdeal.At

open Idealize.ShloMosaic Idealize.ShloMosaic.TcCoe
open Cert.KernelIdeal.Gen Cert.KernelIdeal.Body
open Cert.Proof.Soft

section Tiles

variable (S : ℕ → FVec Ideal S512x1024 .f32) (V : ℕ → FVec Ideal S1x1x80x512 .bf16) (l : Fin 1024) (t : ℕ → ℝ) (p : ℕ) (val : Fin 80 → ℕ → EReal)

/-- A tile's weighted values are the weighted sum over its keys. -/
theorem weigh_row (hS : ∀ j < 16, ∀ r : Fin 512, S j (ix2 r l) = logit t p (512 * j + r.val))
    (hV : ∀ j < 16, ∀ d r, V j (ix4 0 0 d r) = val d (512 * j + r.val)) (m : FVec Ideal S1x1024 .f32) (M : ℝ) (hm : m (ix2 0 l) = (M : EReal))
    (j : ℕ) (hj : j < 16) (d : Fin 80) :
    weigh m (S j) (V j) (ix2 d l) = ∑ r : Fin 512, val d (512 * j + r.val) * (wt t p M (512 * j + r.val) : EReal) := by
  rw [weigh_at]
  refine Finset.sum_congr rfl fun r _ => ?_
  rw [hS j hj r, hV j hj d r, hm, ← exp2_logit]

/-- Against a fixed real bound. -/
theorem accB_row (hS : ∀ j < 16, ∀ r : Fin 512, S j (ix2 r l) = logit t p (512 * j + r.val))
    (hV : ∀ j < 16, ∀ d r, V j (ix4 0 0 d r) = val d (512 * j + r.val)) (m : FVec Ideal S1x1024 .f32) (M : ℝ) (hm : m (ix2 0 l) = (M : EReal))
    (d : Fin 80) : ∀ T ≤ 16, accB m S V T (ix2 d l) = acc (val d) t p M (512 * T)
  | 0, _ => by rw [accB, zero_at]; simp [acc]
  | T + 1, h => by
    rw [accB, addTile_at, accB_row hS hV m M hm d T (by omega), weigh_row S V l t p val hS hV m M hm T (by omega) d,
      Nat.mul_succ, acc_add]

/-- The running maximum stays real once a key has been seen. -/
theorem newMax_real (hS : ∀ j < 16, ∀ r : Fin 512, S j (ix2 r l) = logit t p (512 * j + r.val)) (m : FVec Ideal S1x1024 .f32) (j : ℕ) (hj : j < 16)
    (h : (j = 0 ∧ m (ix2 0 l) = (⊥ : EReal)) ∨ ∃ M : ℝ, m (ix2 0 l) = (M : EReal)) :
    ∃ M : ℝ, newMax m (S j) (ix2 0 l) = (M : EReal) := by
  rw [newMax_at]
  have ht : (Finset.univ.fold max ⊥ fun r : Fin 512 => (S j (ix2 r l) : EReal)) < ⊤ :=
    fold_max_lt_top _ _ fun r _ => by rw [hS j hj r]; exact logit_lt_top t p _
  have hlt : max (m (ix2 0 l) : EReal) (Finset.univ.fold max ⊥ fun r : Fin 512 => (S j (ix2 r l) : EReal)) < ⊤ := by
    refine max_lt ?_ ht
    rcases h with ⟨_, e⟩ | ⟨M, e⟩ <;> rw [e]
    · exact bot_lt_top
    · exact EReal.coe_lt_top M
  have hgt : ⊥ < max (m (ix2 0 l) : EReal) (Finset.univ.fold max ⊥ fun r : Fin 512 => (S j (ix2 r l) : EReal)) := by
    rcases h with ⟨rfl, _⟩ | ⟨M, e⟩
    · refine lt_max_of_lt_right ((Finset.lt_fold_max _).2 (Or.inr ⟨0, Finset.mem_univ _, ?_⟩))
      rw [hS 0 hj 0]
      exact (logit_zero t p).symm ▸ EReal.bot_lt_coe (t 0)
    · exact lt_max_of_lt_left (e ▸ EReal.bot_lt_coe M)
  exact ⟨_, (EReal.coe_toReal hlt.ne hgt.ne').symm⟩

/-- Against the running maximum: after at least one tile the maximum is real and the accumulated values are the
    weighted sum against it. -/
theorem accO_row (hS : ∀ j < 16, ∀ r : Fin 512, S j (ix2 r l) = logit t p (512 * j + r.val))
    (hV : ∀ j < 16, ∀ d r, V j (ix4 0 0 d r) = val d (512 * j + r.val)) :
    ∀ T < 16, ∃ M : ℝ, maxO S (T + 1) (ix2 0 l) = (M : EReal) ∧ ∀ d, accO S V (T + 1) (ix2 d l) = acc (val d) t p M (512 * (T + 1))
  | 0, h => by
    obtain ⟨M, hM⟩ := newMax_real S l t p hS (maxO S 0) 0 h (Or.inl ⟨rfl, low_at l⟩)
    refine ⟨M, hM, fun d => ?_⟩
    rw [accO, scaleTile_at, weigh_row S V l t p val hS hV _ M hM 0 h d, hM, accO, zero_at]
    have e : (maxO S 0 (ix2 0 l) : EReal) = ⊥ := low_at l
    rw [e, mul_zero, zero_add, Nat.mul_succ, acc_add]
    simp [acc]
  | T + 1, h => by
    obtain ⟨M, hm, ha⟩ := accO_row hS hV T (by omega)
    obtain ⟨M', hM⟩ := newMax_real S l t p hS (maxO S (T + 1)) (T + 1) h (Or.inr ⟨M, hm⟩)
    refine ⟨M', hM, fun d => ?_⟩
    rw [accO, scaleTile_at, weigh_row S V l t p val hS hV _ M' hM (T + 1) h d, hM, hm, ha d, acc_shift, Nat.mul_succ 512 (T + 1), acc_add]

end Tiles

/-- A tile's scores are the causal logits. -/
theorem tileScore_row (n : ℕ) (hn : n < 8) (q : FVec Ideal S1x128x1024 .bf16) (k : FVec Ideal S1x8192x128 .bf16) (l : Fin 1024) (t : ℕ → ℝ)
    (ht : ∀ j : Fin 8192, (∑ d : Fin 128, k (ix3 0 j d) * q (ix3 0 d l) : EReal) = (t j.val : EReal)) (j : ℕ) (hj : j < 16) (r : Fin 512) :
    tileScore n q k j (ix2 r l) = logit t (1024 * n + l.val) (512 * j + r.val) := by
  have hs : score (kTile k j) q (ix2 r l) = (t (512 * j + r.val) : EReal) := by
    have hr := r.isLt
    rw [score_at, ← ht ⟨512 * j + r.val, by omega⟩]
    refine Finset.sum_congr rfl fun d _ => ?_
    have e : kTile k j (ix3 0 r d) = k (ix3 0 ⟨512 * j + r.val, by omega⟩ d) :=
      congrArg (fun x => k (ix3 0 x d)) (Fin.ext (Nat.mod_eq_of_lt (show 512 * j + r.val < 8192 by omega)))
    rw [e]
  have hr := r.isLt
  unfold logit
  by_cases h : j < 2 * n
  · rw [tileScore_lt q k h, hs, if_pos (by omega)]
  · rw [tileScore_ge q k h, mask_at n j hn hj, hs]
    exact if_congr (by constructor <;> intro h <;> omega) rfl rfl

/-- WHAT THE KERNEL WRITES for one query: its values weighted by the causal softmax over all 8192 keys. -/
theorem result_row (n : ℕ) (hn : n < 8) (w : Ideal .f32) (q : FVec Ideal S1x128x1024 .bf16) (k : FVec Ideal S1x8192x128 .bf16)
    (v : FVec Ideal S1x16x80x512 .bf16) (l : Fin 1024) (t : ℕ → ℝ) (val : Fin 80 → ℕ → EReal)
    (ht : ∀ j : Fin 8192, (∑ d : Fin 128, k (ix3 0 j d) * q (ix3 0 d l) : EReal) = (t j.val : EReal))
    (hv : ∀ (j : Fin 16) (d : Fin 80) (r : Fin 512), v (ix4 0 j d r) = val d (512 * j.val + r.val))
    (h1 : val 64 = fun _ => 1) (hb : ∃ M : ℝ, (show FVec Ideal S1x1024 .f32 from k0_pay176 (F := Ideal) q w) (ix2 0 l) = (M : EReal)) (d : Fin 64) :
    result n w q k v (ix2 d l)
      = ∑ j : Fin 8192, val ⟨d.val, by omega⟩ j.val * (soft t (1024 * n + l.val) 8192 j.val : EReal) := by
  have hl := l.isLt
  have hS := fun j hj r => tileScore_row n hn q k l t ht j hj r
  have hV : ∀ j < 16, ∀ d r, vTile v j (ix4 0 0 d r) = val d (512 * j + r.val) := fun j hj d r => by
    rw [← hv ⟨j, hj⟩ d r]
    exact congrArg (fun x => v (ix4 0 x d r)) (Fin.ext (Nat.mod_eq_of_lt hj))
  have key : ∃ M : ℝ, ∀ d, (if small q w = 1#1 then accB (k0_pay176 q w) (tileScore n q k) (vTile v) (2 * n + 2)
      else accO (tileScore n q k) (vTile v) (2 * n + 2)) (ix2 d l) = acc (val d) t (1024 * n + l.val) M (512 * (2 * n + 2)) := by
    by_cases hsm : small q w = 1#1
    · obtain ⟨M, hM⟩ := hb
      refine ⟨M, fun d => ?_⟩
      rw [if_pos hsm]
      exact accB_row _ _ l t _ val hS hV _ M hM d _ (by omega)
    · obtain ⟨M, _, hM⟩ := accO_row _ _ l t _ val hS hV (2 * n + 1) (by omega)
      refine ⟨M, fun d => ?_⟩
      rw [if_neg hsm]
      exact hM d
  obtain ⟨M, hM⟩ := key
  unfold result
  rw [final_at, hM, hM, h1]
  exact acc_div _ t _ M (by omega) (by omega) (by omega)

end Cert.KernelIdeal.At
-- ==== Proof.Value.Block.lean ====
/- A block that the kernel writes is the reference's output there. -/
module

public import proofs.«01_k».proof.Proof.Value.RefSoft
public import proofs.«01_k».proof.Proof.Value.Row

@[expose] public section

set_option maxRecDepth 16384

noncomputable section

namespace Cert.KernelIdeal.At

open Idealize.ShloMosaic Idealize.ShloMosaic.TcCoe
open Cert.KernelIdeal Cert.KernelIdeal.Gen Cert.KernelIdeal.Body
open Cert.Proof.Soft Cert.Proof.Finite
open Cert.ReferenceIdeal.At (expo expo_at scale_pos prob_soft out_at)

/-- A sum over 128 features of which the last 32 are zero. -/
theorem sum_pad (f : Fin 128 → EReal) (g : Fin 96 → EReal) (h : ∀ d : Fin 128, f d = if hd : d.val < 96 then g ⟨d.val, hd⟩ else 0) :
    ∑ d, f d = ∑ d, g d := by
  rw [show (∑ d : Fin 128, f d) = ∑ d : Fin (96 + 32), f d from rfl, Fin.sum_univ_add]
  have h1 : ∀ d : Fin 96, f (Fin.castAdd 32 d) = g d := fun d => by
    rw [h, dif_pos (show (Fin.castAdd 32 d).val < 96 from d.isLt)]; rfl
  have h2 : ∀ d : Fin 32, f (Fin.natAdd 96 d) = 0 := fun d => by
    rw [h, dif_neg (show ¬ (Fin.natAdd 96 d).val < 96 from by rw [Fin.val_natAdd]; omega)]
  rw [Finset.sum_congr rfl fun d _ => h1 d, Finset.sum_congr rfl fun d _ => h2 d, Finset.sum_const_zero, add_zero]

variable (Q K : FVec Ideal S2x8192x8x96 .f32) (V : FVec Ideal S2x8192x8x64 .f32) (Qr Kr : S2x8192x8x96.Idx → ℝ)

/-- A query of the kernel: real numbers, the padding zero. -/
theorem hostQ_real (hQ : ∀ i, (Q i : EReal) = (Qr i : EReal)) (h : Fin 8) (d : Fin 128) (b : Fin 2) (s : Fin 8192) :
    (hostQ Q (ix3 h d ⟨8192 * b.val + s.val, by omega⟩) : EReal)
      = if hd : d.val < 96 then ((Qr (ix4 b s h ⟨d.val, hd⟩) / (Real.sqrt 96 * Real.log 2) : ℝ) : EReal) else 0 := by
  rw [hostQ_at, sqrt96, log2, ← EReal.coe_mul]
  split
  · rw [hQ, div_real _ _ scale_pos.ne']
  · rfl

/-- The kernel's inner products, over all 128 features, are the logits. -/
theorem dot_real (hQ : ∀ i, (Q i : EReal) = (Qr i : EReal)) (hK : ∀ i, (K i : EReal) = (Kr i : EReal)) (b : Fin 2) (h : Fin 8) (s j : Fin 8192) :
    (∑ d : Fin 128, (hostK K (ix3 h ⟨8192 * b.val + j.val, by omega⟩ d) : EReal) * hostQ Q (ix3 h d ⟨8192 * b.val + s.val, by omega⟩) : EReal)
      = (expo Qr Kr b h s j.val : EReal) := by
  rw [sum_pad _ (fun d : Fin 96 => ((Kr (ix4 b j h d) * (Qr (ix4 b s h d) / (Real.sqrt 96 * Real.log 2)) : ℝ) : EReal)) fun d => ?_,
    ← coe_sum, expo_at, Finset.sum_div]
  · refine congrArg _ (Finset.sum_congr rfl fun d _ => ?_)
    ring
  · rw [hostQ_real Q Qr hQ, hostK_at]
    split
    · rw [hK, EReal.coe_mul]
    · exact mul_zero _

theorem block_at (hQ : ∀ i, (Q i : EReal) = (Qr i : EReal)) (hK : ∀ i, (K i : EReal) = (Kr i : EReal))
    (b : Fin 2) (h : Fin 8) (n : ℕ) (hn : n < 8) (w : Ideal .f32) (q : FVec Ideal S1x128x1024 .bf16) (k : FVec Ideal S1x8192x128 .bf16)
    (v : FVec Ideal S1x16x80x512 .bf16) (i : Fin 16) (hw : w = hostW K (ix1 i))
    (hq : ∀ (d : Fin 128) (l : Fin 1024), q (ix3 0 d l) = hostQ Q (ix3 h d ⟨8192 * b.val + (1024 * n + l.val), by omega⟩))
    (hk : ∀ (j : Fin 8192) (d : Fin 128), k (ix3 0 j d) = hostK K (ix3 h ⟨8192 * b.val + j.val, by omega⟩ d))
    (hv : ∀ (j : Fin 16) (d : Fin 80) (r : Fin 512), v (ix4 0 j d r) = hostV V (ix4 h ⟨16 * b.val + j.val, by omega⟩ d r))
    (l : Fin 1024) (d : Fin 64) :
    result n w q k v (ix2 d l)
      = Cert.ReferenceIdeal.At.out Q K V (ix2 ⟨64 * h.val + d.val, by omega⟩ ⟨8192 * b.val + (1024 * n + l.val), by omega⟩) := by
  have hl := l.isLt
  have ht : ∀ j : Fin 8192, (∑ d : Fin 128, k (ix3 0 j d) * q (ix3 0 d l) : EReal)
      = (expo Qr Kr b h ⟨1024 * n + l.val, by omega⟩ j.val : EReal) := fun j => by
    rw [← dot_real Q K Qr Kr hQ hK b h ⟨1024 * n + l.val, by omega⟩ j]
    exact Finset.sum_congr rfl fun d _ => by rw [hk, hq]
  have hb := bound_real q w l (fun d => by
      rw [hq, hostQ_real Q Qr hQ h d b ⟨1024 * n + l.val, by omega⟩]
      split
      · exact ⟨_, rfl⟩
      · exact ⟨0, rfl⟩) (by
      rw [hw]; exact hostW_real K (fun i => ⟨_, hK i⟩) i)
  rw [result_row n hn w q k v l (expo Qr Kr b h ⟨1024 * n + l.val, by omega⟩)
    (fun d j => if hd : d.val < 64 then V (ix4 b ⟨j % 8192, Nat.mod_lt _ (by decide)⟩ h ⟨d.val, hd⟩) else 1) ht ?_ ?_ hb d]
  · rw [out_at Q K V b h ⟨1024 * n + l.val, by omega⟩ d]
    refine Finset.sum_congr rfl fun j _ => ?_
    rw [prob_soft Q K Qr Kr hQ hK, dif_pos d.isLt]
    have e : (⟨j.val % 8192, Nat.mod_lt _ (by decide)⟩ : Fin 8192) = j := Fin.ext (Nat.mod_eq_of_lt j.isLt)
    rw [e]
  · intro j d r
    have hj := j.isLt
    have hr := r.isLt
    have e : (⟨(512 * j.val + r.val) % 8192, Nat.mod_lt _ (by decide)⟩ : Fin 8192) = ⟨512 * j.val + r.val, by omega⟩ :=
      Fin.ext (Nat.mod_eq_of_lt (by omega))
    rw [hv, hostV_at, e]
  · exact funext fun j => dif_neg (by decide)

end Cert.KernelIdeal.At
-- ==== Proof.Value.Final.lean ====
/- The kernel's output array is the reference's output. -/
module

public import proofs.«01_k».proof.Proof.Value.Block
public import proofs.«01_k».proof.Proof.BodyI.Launch
public import Idealize.ShloMosaic.Lib.Pipeline.ValueKit

@[expose] public section

set_option maxRecDepth 16384

noncomputable section

namespace Cert.KernelIdeal.Final

open Idealize.ShloMosaic Idealize.ShloMosaic.TcCoe Idealize.SL.Sem
open Cert.KernelIdeal Cert.KernelIdeal.Gen Cert.KernelIdeal.Body Cert.KernelIdeal.At
open Idealize.ShloMosaic.Pipeline (Dat)

/-- The grid's coordinates of a point: batch, head, block of queries. -/
def B (t : Fin cfg0.N) : Fin 2 := ⟨(grid0.coords t 0).val, (grid0.coords t 0).isLt⟩
def H (t : Fin cfg0.N) : Fin 8 := ⟨(grid0.coords t 1).val, (grid0.coords t 1).isLt⟩
def I (t : Fin cfg0.N) : Fin 8 := ⟨(grid0.coords t 2).val, (grid0.coords t 2).isLt⟩

theorem idx0 : ∀ t : Fin cfg0.N, win0_0.index t = ![0] := (by decide +kernel : ∀ t : Fin grid0.N, _)
theorem idx1 : ∀ t : Fin cfg0.N, win0_1.index t = ![(H t).val, 0, (B t).val * 8 + (I t).val] := (by decide +kernel : ∀ t : Fin grid0.N, _)
theorem idx2 : ∀ t : Fin cfg0.N, win0_2.index t = ![(H t).val, (B t).val, 0] := (by decide +kernel : ∀ t : Fin grid0.N, _)
theorem idx3 : ∀ t : Fin cfg0.N, win0_3.index t = ![(H t).val, (B t).val, 0, 0] := (by decide +kernel : ∀ t : Fin grid0.N, _)
theorem idx4 : ∀ t : Fin cfg0.N, win0_4.index t = ![(H t).val, (B t).val * 8 + (I t).val] := (by decide +kernel : ∀ t : Fin grid0.N, _)

/-- A block of queries read in its array. -/
theorem blk1 (X : FVec Ideal S8x128x16384 .bf16) (t : Fin cfg0.N) (d : Fin 128) (l : Fin 1024) :
    ((cfg0.win 1).blk t).view.read (Elt Ideal) X (ix3 0 d l) = X (ix3 (H t) d ⟨8192 * (B t).val + (1024 * (I t).val + l.val), by omega⟩) := by
  blk_ext [idx1 t]

theorem blk2 (X : FVec Ideal S8x16384x128 .bf16) (t : Fin cfg0.N) (j : Fin 8192) (d : Fin 128) :
    ((cfg0.win 2).blk t).view.read (Elt Ideal) X (ix3 0 j d) = X (ix3 (H t) ⟨8192 * (B t).val + j.val, by omega⟩ d) := by
  blk_ext [idx2 t]

theorem blk3 (X : FVec Ideal S8x32x80x512 .bf16) (t : Fin cfg0.N) (j : Fin 16) (d : Fin 80) (r : Fin 512) :
    ((cfg0.win 3).blk t).view.read (Elt Ideal) X (ix4 0 j d r) = X (ix4 (H t) ⟨16 * (B t).val + j.val, by omega⟩ d r) := by
  blk_ext [idx3 t]

theorem blk0 (X : FVec Ideal S16 .f32) (t : Fin cfg0.N) (i : Fin 16) :
    ((cfg0.win 0).blk t).view.read (Elt Ideal) X (ix1 i) = X (ix1 i) := by
  blk_ext [idx0 t]

theorem emb4 (t : Fin cfg0.N) (d : Fin 64) (l : Fin 1024) :
    ((cfg0.win 4).blk t).view.emb (ix2 d l) = ix2 ⟨64 * (H t).val + d.val, by omega⟩ ⟨8192 * (B t).val + (1024 * (I t).val + l.val), by omega⟩ := by
  blk_ext [idx4 t]

variable (m : (ℓ : Loc nD τ sig) → Buf (Elt Ideal) ℓ)

theorem final (c : Dev nD)
    (hQ : ∀ i, ∃ r : ℝ, ((m ((c.tc : Thread nD τ).loc main_arg0) : FVec Ideal S2x8192x8x96 .f32) i : EReal) = (r : EReal))
    (hK : ∀ i, ∃ r : ℝ, ((m ((c.tc : Thread nD τ).loc main_arg1) : FVec Ideal S2x8192x8x96 .f32) i : EReal) = (r : EReal)) :
    (dats m 0 c).arrAt 4 (cfgs 0).N = Cert.ReferenceIdeal.At.out (m ((c.tc : Thread nD τ).loc main_arg0)) (m ((c.tc : Thread nD τ).loc main_arg1))
      (m ((c.tc : Thread nD τ).loc main_arg2)) := by
  choose Qr hQ using hQ
  choose Kr hK using hK
  refine (dats m 0 c).arrAt_eq_of_covers 4 _ (by decide +kernel) fun t hf y => ?_
  blk_simp
  rw [after4]
  obtain ⟨d, l, rfl⟩ : ∃ (d : Fin 64) (l : Fin 1024), y = ix2 d l := ⟨y 0, y 1, eq_ix2 y⟩
  rw [emb4]
  unfold outBlock
  exact block_at _ _ _ Qr Kr hQ hK (B t) (H t) (I t).val (I t).isLt _ _ _ _ ⟨(2 * (grid0.coords t 1).val + (grid0.coords t 0).val) % 16, Nat.mod_lt _ (by decide)⟩
    ((blk0 (V m c main_v27) t _).trans (congrFun (read_w m c) _))
    (fun d l => (blk1 (V m c main_v9) t d l).trans (congrFun (read_q m c) _))
    (fun j d => (blk2 (V m c main_v16) t j d).trans (congrFun (read_k m c) _))
    (fun j d r => (blk3 (V m c main_v23) t j d r).trans (congrFun (read_v m c) _)) l d

end Cert.KernelIdeal.Final
-- ==== Proof.Algebraic.lean ====
/- The kernel's and the reference's results are equal as extended reals. -/
module

public import proofs.«01_k».proof.Defs
public import proofs.«01_k».proof.Proof.Gen.Pre_finite_qk
public import proofs.«01_k».proof.Proof.Value.Final
public import Idealize.ShloMosaic.Lib.Claim

@[expose] public section

set_option maxRecDepth 16384

noncomputable section

namespace Cert.Proof

open Idealize.ShloMosaic Idealize.ShloMosaic.TcCoe Idealize.SL.Sem
open Cert.KernelIdeal.Body (dats run_main frame_main)

theorem algebraic : Cert.algebraic_KernelIdeal_ReferenceIdeal_pre_finite_qk (hKernelIdeal := Cert.KernelIdeal.Gen.facts)
    (hReferenceIdeal := Cert.ReferenceIdeal.Gen.facts) (hPre_finite_qk := Cert.Pre_finite_qk.Gen.facts) := fun m g m' g' hpre hagree => by
  refine ⟨fun c => Cert.ReferenceIdeal.At.out (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run _ _ _).mono (fun r h c => ?_) (θ_run_and (frame_main m g) (run_main m g))
    have hf := Cert.Proof.Finite.real_qk _ _ _ (hpre c)
    exact ⟨(h.2.1.out_eq c 4).trans (Cert.KernelIdeal.Final.final m c hf.1 hf.2), h.1.1 c⟩
  · refine (θ_run _ _ _).mono (fun r h c => ⟨(h c).1.trans ?_, (h c).2⟩) (Cert.ReferenceIdeal.Value.run m' g')
    rw [Cert.ReferenceIdeal.At.res_eq, (hagree c).1, (hagree c).2.1, (hagree c).2.2]

end Cert.Proof
-- ==== Proof.Out.HostAt.lean ====
/- The operands of the output projection read at one index: every array channels first, one column for every token. -/
module

public import proofs.«01_k».proof.Proof.Gen.Kernel2Ideal.Frame
public import Idealize.ShloMosaic.Lib.Pointwise
public import Idealize.ShloMosaic.Lib.Claim

@[expose] public section

set_option maxRecDepth 16384

noncomputable section

namespace Cert.Kernel2Ideal.At

open Idealize.ShloMosaic Idealize.ShloMosaic.TcCoe
open Cert.Kernel2Ideal Cert.Kernel2Ideal.Gen

variable (A : FVec Ideal S2x8192x8x64 .f32) (G : FVec Ideal S2x8192x8x3 .f32) (X : FVec Ideal S2x8192x1024 .f32)
  (v : FVec Ideal S512 .f32) (W : FVec Ideal S1024x1024 .f32) (g : FVec Ideal S1024 .f32)

/-- The heads, channels first. -/
def heads : FVec Ideal S512x16384 .f32 :=
  shapeCast S512x16384 (transpose S8x64x2x8192 [2, 3, 0, 1] A transposes_S2x8192x8x64_S8x64x2x8192_2_3_0_1) shapeCasts_S8x64x2x8192_S512x16384

/-- The gates, three rows for every head and eight rows of zeros below. -/
def gates : FVec Ideal S32x16384 .f32 :=
  concatenate S32x16384 0 [⟨S24x16384, shapeCast S24x16384 (transpose S8x3x2x8192 [2, 3, 0, 1] G transposes_S2x8192x8x3_S8x3x2x8192_2_3_0_1) shapeCasts_S8x3x2x8192_S24x16384⟩,
    ⟨S8x16384, broadcastInDim S8x16384 ![] bcast_S_S8x16384 (constant (F := Ideal) S_ .f32 0x00000000#32)⟩] concatenates_S24x16384_S8x16384_S32x16384_d0

/-- The hidden state, one row for every token. -/
def rows : FVec Ideal S16384x1024 .f32 := shapeCast S16384x1024 X shapeCasts_S2x8192x1024_S16384x1024

/-- A gain as a column. -/
def gain : FVec Ideal S512x1 .f32 := shapeCast S512x1 v shapeCasts_S512_S512x1
def gainH : FVec Ideal S1024x1 .f32 := shapeCast S1024x1 g shapeCasts_S1024_S1024x1

/-- The weights, transposed. -/
def weights : FVec Ideal S1024x1024 .bf16 :=
  truncf .bf16 (transpose S1024x1024 [1, 0] W transposes_S1024x1024_S1024x1024_1_0) bitsLt_bf16_f32

theorem heads_at (h : Fin 8) (d : Fin 64) (b : Fin 2) (s : Fin 8192) :
    heads A (ix2 ⟨64 * h.val + d.val, by omega⟩ ⟨8192 * b.val + s.val, by omega⟩) = A (ix4 b s h d) := by
  pointwise [heads]

theorem gates_at (h : Fin 8) (j : Fin 3) (b : Fin 2) (s : Fin 8192) :
    gates G (ix2 ⟨3 * h.val + j.val, by omega⟩ ⟨8192 * b.val + s.val, by omega⟩) = G (ix4 b s h j) := by
  pointwise [gates]
  exact dif_pos (by omega)

theorem rows_at (e : Fin 1024) (b : Fin 2) (s : Fin 8192) :
    rows X (ix2 ⟨8192 * b.val + s.val, by omega⟩ e) = X (ix3 b s e) := by
  pointwise [rows]

theorem gain_at (c : Fin 512) : gain v (ix2 c 0) = v (ix1 c) := by
  pointwise [gain]

theorem gainH_at (e : Fin 1024) : gainH g (ix2 e 0) = g (ix1 e) := by
  pointwise [gainH]

theorem weights_at (e k : Fin 1024) : weights W (ix2 e k) = W (ix2 k e) := by
  pointwise [weights]

variable (m : (ℓ : Loc nD τ sig) → Buf (Elt Ideal) ℓ) (c : Dev nD)

theorem read_a : Gen.V m c main_v5 = heads (m ((c : Thread nD τ).loc main_arg0)) := by
  entry_read
  rfl
theorem read_b : Gen.V m c main_v7 = heads (m ((c : Thread nD τ).loc main_arg1)) := by
  entry_read
  rfl
theorem read_c : Gen.V m c main_v9 = heads (m ((c : Thread nD τ).loc main_arg2)) := by
  entry_read
  rfl
theorem read_g : Gen.V m c main_v3 = gates (m ((c : Thread nD τ).loc main_arg3)) := by
  entry_read
  rfl
theorem read_o : Gen.V m c main_v11 = heads (m ((c : Thread nD τ).loc main_arg4)) := by
  entry_read
  rfl
theorem read_x : Gen.V m c main_v12 = rows (m ((c : Thread nD τ).loc main_arg5)) := by
  entry_read
  rfl
theorem read_ga : Gen.V m c main_v13 = gain (m ((c : Thread nD τ).loc main_arg6)) := by
  entry_read
  rfl
theorem read_gb : Gen.V m c main_v14 = gain (m ((c : Thread nD τ).loc main_arg7)) := by
  entry_read
  rfl
theorem read_w : Gen.V m c main_v16 = weights (m ((c : Thread nD τ).loc main_arg8)) := by
  entry_read
  rfl
theorem read_h : Gen.V m c main_v17 = gainH (m ((c : Thread nD τ).loc main_arg9)) := by
  entry_read
  rfl

end Cert.Kernel2Ideal.At
-- ==== Proof.Out.RefAt.lean ====
/- The reference of the output projection read at one index: the gated mixture of the branches, the normalizations
   and the product with the weights. -/
module

public import proofs.«01_k».proof.Proof.Gen.Reference2Ideal.Run
public import Idealize.ShloMosaic.Lib.Pointwise

@[expose] public section

set_option maxRecDepth 16384

noncomputable section

namespace Cert.Reference2Ideal.At

open Idealize.ShloMosaic Idealize.ShloMosaic.TcCoe
open Cert.Reference2Ideal Cert.Reference2Ideal.Gen Cert.Reference2Ideal.Value

variable (A B C : FVec Ideal S2x8192x8x64 .f32) (G : FVec Ideal S2x8192x8x3 .f32) (O : FVec Ideal S2x8192x8x64 .f32)
  (X : FVec Ideal S2x8192x1024 .f32) (ga gb : FVec Ideal S512 .f32) (W : FVec Ideal S1024x1024 .f32) (g : FVec Ideal S1024 .f32)

/-- The three branches of every head, weighted by the gates of the token. -/
def mix : FVec Ideal S2x8192x512 .f32 :=
  shapeCast _ (addf (addf
    (mulf (broadcastInDim S2x8192x8x64 ![0, 1, 2, 3] bcast_S2x8192x8x1_S2x8192x8x64_0_1_2_3
      (extractStridedSlice S2x8192x8x1 ![0, 0, 0, 0] G slices_S2x8192x8x3_S2x8192x8x1_0_0_0_0)) A)
    (mulf (broadcastInDim S2x8192x8x64 ![0, 1, 2, 3] bcast_S2x8192x8x1_S2x8192x8x64_0_1_2_3
      (extractStridedSlice S2x8192x8x1 ![0, 0, 0, 1] G slices_S2x8192x8x3_S2x8192x8x1_0_0_0_1)) B))
    (mulf (broadcastInDim S2x8192x8x64 ![0, 1, 2, 3] bcast_S2x8192x8x1_S2x8192x8x64_0_1_2_3
      (extractStridedSlice S2x8192x8x1 ![0, 0, 0, 2] G slices_S2x8192x8x3_S2x8192x8x1_0_0_0_2)) C)) shapeCasts_S2x8192x8x64_S2x8192x512

/-- The other heads, one row of 512 channels for every token. -/
def flat : FVec Ideal S2x8192x512 .f32 := shapeCast _ O shapeCasts_S2x8192x8x64_S2x8192x512

/-- The root mean square normalization of 512 channels. -/
def norm (Y : FVec Ideal S2x8192x512 .f32) (ga : FVec Ideal S512 .f32) : FVec Ideal S2x8192x512 .f32 :=
  mulf (mulf Y (broadcastInDim S2x8192x512 ![0, 1, 2] bcast_S2x8192x1_S2x8192x512_0_1_2 (Host.rsqrt (addf
    (Host.divf (broadcastInDim S2x8192x1 ![0, 1] bcast_S2x8192_S2x8192x1_0_1 (Host.reduceAdd (mulf Y Y) (constant S_ .f32 0x00000000#32) reducesTo_S2x8192x512_S2x8192_d2 h_S_))
      (broadcastInDim S2x8192x1 ![] bcast_S_S2x8192x1 (constant S_ .f32 0x44000000#32)))
    (broadcastInDim S2x8192x1 ![] bcast_S_S2x8192x1 (constant S_ .f32 0x358637BD#32))))))
    (broadcastInDim S2x8192x512 ![0, 1, 2] bcast_S1x1x512_S2x8192x512_0_1_2 (broadcastInDim S1x1x512 ![2] bcast_S512_S1x1x512_2 ga))

/-- The hidden state with the projection of both rows added. -/
def hidden (U V : FVec Ideal S2x8192x512 .f32) : FVec Ideal S2x8192x1024 .f32 :=
  addf X (Host.dotGeneral dot_S2x8192x1024_S1024x1024_S2x8192x1024_2_0_01_1_n_n none
    (concatenate S2x8192x1024 2 [⟨S2x8192x512, U⟩, ⟨S2x8192x512, V⟩] concatenates_S2x8192x512_S2x8192x512_S2x8192x1024_d2) W)

/-- The root mean square normalization of 1024 channels. -/
def normH (Y : FVec Ideal S2x8192x1024 .f32) : FVec Ideal S2x8192x1024 .f32 :=
  mulf (mulf Y (broadcastInDim S2x8192x1024 ![0, 1, 2] bcast_S2x8192x1_S2x8192x1024_0_1_2 (Host.rsqrt (addf
    (Host.divf (broadcastInDim S2x8192x1 ![0, 1] bcast_S2x8192_S2x8192x1_0_1 (Host.reduceAdd (mulf Y Y) (constant S_ .f32 0x00000000#32) reducesTo_S2x8192x1024_S2x8192_d2 h_S_))
      (broadcastInDim S2x8192x1 ![] bcast_S_S2x8192x1 (constant S_ .f32 0x44800000#32)))
    (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

/-- Channels first, one column for every token. -/
def cols (Y : FVec Ideal S2x8192x1024 .f32) : FVec Ideal S1024x16384 .f32 :=
  transpose S1024x16384 [1, 0] (shapeCast _ Y shapeCasts_S2x8192x1024_S16384x1024) transposes_S16384x1024_S1024x16384_1_0

/-- The hidden state of the arguments. -/
def state : FVec Ideal S2x8192x1024 .f32 := hidden X W (norm (mix A B C G) ga) (norm (flat O) gb)

/-- The second result. -/
def last : FVec Ideal S1024x16384 .bf16 := truncf .bf16 (cols (normH g (state A B C G O X ga gb W))) bitsLt_bf16_f32

theorem mix_at (b : Fin 2) (s : Fin 8192) (h : Fin 8) (d : Fin 64) :
    mix A B C G (ix3 b s ⟨64 * h.val + d.val, by omega⟩)
      = G (ix4 b s h 0) * A (ix4 b s h d) + G (ix4 b s h 1) * B (ix4 b s h d) + G (ix4 b s h 2) * C (ix4 b s h d) := by
  pointwise [mix]

theorem flat_at (b : Fin 2) (s : Fin 8192) (h : Fin 8) (d : Fin 64) :
    flat O (ix3 b s ⟨64 * h.val + d.val, by omega⟩) = O (ix4 b s h d) := by
  pointwise [flat]

theorem norm_at (Y : FVec Ideal S2x8192x512 .f32) (b : Fin 2) (s : Fin 8192) (c : Fin 512) :
    norm Y ga (ix3 b s c) = Y (ix3 b s c) * Ideal.rsqrt (Ideal.div (∑ k : Fin 512, Y (ix3 b s k) * Y (ix3 b s k)) (Ideal.ofBits .f32 0x44000000#32)
      + Ideal.ofBits .f32 0x358637BD#32) * ga (ix1 c) := by
  pointwise [norm]

theorem normH_at (Y : FVec Ideal S2x8192x1024 .f32) (b : Fin 2) (s : Fin 8192) (c : Fin 1024) :
    normH g Y (ix3 b s c) = Y (ix3 b s c) * Ideal.rsqrt (Ideal.div (∑ k : Fin 1024, Y (ix3 b s k) * Y (ix3 b s k)) (Ideal.ofBits .f32 0x44800000#32)
      + Ideal.ofBits .f32 0x358637BD#32) * g (ix1 c) := by
  pointwise [normH]

theorem hidden_at (U V : FVec Ideal S2x8192x512 .f32) (b : Fin 2) (s : Fin 8192) (e : Fin 1024) :
    hidden X W U V (ix3 b s e) = X (ix3 b s e) + ∑ k : Fin 1024,
      (if h : k.val < 512 then U (ix3 b s ⟨k.val, h⟩) else V (ix3 b s ⟨k.val - 512, by omega⟩)) * W (ix2 k e) := by
  pointwise [hidden]

theorem cols_at (Y : FVec Ideal S2x8192x1024 .f32) (b : Fin 2) (s : Fin 8192) (e : Fin 1024) :
    cols Y (ix2 e ⟨8192 * b.val + s.val, by omega⟩) = Y (ix3 b s e) := by
  pointwise [cols]

theorem last_at (b : Fin 2) (s : Fin 8192) (e : Fin 1024) :
    last A B C G O X ga gb W g (ix2 e ⟨8192 * b.val + s.val, by omega⟩) = normH g (state A B C G O X ga gb W) (ix3 b s e) := by
  refine Eq.trans ?_ (cols_at _ b s e)
  unfold last
  generalize cols _ = Y
  pointwise

theorem res0_eq (m : (ℓ : Loc nD τ sig) → Buf (Elt Ideal) ℓ) (c : Dev nD) :
    Value.res_main_v43 m c = cols (state (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))) := rfl

theorem res1_eq (m : (ℓ : Loc nD τ sig) → Buf (Elt Ideal) ℓ) (c : Dev nD) :
    Value.res_main_v59 m c = last (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) := rfl

end Cert.Reference2Ideal.At
-- ==== Proof.Out.KernelAt.lean ====
/- A block that the output projection writes is the reference's result there. -/
module

public import proofs.«01_k».proof.Proof.Gen.Kernel2Ideal.Frame
public import proofs.«01_k».proof.Proof.Out.RefAt

@[expose] public section

set_option maxRecDepth 16384

noncomputable section

namespace Cert.Kernel2Ideal.At

open Idealize.ShloMosaic Idealize.ShloMosaic.TcCoe
open Cert.Kernel2Ideal Cert.Kernel2Ideal.Gen
open Cert.Reference2Ideal.At (mix flat norm normH hidden state)

/-- The kernel multiplies by the reciprocal of the number of channels where the reference divides. -/
theorem mean512 (x : EReal) : Ideal.div x (Ideal.ofBits .f32 0x44000000#32) = x * Ideal.ofBits .f32 0x3B000000#32 := by
  have h1 : Ideal.ofBits .f32 0x44000000#32 = ((512 : ℝ) : EReal) := by
    simp [Ideal.ofBits, Ideal.ieee, -EReal.coe_mul]; norm_num
  have h2 : Ideal.ofBits .f32 0x3B000000#32 = ((512⁻¹ : ℝ) : EReal) := by
    simp [Ideal.ofBits, Ideal.ieee, -EReal.coe_mul]; norm_num
  have h3 : ((512 : ℝ) : EReal) ≠ 0 := by norm_num
  rw [h1, h2, Ideal.div, if_neg h3, EReal.coe_inv]

theorem mean1024 (x : EReal) : Ideal.div x (Ideal.ofBits .f32 0x44800000#32) = x * Ideal.ofBits .f32 0x3A800000#32 := by
  have h1 : Ideal.ofBits .f32 0x44800000#32 = ((1024 : ℝ) : EReal) := by
    simp [Ideal.ofBits, Ideal.ieee, -EReal.coe_mul]; norm_num
  have h2 : Ideal.ofBits .f32 0x3A800000#32 = ((1024⁻¹ : ℝ) : EReal) := by
    simp [Ideal.ofBits, Ideal.ieee, -EReal.coe_mul]; norm_num
  have h3 : ((1024 : ℝ) : EReal) ≠ 0 := by norm_num
  rw [h1, h2, Ideal.div, if_neg h3, EReal.coe_inv]

/-- Eight heads of 64 channels as one block of 512. -/
def cat8 (p0 p1 p2 p3 p4 p5 p6 p7 : FVec Ideal S64x512 .f32) : FVec Ideal S512x512 .f32 :=
  concatenate S512x512 0 [⟨S64x512, p0⟩, ⟨S64x512, p1⟩, ⟨S64x512, p2⟩, ⟨S64x512, p3⟩, ⟨S64x512, p4⟩, ⟨S64x512, p5⟩, ⟨S64x512, p6⟩, ⟨S64x512, p7⟩]
    concatenates_S64x512_S64x512_S64x512_S64x512_S64x512_S64x512_S64x512_S64x512_S512x512_d0

theorem cat8_at (p0 p1 p2 p3 p4 p5 p6 p7 : FVec Ideal S64x512 .f32) (l : Fin 512) (f : Fin 512 → EReal)
    (h0 : ∀ d : Fin 64, p0 (ix2 d l) = f ⟨0 + d.val, by omega⟩) (h1 : ∀ d : Fin 64, p1 (ix2 d l) = f ⟨64 + d.val, by omega⟩)
    (h2 : ∀ d : Fin 64, p2 (ix2 d l) = f ⟨128 + d.val, by omega⟩) (h3 : ∀ d : Fin 64, p3 (ix2 d l) = f ⟨192 + d.val, by omega⟩)
    (h4 : ∀ d : Fin 64, p4 (ix2 d l) = f ⟨256 + d.val, by omega⟩) (h5 : ∀ d : Fin 64, p5 (ix2 d l) = f ⟨320 + d.val, by omega⟩)
    (h6 : ∀ d : Fin 64, p6 (ix2 d l) = f ⟨384 + d.val, by omega⟩) (h7 : ∀ d : Fin 64, p7 (ix2 d l) = f ⟨448 + d.val, by omega⟩)
    (c : Fin 512) : cat8 p0 p1 p2 p3 p4 p5 p6 p7 (ix2 c l) = f c := by
  pointwise [cat8]
  split_ifs <;> first
    | exact (h0 _).trans (congrArg f (Fin.ext (by simp only; omega)))
    | exact (h1 _).trans (congrArg f (Fin.ext (by simp only; omega)))
    | exact (h2 _).trans (congrArg f (Fin.ext (by simp only; omega)))
    | exact (h3 _).trans (congrArg f (Fin.ext (by simp only; omega)))
    | exact (h4 _).trans (congrArg f (Fin.ext (by simp only; omega)))
    | exact (h5 _).trans (congrArg f (Fin.ext (by simp only; omega)))
    | exact (h6 _).trans (congrArg f (Fin.ext (by simp only; omega)))
    | exact (h7 _).trans (congrArg f (Fin.ext (by simp only; omega)))

theorem pay19_at (x : FVec Ideal S512x512 .f32) (g : FVec Ideal S512x1 .f32) (c l : Fin 512) :
    k0_pay19 x g (ix2 c l) = x (ix2 c l) * Ideal.rsqrt ((∑ k : Fin 512, x (ix2 k l) * x (ix2 k l)) * Ideal.ofBits .f32 0x3B000000#32
      + Ideal.ofBits .f32 0x358637BD#32) * g (ix2 c 0) := by
  pointwise [k0_pay19]

/-- The last head is mixed where the heads are joined. -/
theorem pay18_eq (p0 p1 p2 p3 p4 p5 p6 q : FVec Ideal S64x512 .f32) (a : FVec Ideal S1x512 .f32) (x : FVec Ideal S64x512 .f32)
    (b : FVec Ideal S1x512 .f32) (y : FVec Ideal S64x512 .f32) (g : FVec Ideal S512x1 .f32) :
    k0_pay18 p0 p1 p2 p3 p4 p5 p6 q a x b y g
      = k0_pay19 (cat8 p0 p1 p2 p3 p4 p5 p6 (addf (addf q (mulf (broadcastTo S64x512 a broadcasts_S1x512_S64x512) (shapeCast S64x512 x shapeCasts_S64x512_S64x512)))
        (mulf (broadcastTo S64x512 (shapeCast S1x512 b shapeCasts_S1x512_S1x512) broadcasts_S1x512_S64x512) (shapeCast S64x512 y shapeCasts_S64x512_S64x512)))) g := by
  refine funext fun i => ?_
  obtain ⟨c, l, rfl⟩ : ∃ (c : Fin 512) (l : Fin 512), i = ix2 c l := ⟨i 0, i 1, eq_ix2 i⟩
  rw [pay19_at]
  unfold k0_pay18
  rw [← cat8]
  generalize cat8 _ _ _ _ _ _ _ _ = z
  pointwise

theorem pay1_at (u v : FVec Ideal S512x512 .f32) (x : FVec Ideal S512x1024 .f32) (w : FVec Ideal S1024x1024 .bf16) (e : Fin 1024) (l : Fin 512) :
    k0_pay1 u v x w (ix2 e l) = x (ix2 l e) + ∑ k : Fin 1024, w (ix2 e k) *
      (if h : k.val < 512 then u (ix2 ⟨k.val, h⟩ l) else v (ix2 ⟨k.val - 512, by omega⟩ l)) := by
  pointwise [k0_pay1]

theorem pay2_at (u v : FVec Ideal S512x512 .f32) (x : FVec Ideal S512x1024 .f32) (w : FVec Ideal S1024x1024 .bf16) (g : FVec Ideal S1024x1 .f32)
    (e : Fin 1024) (l : Fin 512) :
    k0_pay2 u v x w g (ix2 e l) = k0_pay1 u v x w (ix2 e l) * Ideal.rsqrt ((∑ k : Fin 1024, k0_pay1 u v x w (ix2 k l) * k0_pay1 u v x w (ix2 k l))
      * Ideal.ofBits .f32 0x3A800000#32 + Ideal.ofBits .f32 0x358637BD#32) * g (ix2 e 0) := by
  unfold k0_pay2
  generalize k0_pay1 u v x w = z
  pointwise

end Cert.Kernel2Ideal.At
-- ==== Proof.Out.BlockAt.lean ====
/- A block that the output projection writes is the reference's result there. -/
module

public import proofs.«01_k».proof.Proof.Out.KernelAt

@[expose] public section

set_option maxRecDepth 16384

noncomputable section

namespace Cert.Kernel2Ideal.At

open Idealize.ShloMosaic Idealize.ShloMosaic.TcCoe
open Cert.Kernel2Ideal Cert.Kernel2Ideal.Gen
open Cert.Reference2Ideal (S2x8192x512)
open Cert.Reference2Ideal.At (mix flat norm normH hidden state mix_at flat_at norm_at normH_at hidden_at)

variable (A B C : FVec Ideal S2x8192x8x64 .f32) (G : FVec Ideal S2x8192x8x3 .f32) (O : FVec Ideal S2x8192x8x64 .f32)
  (X : FVec Ideal S2x8192x1024 .f32) (ga gb : FVec Ideal S512 .f32) (W : FVec Ideal S1024x1024 .f32) (g : FVec Ideal S1024 .f32)
  (x0 x1 x2 : FVec Ideal S512x512 .f32) (x3 : FVec Ideal S32x512 .f32) (x4 : FVec Ideal S512x512 .f32) (x5 : FVec Ideal S512x1024 .f32)
  (x6 x7 : FVec Ideal S512x1 .f32) (x8 : FVec Ideal S1024x1024 .bf16) (x9 : FVec Ideal S1024x1 .f32)
  (b : Fin 2) (s : Fin 8192) (l : Fin 512)

/-- The normalized mixture of the branches. -/
theorem mixed_at
    (h0 : ∀ (h : Fin 8) (d : Fin 64), x0 (ix2 ⟨64 * h.val + d.val, by omega⟩ l) = A (ix4 b s h d))
    (h1 : ∀ (h : Fin 8) (d : Fin 64), x1 (ix2 ⟨64 * h.val + d.val, by omega⟩ l) = B (ix4 b s h d))
    (h2 : ∀ (h : Fin 8) (d : Fin 64), x2 (ix2 ⟨64 * h.val + d.val, by omega⟩ l) = C (ix4 b s h d))
    (h3 : ∀ (h : Fin 8) (j : Fin 3), x3 (ix2 ⟨3 * h.val + j.val, by omega⟩ l) = G (ix4 b s h j))
    (h6 : ∀ c : Fin 512, x6 (ix2 c 0) = ga (ix1 c)) (c : Fin 512) :
    k0_pay20 x0 x1 x2 x3 x4 x5 x6 x7 x8 x9 (ix2 c l) = norm (mix A B C G) ga (ix3 b s c) := by
  unfold k0_pay20
  rw [pay18_eq, pay19_at, norm_at, mean512]
  generalize hz : cat8 _ _ _ _ _ _ _ _ = z
  have hk : ∀ k : Fin 512, z (ix2 k l) = mix A B C G (ix3 b s k) := fun k => by
    subst hz
    refine cat8_at _ _ _ _ _ _ _ _ l (fun k => mix A B C G (ix3 b s k)) (fun d => ?_) (fun d => ?_) (fun d => ?_) (fun d => ?_)
      (fun d => ?_) (fun d => ?_) (fun d => ?_) (fun d => ?_) k
    · refine Eq.trans ?_ (mix_at A B C G b s 0 d).symm
      rw [← h0 0 d, ← h1 0 d, ← h2 0 d, ← h3 0 0, ← h3 0 1, ← h3 0 2]
      pointwise [k0_pay3]
    · refine Eq.trans ?_ (mix_at A B C G b s 1 d).symm
      rw [← h0 1 d, ← h1 1 d, ← h2 1 d, ← h3 1 0, ← h3 1 1, ← h3 1 2]
      pointwise [k0_pay6, k0_pay4, k0_pay5]
    · refine Eq.trans ?_ (mix_at A B C G b s 2 d).symm
      rw [← h0 2 d, ← h1 2 d, ← h2 2 d, ← h3 2 0, ← h3 2 1, ← h3 2 2]
      pointwise [k0_pay7]
    · refine Eq.trans ?_ (mix_at A B C G b s 3 d).symm
      rw [← h0 3 d, ← h1 3 d, ← h2 3 d, ← h3 3 0, ← h3 3 1, ← h3 3 2]
      pointwise [k0_pay9, k0_pay8]
    · refine Eq.trans ?_ (mix_at A B C G b s 4 d).symm
      rw [← h0 4 d, ← h1 4 d, ← h2 4 d, ← h3 4 0, ← h3 4 1, ← h3 4 2]
      pointwise [k0_pay10]
    · refine Eq.trans ?_ (mix_at A B C G b s 5 d).symm
      rw [← h0 5 d, ← h1 5 d, ← h2 5 d, ← h3 5 0, ← h3 5 1, ← h3 5 2]
      pointwise [k0_pay14, k0_pay11, k0_pay12, k0_pay13]
    · refine Eq.trans ?_ (mix_at A B C G b s 6 d).symm
      rw [← h0 6 d, ← h1 6 d, ← h2 6 d, ← h3 6 0, ← h3 6 1, ← h3 6 2]
      pointwise [k0_pay15]
    · refine Eq.trans ?_ (mix_at A B C G b s 7 d).symm
      rw [← h0 7 d, ← h1 7 d, ← h2 7 d, ← h3 7 0, ← h3 7 1, ← h3 7 2]
      pointwise [k0_pay16, k0_pay17]
  simp only [hk]
  rw [← h6 c]
  pointwise

/-- The other normalized heads. -/
theorem other_at
    (h4 : ∀ (h : Fin 8) (d : Fin 64), x4 (ix2 ⟨64 * h.val + d.val, by omega⟩ l) = O (ix4 b s h d))
    (h7 : ∀ c : Fin 512, x7 (ix2 c 0) = gb (ix1 c)) (c : Fin 512) :
    k0_pay21 x0 x1 x2 x3 x4 x5 x6 x7 x8 x9 (ix2 c l) = norm (flat O) gb (ix3 b s c) := by
  have hk : ∀ k : Fin 512, flat O (ix3 b s k) = x4 (ix2 k l) := fun k => by
    obtain ⟨h, d, rfl⟩ : ∃ (h : Fin 8) (d : Fin 64), k = ⟨64 * h.val + d.val, by omega⟩ :=
      ⟨⟨k.val / 64, by omega⟩, ⟨k.val % 64, by omega⟩, Fin.ext (by simp only; omega)⟩
    rw [flat_at, h4]
  unfold k0_pay21
  rw [pay19_at, norm_at, mean512]
  simp only [hk]
  rw [← h7 c]
  pointwise

/-- The first result of a block. -/
theorem first_at (u v : FVec Ideal S512x512 .f32) (U V : FVec Ideal S2x8192x512 .f32)
    (hu : ∀ c : Fin 512, u (ix2 c l) = U (ix3 b s c)) (hv : ∀ c : Fin 512, v (ix2 c l) = V (ix3 b s c))
    (h5 : ∀ e : Fin 1024, x5 (ix2 l e) = X (ix3 b s e)) (h8 : ∀ e k : Fin 1024, x8 (ix2 e k) = W (ix2 k e)) (e : Fin 1024) :
    k0_pay1 u v x5 x8 (ix2 e l) = hidden X W U V (ix3 b s e) := by
  rw [pay1_at, hidden_at, h5]
  refine congrArg _ (Finset.sum_congr rfl fun k _ => ?_)
  rw [h8, mul_comm]
  split
  · rw [hu]
  · rw [hv]

/-- The second result of a block. -/
theorem second_at (u v : FVec Ideal S512x512 .f32) (U V : FVec Ideal S2x8192x512 .f32)
    (hu : ∀ c : Fin 512, u (ix2 c l) = U (ix3 b s c)) (hv : ∀ c : Fin 512, v (ix2 c l) = V (ix3 b s c))
    (h5 : ∀ e : Fin 1024, x5 (ix2 l e) = X (ix3 b s e)) (h8 : ∀ e k : Fin 1024, x8 (ix2 e k) = W (ix2 k e))
    (h9 : ∀ e : Fin 1024, x9 (ix2 e 0) = g (ix1 e)) (e : Fin 1024) :
    k0_pay2 u v x5 x8 x9 (ix2 e l) = normH g (hidden X W U V) (ix3 b s e) := by
  have hf := first_at X W x5 x8 b s l u v U V hu hv h5 h8
  rw [pay2_at, normH_at, mean1024, h9]
  simp only [hf]

end Cert.Kernel2Ideal.At
-- ==== Proof.Out.Final.lean ====
/- The output projection's two arrays are the reference's results. -/
module

public import proofs.«01_k».proof.Proof.Out.HostAt
public import proofs.«01_k».proof.Proof.Out.BlockAt
public import Idealize.ShloMosaic.Lib.Pipeline.ValueKit

@[expose] public section

set_option maxRecDepth 16384

noncomputable section

namespace Cert.Kernel2Ideal.Final

open Idealize.ShloMosaic Idealize.ShloMosaic.TcCoe Idealize.SL.Sem
open Cert.Kernel2Ideal Cert.Kernel2Ideal.Gen Cert.Kernel2Ideal.At
open Cert.Reference2Ideal.At (cols cols_at state last last_at)

/-- The batch of a point and its block of tokens within the batch. -/
def B (t : Fin cfg0.N) : Fin 2 := ⟨t.val / 16, by have := t.isLt; have : cfg0.N = 32 := by decide +kernel
                                                  omega⟩
def I (t : Fin cfg0.N) : Fin 16 := ⟨t.val % 16, by omega⟩

theorem idx0 : ∀ t : Fin cfg0.N, win0_0.index t = ![0, (B t).val * 16 + (I t).val] := (by decide +kernel : ∀ t : Fin grid0.N, _)
theorem idx1 : ∀ t : Fin cfg0.N, win0_1.index t = ![0, (B t).val * 16 + (I t).val] := (by decide +kernel : ∀ t : Fin grid0.N, _)
theorem idx2 : ∀ t : Fin cfg0.N, win0_2.index t = ![0, (B t).val * 16 + (I t).val] := (by decide +kernel : ∀ t : Fin grid0.N, _)
theorem idx3 : ∀ t : Fin cfg0.N, win0_3.index t = ![0, (B t).val * 16 + (I t).val] := (by decide +kernel : ∀ t : Fin grid0.N, _)
theorem idx4 : ∀ t : Fin cfg0.N, win0_4.index t = ![0, (B t).val * 16 + (I t).val] := (by decide +kernel : ∀ t : Fin grid0.N, _)
theorem idx10 : ∀ t : Fin cfg0.N, win0_10.index t = ![0, (B t).val * 16 + (I t).val] := (by decide +kernel : ∀ t : Fin grid0.N, _)
theorem idx11 : ∀ t : Fin cfg0.N, win0_11.index t = ![0, (B t).val * 16 + (I t).val] := (by decide +kernel : ∀ t : Fin grid0.N, _)
theorem idx5 : ∀ t : Fin cfg0.N, win0_5.index t = ![(B t).val * 16 + (I t).val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)

/-- The blocks read in their arrays. -/
theorem blk0 (X : FVec Ideal S512x16384 .f32) (t : Fin cfg0.N) (r l : Fin 512) :
    ((cfg0.win 0).blk t).view.read (Elt Ideal) X (ix2 r l) = X (ix2 r ⟨8192 * (B t).val + (512 * (I t).val + l.val), by omega⟩) := by
  blk_ext [idx0 t]
theorem blk1 (X : FVec Ideal S512x16384 .f32) (t : Fin cfg0.N) (r l : Fin 512) :
    ((cfg0.win 1).blk t).view.read (Elt Ideal) X (ix2 r l) = X (ix2 r ⟨8192 * (B t).val + (512 * (I t).val + l.val), by omega⟩) := by
  blk_ext [idx1 t]
theorem blk2 (X : FVec Ideal S512x16384 .f32) (t : Fin cfg0.N) (r l : Fin 512) :
    ((cfg0.win 2).blk t).view.read (Elt Ideal) X (ix2 r l) = X (ix2 r ⟨8192 * (B t).val + (512 * (I t).val + l.val), by omega⟩) := by
  blk_ext [idx2 t]
theorem blk4 (X : FVec Ideal S512x16384 .f32) (t : Fin cfg0.N) (r l : Fin 512) :
    ((cfg0.win 4).blk t).view.read (Elt Ideal) X (ix2 r l) = X (ix2 r ⟨8192 * (B t).val + (512 * (I t).val + l.val), by omega⟩) := by
  blk_ext [idx4 t]
theorem blk3 (X : FVec Ideal S32x16384 .f32) (t : Fin cfg0.N) (r : Fin 32) (l : Fin 512) :
    ((cfg0.win 3).blk t).view.read (Elt Ideal) X (ix2 r l) = X (ix2 r ⟨8192 * (B t).val + (512 * (I t).val + l.val), by omega⟩) := by
  blk_ext [idx3 t]
theorem blk5 (X : FVec Ideal S16384x1024 .f32) (t : Fin cfg0.N) (l : Fin 512) (e : Fin 1024) :
    ((cfg0.win 5).blk t).view.read (Elt Ideal) X (ix2 l e) = X (ix2 ⟨8192 * (B t).val + (512 * (I t).val + l.val), by omega⟩ e) := by
  blk_ext [idx5 t]
theorem blk6 (X : FVec Ideal S512x1 .f32) (t : Fin cfg0.N) (r : Fin 512) :
    ((cfg0.win 6).blk t).view.read (Elt Ideal) X (ix2 r 0) = X (ix2 r 0) := by
  blk_ext [idx6 t]
theorem blk7 (X : FVec Ideal S512x1 .f32) (t : Fin cfg0.N) (r : Fin 512) :
    ((cfg0.win 7).blk t).view.read (Elt Ideal) X (ix2 r 0) = X (ix2 r 0) := by
  blk_ext [idx7 t]
theorem blk8 (X : FVec Ideal S1024x1024 .bf16) (t : Fin cfg0.N) (e k : Fin 1024) :
    ((cfg0.win 8).blk t).view.read (Elt Ideal) X (ix2 e k) = X (ix2 e k) := by
  blk_ext [idx8 t]
theorem blk9 (X : FVec Ideal S1024x1 .f32) (t : Fin cfg0.N) (e : Fin 1024) :
    ((cfg0.win 9).blk t).view.read (Elt Ideal) X (ix2 e 0) = X (ix2 e 0) := by
  blk_ext [idx9 t]

theorem emb10 (t : Fin cfg0.N) (e : Fin 1024) (l : Fin 512) :
    ((cfg0.win 10).blk t).view.emb (ix2 e l) = ix2 e ⟨8192 * (B t).val + (512 * (I t).val + l.val), by omega⟩ := by
  blk_ext [idx10 t]

theorem emb11 (t : Fin cfg0.N) (e : Fin 1024) (l : Fin 512) :
    ((cfg0.win 11).blk t).view.emb (ix2 e l) = ix2 e ⟨8192 * (B t).val + (512 * (I t).val + l.val), by omega⟩ := by
  blk_ext [idx11 t]

variable (m : (ℓ : Loc nD τ sig) → Buf (Elt Ideal) ℓ) (c : Dev nD)

/-- The reference's hidden state of the arguments. -/
abbrev stateOf : FVec Ideal Cert.Reference2Ideal.S2x8192x1024 .f32 :=
  state (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

/-- The rows of a block that enter the product. -/
theorem left_at (t : Fin cfg0.N) (l r : Fin 512) :
    k0_pay20 (iblk m c 0 t) (iblk m c 1 t) (iblk m c 2 t) (iblk m c 3 t) (iblk m c 4 t) (iblk m c 5 t) (iblk m c 6 t) (iblk m c 7 t) (iblk m c 8 t) (iblk m c 9 t) (ix2 r l)
      = Cert.Reference2Ideal.At.norm (Cert.Reference2Ideal.At.mix (m ((c.tc : Thread nD τ).loc main_arg0)) (m ((c.tc : Thread nD τ).loc main_arg1))
        (m ((c.tc : Thread nD τ).loc main_arg2)) (m ((c.tc : Thread nD τ).loc main_arg3))) (m ((c.tc : Thread nD τ).loc main_arg6))
        (ix3 (B t) ⟨512 * (I t).val + l.val, by omega⟩ r) := by
  have hl := l.isLt
  exact mixed_at _ _ _ _ _ _ _ _ _ _ _ _ _ _ _ (B t) ⟨512 * (I t).val + l.val, by omega⟩ l
    (fun h d => (blk0 (V m c main_v5) t _ l).trans ((congrFun (read_a m c) _).trans (heads_at _ h d (B t) ⟨512 * (I t).val + l.val, by omega⟩)))
    (fun h d => (blk1 (V m c main_v7) t _ l).trans ((congrFun (read_b m c) _).trans (heads_at _ h d (B t) ⟨512 * (I t).val + l.val, by omega⟩)))
    (fun h d => (blk2 (V m c main_v9) t _ l).trans ((congrFun (read_c m c) _).trans (heads_at _ h d (B t) ⟨512 * (I t).val + l.val, by omega⟩)))
    (fun h j => (blk3 (V m c main_v3) t _ l).trans ((congrFun (read_g m c) _).trans (gates_at _ h j (B t) ⟨512 * (I t).val + l.val, by omega⟩)))
    (fun r => (blk6 (V m c main_v13) t r).trans ((congrFun (read_ga m c) _).trans (gain_at _ r))) r

theorem right_at (t : Fin cfg0.N) (l r : Fin 512) :
    k0_pay21 (iblk m c 0 t) (iblk m c 1 t) (iblk m c 2 t) (iblk m c 3 t) (iblk m c 4 t) (iblk m c 5 t) (iblk m c 6 t) (iblk m c 7 t) (iblk m c 8 t) (iblk m c 9 t) (ix2 r l)
      = Cert.Reference2Ideal.At.norm (Cert.Reference2Ideal.At.flat (m ((c.tc : Thread nD τ).loc main_arg4))) (m ((c.tc : Thread nD τ).loc main_arg7))
        (ix3 (B t) ⟨512 * (I t).val + l.val, by omega⟩ r) := by
  have hl := l.isLt
  exact other_at _ _ _ _ _ _ _ _ _ _ _ _ (B t) ⟨512 * (I t).val + l.val, by omega⟩ l
    (fun h d => (blk4 (V m c main_v11) t _ l).trans ((congrFun (read_o m c) _).trans (heads_at _ h d (B t) ⟨512 * (I t).val + l.val, by omega⟩)))
    (fun r => (blk7 (V m c main_v14) t r).trans ((congrFun (read_gb m c) _).trans (gain_at _ r))) r

/-- What the body stores is a payload over whole blocks. -/
theorem out0_eq (x0 x1 x2 : Vec Ideal S512x512 .f32) (x3 : Vec Ideal S32x512 .f32) (x4 : Vec Ideal S512x512 .f32) (x5 : Vec Ideal S512x1024 .f32)
    (x6 x7 : Vec Ideal S512x1 .f32) (x8 : Vec Ideal S1024x1024 .bf16) (x9 : Vec Ideal S1024x1 .f32) :
    out0_10 (F := Ideal) x0 x1 x2 x3 x4 x5 x6 x7 x8 x9 = k0_pay1 (F := Ideal) (k0_pay20 x0 x1 x2 x3 x4 x5 x6 x7 x8 x9) (k0_pay21 x0 x1 x2 x3 x4 x5 x6 x7 x8 x9) x5 x8 := by
  unfold out0_10
  refine (View.canon_cons_unit_lit _ _ [] (by decide)).trans ?_
  rw [View.ld_unit_lit _ x5 (by decide), View.ld_unit_lit _ x8 (by decide)]

theorem out1_eq (x0 x1 x2 : Vec Ideal S512x512 .f32) (x3 : Vec Ideal S32x512 .f32) (x4 : Vec Ideal S512x512 .f32) (x5 : Vec Ideal S512x1024 .f32)
    (x6 x7 : Vec Ideal S512x1 .f32) (x8 : Vec Ideal S1024x1024 .bf16) (x9 : Vec Ideal S1024x1 .f32) :
    out0_11 (F := Ideal) x0 x1 x2 x3 x4 x5 x6 x7 x8 x9 = k0_pay2 (F := Ideal) (k0_pay20 x0 x1 x2 x3 x4 x5 x6 x7 x8 x9) (k0_pay21 x0 x1 x2 x3 x4 x5 x6 x7 x8 x9) x5 x8 x9 := by
  unfold out0_11
  refine (View.canon_cons_unit_lit _ _ [] (by decide)).trans ?_
  rw [View.ld_unit_lit _ x5 (by decide), View.ld_unit_lit _ x8 (by decide), View.ld_unit_lit _ x9 (by decide)]

theorem final0 : (dats m 0 c).arrAt 10 (cfgs 0).N = cols (stateOf m c) := by
  refine (dats m 0 c).arrAt_eq_of_covers 10 _ (by decide +kernel) fun t hf y => ?_
  blk_simp
  rw [after0_10]
  obtain ⟨e, l, rfl⟩ : ∃ (e : Fin 1024) (l : Fin 512), y = ix2 e l := ⟨y 0, y 1, eq_ix2 y⟩
  rw [emb10]
  refine Eq.trans ?_ (cols_at _ (B t) ⟨512 * (I t).val + l.val, by omega⟩ e).symm
  refine Eq.trans ?_ (first_at _ _ (iblk m c 5 t) (iblk m c 8 t) (B t) ⟨512 * (I t).val + l.val, by omega⟩ l _ _ _ _ (left_at m c t l) (right_at m c t l)
    (fun e => (blk5 (V m c main_v12) t l e).trans ((congrFun (read_x m c) _).trans (rows_at _ e (B t) ⟨512 * (I t).val + l.val, by omega⟩)))
    (fun e k => (blk8 (V m c main_v16) t e k).trans ((congrFun (read_w m c) _).trans (weights_at _ e k))) e)
  exact congrFun (out0_eq _ _ _ _ _ _ _ _ _ _) _

theorem final1 : (dats m 0 c).arrAt 11 (cfgs 0).N = last (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) := by
  refine (dats m 0 c).arrAt_eq_of_covers 11 _ (by decide +kernel) fun t hf y => ?_
  blk_simp
  rw [after0_11]
  obtain ⟨e, l, rfl⟩ : ∃ (e : Fin 1024) (l : Fin 512), y = ix2 e l := ⟨y 0, y 1, eq_ix2 y⟩
  rw [emb11]
  refine Eq.trans ?_ (last_at _ _ _ _ _ _ _ _ _ _ (B t) ⟨512 * (I t).val + l.val, by omega⟩ e).symm
  refine Eq.trans ?_ (second_at _ _ _ (iblk m c 5 t) (iblk m c 8 t) (iblk m c 9 t) (B t) ⟨512 * (I t).val + l.val, by omega⟩ l _ _ _ _ (left_at m c t l) (right_at m c t l)
    (fun e => (blk5 (V m c main_v12) t l e).trans ((congrFun (read_x m c) _).trans (rows_at _ e (B t) ⟨512 * (I t).val + l.val, by omega⟩)))
    (fun e k => (blk8 (V m c main_v16) t e k).trans ((congrFun (read_w m c) _).trans (weights_at _ e k)))
    (fun e => (blk9 (V m c main_v17) t e).trans ((congrFun (read_h m c) _).trans (gainH_at _ e))) e)
  exact congrFun (out1_eq _ _ _ _ _ _ _ _ _ _) _

end Cert.Kernel2Ideal.Final
-- ==== Proof.Out.Algebraic.lean ====
/- The output projection: the frames of its three programs, and the equality of its two results with the reference's
   as extended reals. -/
module

public import proofs.«01_k».proof.Defs
public import proofs.«01_k».proof.Proof.Gen.Kernel2.Frame
public import proofs.«01_k».proof.Proof.Gen.Kernel2Ideal.Value
public import proofs.«01_k».proof.Proof.Out.Final
public import Idealize.ShloMosaic.Lib.Claim

@[expose] public section

set_option maxRecDepth 16384

noncomputable section

namespace Cert.Proof.Out

open Idealize.ShloMosaic Idealize.ShloMosaic.TcCoe Idealize.SL.Sem

theorem frame_P : Cert.quiescent_Kernel2 (hKernel2 := Cert.Kernel2.Gen.facts) := fun m g _ => Cert.Kernel2.Gen.frame m g

theorem frame_PI : Cert.quiescent_Kernel2Ideal (hKernel2Ideal := Cert.Kernel2Ideal.Gen.facts) := fun m g _ => Cert.Kernel2Ideal.Gen.frame m g

theorem frame_RI : Cert.quiescent_Reference2Ideal (hReference2Ideal := Cert.Reference2Ideal.Gen.facts) := fun m g _ =>
  (θ_run _ _ _).mono (fun r h => ⟨fun c => (h c).2.2, sem_eq_zero_of_no_sems rfl r.2⟩) (Cert.Reference2Ideal.Value.run m g)

theorem preserves : Cert.preserves_Kernel2_Kernel2Ideal := trivial

open Cert.Kernel2Ideal in
theorem algebraic : Cert.algebraic_Kernel2Ideal_Reference2Ideal (hKernel2Ideal := Cert.Kernel2Ideal.Gen.facts)
    (hReference2Ideal := Cert.Reference2Ideal.Gen.facts) := fun m g m' g' _ hagree => by
  refine ⟨fun c => Cert.Reference2Ideal.At.cols (Cert.Kernel2Ideal.Final.stateOf m c),
    fun c => Cert.Reference2Ideal.At.last (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)), ?_, ?_⟩
  · refine (θ_run _ _ _).mono (fun r h c => ?_) (θ_run_and (Cert.Kernel2Ideal.Gen.frame m g) (Cert.Kernel2Ideal.Gen.run_main m g))
    exact ⟨(h.2.out_eq c 10).trans (Cert.Kernel2Ideal.Final.final0 m c), (h.2.out_eq c 11).trans (Cert.Kernel2Ideal.Final.final1 m c), h.1.1 c⟩
  · refine (θ_run _ _ _).mono (fun r h c => ⟨(h c).1.trans ?_, (h c).2.1.trans ?_, (h c).2.2⟩) (Cert.Reference2Ideal.Value.run m' g')
    · obtain ⟨h0, h1, h2, h3, h4, h5, h6, h7, h8, h9⟩ := hagree c
      rw [Cert.Reference2Ideal.At.res0_eq, h0, h1, h2, h3, h4, h5, h6, h7, h8]
    · obtain ⟨h0, h1, h2, h3, h4, h5, h6, h7, h8, h9⟩ := hagree c
      rw [Cert.Reference2Ideal.At.res1_eq, h0, h1, h2, h3, h4, h5, h6, h7, h8, h9]

end Cert.Proof.Out
-- ==== Proof.Ffn.HostAt.lean ====
/- The two tables of experts the call reads: the first as it is, the second transposed. -/
module

public import proofs.«01_k».proof.Proof.Gen.Kernel3Ideal.Frame
public import Idealize.ShloMosaic.Lib.Pointwise
public import Idealize.ShloMosaic.Lib.Claim

@[expose] public section

set_option maxRecDepth 16384

noncomputable section

namespace Cert.Kernel3Ideal.At

open Idealize.ShloMosaic Idealize.ShloMosaic.TcCoe
open Cert.Kernel3Ideal Cert.Kernel3Ideal.Gen

variable (U V : FVec Ideal S16384x1024 .f32)

def up : FVec Ideal S16384x1024 .bf16 := truncf .bf16 U bitsLt_bf16_f32

def down : FVec Ideal S1024x16384 .bf16 :=
  truncf .bf16 (transpose S1024x16384 [1, 0] V transposes_S16384x1024_S1024x16384_1_0) bitsLt_bf16_f32

theorem up_at (e : Fin 16384) (k : Fin 1024) : up U (ix2 e k) = U (ix2 e k) := by
  pointwise [up]

theorem down_at (d : Fin 1024) (e : Fin 16384) : down V (ix2 d e) = V (ix2 e d) := by
  pointwise [down]

variable (m : (ℓ : Loc nD τ sig) → Buf (Elt Ideal) ℓ) (c : Dev nD)

theorem read_u : Gen.V m c main_v0 = up (m ((c : Thread nD τ).loc main_arg2)) := by
  entry_read
  rfl
theorem read_v : Gen.V m c main_v2 = down (m ((c : Thread nD τ).loc main_arg3)) := by
  entry_read
  rfl

end Cert.Kernel3Ideal.At
-- ==== Proof.Ffn.Gelu.lean ====
/- The kernel's and the reference's gelu are the same function of the extended reals. -/
module

public import Idealize.ShloMosaic.PureOps.Ideal
public import proofs.«01_k».proof.Kernel3Ideal
public import Idealize.ShloMosaic.Lib.Pointwise
public import Mathlib.Analysis.SpecialFunctions.Log.Basic
public import Mathlib.Analysis.SpecialFunctions.Pow.Real

@[expose] public section

noncomputable section

namespace Cert.Ffn

open Idealize.ShloMosaic

/-- The root of 2 / π and the cubic term's factor, as float32 words. -/
def c1 : ℝ := 6693141 / 8388608
def c3 : ℝ := 12003091 / 268435456

/-- The two constants of the kernel's exponent. -/
def k1 : ℝ := -((2 * (6693141 / 8388608)) * (Real.log 2)⁻¹)
def k3 : ℝ := (-((2 * (6693141 / 8388608)) * (Real.log 2)⁻¹)) * (12003091 / 268435456)

/-- The gelu of reference.py. -/
def gelu (x : EReal) : EReal :=
  x * (((1 / 2 : ℝ) : EReal) * (1 + Ideal.tanh ((c1 : EReal) * (x + (c3 : EReal) * (x * x * x)))))

/-- The gelu of the kernel. -/
def geluK (x : EReal) : EReal := Ideal.div x (1 + Ideal.exp2 (x * ((k1 : EReal) + (k3 : EReal) * (x * x))))

theorem real_gelu (x : ℝ) : x / (1 + Real.rpow 2 (x * (k1 + k3 * (x * x)))) = x * (1 / 2 * (1 + Real.tanh (c1 * (x + c3 * (x * x * x))))) := by
  have hl : Real.log 2 ≠ 0 := (Real.log_pos (by norm_num)).ne'
  set y := c1 * (x + c3 * (x * x * x)) with hy
  have h2 : Real.rpow 2 (x * (k1 + k3 * (x * x))) = Real.exp (-2 * y) := by
    show (2 : ℝ) ^ (x * (k1 + k3 * (x * x)) : ℝ) = _
    rw [Real.rpow_def_of_pos (by norm_num)]
    congr 1
    rw [hy, k1, k3, c1, c3]
    field_simp
    ring
  rw [h2, Real.tanh_eq_sinh_div_cosh, Real.sinh_eq, Real.cosh_eq]
  have e : Real.exp (-2 * y) = Real.exp (-y) * Real.exp (-y) := by rw [← Real.exp_add]; ring_nf
  have e1 : Real.exp y * Real.exp (-y) = 1 := by rw [← Real.exp_add]; simp
  have hp := Real.exp_pos y
  have hn := Real.exp_pos (-y)
  rw [e]
  field_simp
  linear_combination (-2 * x * Real.exp (-y)) * e1

theorem geluK_eq (x : EReal) : geluK x = gelu x := by
  have hl : 0 < Real.log 2 := Real.log_pos (by norm_num)
  have hk3 : k3 < 0 := by
    unfold k3
    have : 0 < (Real.log 2)⁻¹ := inv_pos.mpr hl
    nlinarith
  have hc1 : 0 < c1 := by unfold c1; norm_num
  have hc3 : 0 < c3 := by unfold c3; norm_num
  unfold geluK gelu
  induction x using EReal.rec with
  | bot =>
    rw [EReal.bot_mul_bot, EReal.coe_mul_top_of_neg hk3, EReal.add_bot, EReal.bot_mul_bot, EReal.top_mul_bot, EReal.coe_mul_bot_of_pos hc3,
      EReal.add_bot, EReal.coe_mul_bot_of_pos hc1]
    show Ideal.div ⊥ (1 + ⊤) = ⊥ * (_ * (1 + -1))
    have h1 : (1 : EReal) + -1 = 0 := by
      rw [← EReal.coe_one, ← EReal.coe_neg, ← EReal.coe_add]; simp
    have h2 : (1 : EReal) + ⊤ = ⊤ := by rw [← EReal.coe_one]; exact EReal.coe_add_top 1
    rw [h1, h2, mul_zero, mul_zero, Ideal.div, if_neg EReal.top_ne_zero, EReal.inv_top, mul_zero]
  | top =>
    rw [EReal.top_mul_top, EReal.coe_mul_top_of_neg hk3, EReal.add_bot, EReal.top_mul_bot, EReal.top_mul_top, EReal.coe_mul_top_of_pos hc3,
      EReal.top_add_top, EReal.coe_mul_top_of_pos hc1]
    show Ideal.div ⊤ (1 + 0) = ⊤ * (_ * (1 + 1))
    have h1 : ((1 / 2 : ℝ) : EReal) * (1 + 1) = 1 := by
      rw [← EReal.coe_one, ← EReal.coe_add, ← EReal.coe_mul]; norm_num
    rw [h1, add_zero, Ideal.div, if_neg one_ne_zero, inv_one]
  | coe x =>
    rw [← EReal.coe_mul, ← EReal.coe_mul, ← EReal.coe_add, ← EReal.coe_mul, ← EReal.coe_mul, ← EReal.coe_mul, ← EReal.coe_add, ← EReal.coe_mul]
    show Ideal.div (x : EReal) (1 + ((Real.rpow 2 _ : ℝ) : EReal)) = (x : EReal) * (_ * (1 + ((Real.tanh _ : ℝ) : EReal)))
    have hpos : 0 < 1 + Real.rpow 2 (x * (k1 + k3 * (x * x))) := by
      have : (0 : ℝ) < (2 : ℝ) ^ (x * (k1 + k3 * (x * x))) := Real.rpow_pos_of_pos (by norm_num) _
      exact add_pos one_pos this
    rw [← EReal.coe_one, ← EReal.coe_add, ← EReal.coe_add, ← EReal.coe_mul, ← EReal.coe_mul, ← real_gelu x, Ideal.div,
      if_neg (by exact_mod_cast hpos.ne'), ← EReal.coe_inv, ← EReal.coe_mul, div_eq_mul_inv]

end Cert.Ffn
-- ==== Proof.Ffn.KernelAt.lean ====
/- The body of the experts' call read at one index: one head's share of a gate, the 128 experts of one row of keys, and the
   sum over the 2048 experts of a block. -/
module

public import proofs.«01_k».proof.Proof.Gen.Kernel3Ideal.Skeleton
public import proofs.«01_k».proof.Proof.Ffn.Gelu
public import Idealize.ShloMosaic.Lib.Pointwise
public import Idealize.ShloMosaic.Lib.Pipeline.Value

@[expose] public section

set_option maxRecDepth 16384

noncomputable section

namespace Cert.Kernel3Ideal.At

open Idealize.ShloMosaic Idealize.ShloMosaic.TcCoe
open Cert.Kernel3Ideal Cert.Kernel3Ideal.Gen

/-- One head's share of the gates of 128 experts. -/
def share (r g : FVec Ideal S1x128x512 .bf16) (c p : FVec Ideal S1x1x512 .bf16) : FVec Ideal S128x512 .bf16 :=
  mulf (select (cmpf .olt (shapeCast S128x512 r shapeCasts_S1x128x512_S128x512)
      (broadcastTo S128x512 (shapeCast S1x512 (shapeCast S1x512 c shapeCasts_S1x1x512_S1x512) shapeCasts_S1x512_S1x512) broadcasts_S1x512_S128x512))
      (shapeCast S128x512 g shapeCasts_S1x128x512_S128x512) (broadcast S128x512 (Scalar.ofBits .bf16 0x0000#16)))
    (broadcastTo S128x512 (shapeCast S1x512 (shapeCast S1x512 p shapeCasts_S1x1x512_S1x512) shapeCasts_S1x512_S1x512) broadcasts_S1x512_S128x512)

/-- The activations of 128 experts. -/
def actK (a : FVec Ideal S128x512 .f32) : FVec Ideal S128x512 .bf16 :=
  truncf .bf16 (divf a (addf (broadcast S128x512 (Scalar.ofBits .f32 0x3F800000#32)) (exp2 (mulf a
    (addf (broadcast S128x512 (Named.named κ "gelu_1" 0xC0135761#32))
      (mulf (broadcast S128x512 (Named.named κ "gelu_3" 0xBDD2D3E8#32)) (mulf a a))))))) bitsLt_bf16_f32

/-- The weights of 128 experts. -/
def chunk (a : FVec Ideal S128x512 .f32) (r g : Fin 8 → FVec Ideal S1x128x512 .bf16) (c p : Fin 8 → FVec Ideal S1x1x512 .bf16) :
    FVec Ideal S128x512 .bf16 :=
  mulf (addf (addf (addf (addf (addf (addf (addf (share (r 0) (g 0) (c 0) (p 0)) (share (r 1) (g 1) (c 1) (p 1)))
    (share (r 2) (g 2) (c 2) (p 2))) (share (r 3) (g 3) (c 3) (p 3))) (share (r 4) (g 4) (c 4) (p 4)))
    (share (r 5) (g 5) (c 5) (p 5))) (share (r 6) (g 6) (c 6) (p 6))) (share (r 7) (g 7) (c 7) (p 7))) (actK a)

/-- The accumulator with a block of 2048 experts added. -/
def body (acc : FVec Ideal S1024x512 .f32) (v : FVec Ideal S1024x2048 .bf16) (w : Fin 16 → FVec Ideal S128x512 .bf16) : FVec Ideal S1024x512 .f32 :=
  shapeCast S1024x512 (addf acc (matmul dot_S1024x2048_S2048x512_S1024x512_1_0_0_1_n_n none (shapeCast S1024x2048 v shapeCasts_S1024x2048_S1024x2048)
    (concatenate S2048x512 0 [⟨S128x512, w 0⟩, ⟨S128x512, w 1⟩, ⟨S128x512, w 2⟩, ⟨S128x512, w 3⟩, ⟨S128x512, w 4⟩, ⟨S128x512, w 5⟩, ⟨S128x512, w 6⟩, ⟨S128x512, w 7⟩,
      ⟨S128x512, w 8⟩, ⟨S128x512, w 9⟩, ⟨S128x512, w 10⟩, ⟨S128x512, w 11⟩, ⟨S128x512, w 12⟩, ⟨S128x512, w 13⟩, ⟨S128x512, w 14⟩, ⟨S128x512, w 15⟩]
      concatenates_S128x512_S128x512_S128x512_S128x512_S128x512_S128x512_S128x512_S128x512_S128x512_S128x512_S128x512_S128x512_S128x512_S128x512_S128x512_S128x512_S2048x512_d0)
    (constant S1024x512 .f32 0x00000000#32))) shapeCasts_S1024x512_S1024x512

theorem share_at (r g : FVec Ideal S1x128x512 .bf16) (c p : FVec Ideal S1x1x512 .bf16) (j : Fin 128) (l : Fin 512) :
    share r g c p (ix2 j l) = if r (ix3 0 j l) < c (ix3 0 0 l) then p (ix3 0 0 l) * g (ix3 0 j l) else 0 := by
  pointwise [share]
  split
  · exact mul_comm _ _
  · exact zero_mul _

theorem named1 : (Named.named (F := Ideal) κ "gelu_1" 0xC0135761#32 : Ideal .f32) = (Cert.Ffn.k1 : EReal) := IdealRules.named_const.ideal_named_scalar _ _ _ _ rfl
theorem named3 : (Named.named (F := Ideal) κ "gelu_3" 0xBDD2D3E8#32 : Ideal .f32) = (Cert.Ffn.k3 : EReal) := IdealRules.named_const.ideal_named_scalar _ _ _ _ rfl

theorem actK_at (a : FVec Ideal S128x512 .f32) (j : Fin 128) (l : Fin 512) : actK a (ix2 j l) = Cert.Ffn.gelu (a (ix2 j l)) := by
  rw [← Cert.Ffn.geluK_eq]
  unfold actK Cert.Ffn.geluK
  rw [named1, named3]
  pointwise
  rfl

theorem chunk_at (a : FVec Ideal S128x512 .f32) (r g : Fin 8 → FVec Ideal S1x128x512 .bf16) (c p : Fin 8 → FVec Ideal S1x1x512 .bf16)
    (j : Fin 128) (l : Fin 512) : chunk a r g c p (ix2 j l)
      = (∑ h : Fin 8, if r h (ix3 0 j l) < c h (ix3 0 0 l) then p h (ix3 0 0 l) * g h (ix3 0 j l) else 0) * Cert.Ffn.gelu (a (ix2 j l)) := by
  rw [← actK_at]
  simp only [← share_at]
  rw [Fin.sum_univ_eight]
  rfl

theorem body_at (acc : FVec Ideal S1024x512 .f32) (v : FVec Ideal S1024x2048 .bf16) (w : Fin 16 → FVec Ideal S128x512 .bf16) (d : Fin 1024) (l : Fin 512) :
    body acc v w (ix2 d l) = acc (ix2 d l) + ∑ k : Fin 2048, v (ix2 d k) * w ⟨k.val / 128, by omega⟩ (ix2 ⟨k.val % 128, by omega⟩ l) := by
  unfold body
  generalize hz : concatenate _ _ _ _ = z
  have hk : ∀ k : Fin 2048, z (ix2 k l) = w ⟨k.val / 128, by omega⟩ (ix2 ⟨k.val % 128, by omega⟩ l) := fun k => by
    subst hz
    exact concatenate_ofFn_apply (t := S2048x512) (s₁ := S128x512) 0 w concatenates_S128x512_S128x512_S128x512_S128x512_S128x512_S128x512_S128x512_S128x512_S128x512_S128x512_S128x512_S128x512_S128x512_S128x512_S128x512_S128x512_S2048x512_d0
      rfl 128 rfl (ix2 k l) ⟨k.val / 128, by omega⟩ rfl (ix2 ⟨k.val % 128, by omega⟩ l) rfl
      (fun b hb => by
        match b, hb with
        | 0, hb => exact absurd rfl hb
        | 1, _ => rfl)
  simp only [← hk]
  clear hk hz
  pointwise

theorem pre_at (hn : FVec Ideal S1024x512 .bf16) (u : FVec Ideal S128x1024 .bf16) (j : Fin 128) (l : Fin 512) :
    k0_pay3 (F := Ideal) hn u (ix2 j l) = ∑ k : Fin 1024, u (ix2 j k) * hn (ix2 k l) := by
  pointwise [k0_pay3]

theorem zero_at (d : Fin 1024) (l : Fin 512) : k0_pay2 (F := Ideal) (ix2 d l) = 0 := by
  pointwise [k0_pay2]

theorem out_at (h acc : FVec Ideal S1024x512 .f32) (l : Fin 512) (d : Fin 1024)  : k0_pay1 (F := Ideal) h acc (ix2 l d) = h (ix2 d l) + acc (ix2 d l) := by
  pointwise [k0_pay1]

end Cert.Kernel3Ideal.At
-- ==== Proof.Ffn.Point.lean ====
/- The stores of a point of the experts' call: the accumulator with one block of 2048 experts added, and at the last block
   the output block. -/
module

public import proofs.«01_k».proof.Proof.Gen.Kernel3Ideal.Frame
public import proofs.«01_k».proof.Proof.Ffn.KernelAt
public import Idealize.ShloMosaic.Lib.Pipeline.ValueKit

@[expose] public section

set_option maxRecDepth 16384

noncomputable section

namespace Cert.Kernel3Ideal.At

open Idealize.ShloMosaic Idealize.ShloMosaic.TcCoe Idealize.SL.Sem
open Cert.Kernel3Ideal Cert.Kernel3Ideal.Gen

/-- 128 experts of a block, one head of the second keys' arrays, and one row of the first keys'. -/
def ldU (x : Vec Ideal S2048x1024 .bf16) (n : Fin 16) : FVec Ideal S128x1024 .bf16 :=
  View.ld x (Rect.unit ![128 * n.val, 0] ![128, 1024] (fun a => by have := n.isLt; match a with
    | 0 => show 128 * n.val + 128 ≤ 2048; omega
    | 1 => exact Nat.le_refl 1024))

def ldHead (x : Vec Ideal S8x128x512 .bf16) (h : Fin 8) : FVec Ideal S1x128x512 .bf16 :=
  View.ld x (Rect.unit ![h.val, 0, 0] ![1, 128, 512] (fun a => by have := h.isLt; match a with
    | 0 => show h.val + 1 ≤ 8; omega
    | 1 => exact Nat.le_refl 128
    | 2 => exact Nat.le_refl 512))

def ldRow (x : Vec Ideal S8x16x512 .bf16) (n : Fin 16) (h : Fin 8) : FVec Ideal S1x1x512 .bf16 :=
  View.ld x (Rect.unit ![h.val, n.val, 0] ![1, 1, 512] (fun a => by have := h.isLt; have := n.isLt; match a with
    | 0 => show h.val + 1 ≤ 8; omega
    | 1 => show n.val + 1 ≤ 16; omega
    | 2 => exact Nat.le_refl 512))

/-- The weights of 128 experts of a block. -/
def weights (x0 : Vec Ideal S1024x512 .bf16) (x2 : Vec Ideal S2048x1024 .bf16) (x4 x5 : Vec Ideal S8x16x512 .bf16) (x6 x7 : Vec Ideal S8x128x512 .bf16)
    (n : Fin 16) : FVec Ideal S128x512 .bf16 :=
  chunk (k0_pay3 (F := Ideal) x0 (ldU x2 n)) (ldHead x6) (ldHead x7) (ldRow x4 n) (ldRow x5 n)

theorem first_eq (c : Dev nD) (i : grid0.Coords) (arg2 : Memref sig .tc .vmem S1024x512 .bf16) (harg2 : arg2.IsWhole) (arg3 : Memref sig .tc .vmem S1024x512 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S8x16x512 .bf16) (harg6 : arg6.IsWhole) (arg7 : Memref sig .tc .vmem S8x16x512 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S512x1024 .f32) (harg10 : arg10.IsWhole) (arg11 : Memref sig .tc .vmem S1024x512 .f32) (harg11 : arg11.IsWhole) (hc0 : cond0_0 i) (hc1 : ¬cond0_1 i)
    (x0 : Vec Ideal S1024x512 .bf16) (x1 : Vec Ideal S1024x512 .f32) (x2 : Vec Ideal S2048x1024 .bf16) (x3 : Vec Ideal S1024x2048 .bf16) (x4 : Vec Ideal S8x16x512 .bf16) (x5 : Vec Ideal S8x16x512 .bf16) (x6 : Vec Ideal S8x128x512 .bf16) (x7 : Vec Ideal S8x128x512 .bf16) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = body (k0_pay2 (F := Ideal)) x3 (weights x0 x2 x4 x5 x6 x7) := by
  frame_out
  rfl

theorem next_eq (c : Dev nD) (i : grid0.Coords) (arg2 : Memref sig .tc .vmem S1024x512 .bf16) (harg2 : arg2.IsWhole) (arg3 : Memref sig .tc .vmem S1024x512 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S8x16x512 .bf16) (harg6 : arg6.IsWhole) (arg7 : Memref sig .tc .vmem S8x16x512 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S512x1024 .f32) (harg10 : arg10.IsWhole) (arg11 : Memref sig .tc .vmem S1024x512 .f32) (harg11 : arg11.IsWhole) (hc0 : ¬cond0_0 i) (hc1 : ¬cond0_1 i)
    (x0 : Vec Ideal S1024x512 .bf16) (x1 : Vec Ideal S1024x512 .f32) (x2 : Vec Ideal S2048x1024 .bf16) (x3 : Vec Ideal S1024x2048 .bf16) (x4 : Vec Ideal S8x16x512 .bf16) (x5 : Vec Ideal S8x16x512 .bf16) (x6 : Vec Ideal S8x128x512 .bf16) (x7 : Vec Ideal S8x128x512 .bf16) (xs0 : Vec Ideal S1024x512 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0 = body xs0 x3 (weights x0 x2 x4 x5 x6 x7) := by
  frame_out
  rfl

theorem last_eq (c : Dev nD) (i : grid0.Coords) (arg2 : Memref sig .tc .vmem S1024x512 .bf16) (harg2 : arg2.IsWhole) (arg3 : Memref sig .tc .vmem S1024x512 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S8x16x512 .bf16) (harg6 : arg6.IsWhole) (arg7 : Memref sig .tc .vmem S8x16x512 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S512x1024 .f32) (harg10 : arg10.IsWhole) (arg11 : Memref sig .tc .vmem S1024x512 .f32) (harg11 : arg11.IsWhole) (hc0 : ¬cond0_0 i) (hc1 : cond0_1 i)
    (x0 : Vec Ideal S1024x512 .bf16) (x1 : Vec Ideal S1024x512 .f32) (x2 : Vec Ideal S2048x1024 .bf16) (x3 : Vec Ideal S1024x2048 .bf16) (x4 : Vec Ideal S8x16x512 .bf16) (x5 : Vec Ideal S8x16x512 .bf16) (x6 : Vec Ideal S8x128x512 .bf16) (x7 : Vec Ideal S8x128x512 .bf16) (xs0 : Vec Ideal S1024x512 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay1 (F := Ideal) x1 (body xs0 x3 (weights x0 x2 x4 x5 x6 x7)) := by
  frame_out
  rfl

end Cert.Kernel3Ideal.At
-- ==== Proof.Ffn.RefAt.lean ====
/- The reference of the experts read at one index: the gates, the activations and the product with the second table. -/
module

public import proofs.«01_k».proof.Proof.Gen.Reference3Ideal.Run
public import proofs.«01_k».proof.Proof.Ffn.Gelu
public import Idealize.ShloMosaic.Lib.Pointwise

@[expose] public section

set_option maxRecDepth 16384

noncomputable section

namespace Cert.Reference3Ideal.At

open Idealize.ShloMosaic Idealize.ShloMosaic.TcCoe
open Cert.Reference3Ideal Cert.Reference3Ideal.Gen Cert.Reference3Ideal.Value

variable (N : FVec Ideal S1024x16384 .bf16) (H : FVec Ideal S1024x16384 .f32) (U V : FVec Ideal S16384x1024 .f32)
  (C P R Q : FVec Ideal S8x128x16384 .bf16)

/-- The gate of every expert for every token. -/
def gate : FVec Ideal S16384x16384 .f32 :=
  shapeCast _ (Host.reduceAdd (select (cmpf .olt (broadcastInDim S8x128x128x16384 ![0, 1, 2, 3] bcast_S8x1x128x16384_S8x128x128x16384_0_1_2_3
      (broadcastInDim S8x1x128x16384 ![0, 2, 3] bcast_S8x128x16384_S8x1x128x16384_0_2_3 (extf .f32 R bitsLt_bf16_f32)))
      (broadcastInDim S8x128x128x16384 ![0, 1, 2, 3] bcast_S8x128x1x16384_S8x128x128x16384_0_1_2_3
      (broadcastInDim S8x128x1x16384 ![0, 1, 3] bcast_S8x128x16384_S8x128x1x16384_0_1_3 (extf .f32 C bitsLt_bf16_f32))))
    (mulf (broadcastInDim S8x128x128x16384 ![0, 1, 2, 3] bcast_S8x128x1x16384_S8x128x128x16384_0_1_2_3
      (broadcastInDim S8x128x1x16384 ![0, 1, 3] bcast_S8x128x16384_S8x128x1x16384_0_1_3 (extf .f32 P bitsLt_bf16_f32)))
      (broadcastInDim S8x128x128x16384 ![0, 1, 2, 3] bcast_S8x1x128x16384_S8x128x128x16384_0_1_2_3
      (broadcastInDim S8x1x128x16384 ![0, 2, 3] bcast_S8x128x16384_S8x1x128x16384_0_2_3 (extf .f32 Q bitsLt_bf16_f32))))
    (broadcastInDim S8x128x128x16384 ![] bcast_S_S8x128x128x16384 (id (constant S_ .f32 0x00000000#32)))) (constant S_ .f32 0x00000000#32)
    reducesTo_S8x128x128x16384_S128x128x16384_d0 h_S_) shapeCasts_S128x128x16384_S16384x16384

/-- The first product: every expert's row with every token. -/
def pre : FVec Ideal S16384x16384 .f32 :=
  Host.dotGeneral dot_S16384x1024_S1024x16384_S16384x16384_1_0_0_1_n_n none U (extf .f32 N bitsLt_bf16_f32)

/-- The activations. -/
def act (A : FVec Ideal S16384x16384 .f32) : FVec Ideal S16384x16384 .f32 :=
  mulf A (mulf (broadcastInDim S16384x16384 ![] bcast_S_S16384x16384 (constant S_ .f32 0x3F000000#32))
    (addf (broadcastInDim S16384x16384 ![] bcast_S_S16384x16384 (constant S_ .f32 0x3F800000#32))
      (Host.tanh (mulf (broadcastInDim S16384x16384 ![] bcast_S_S16384x16384 (constant S_ .f32 0x3F4C422A#32))
        (addf A (mulf (broadcastInDim S16384x16384 ![] bcast_S_S16384x16384 (constant S_ .f32 0x3D372713#32)) (mulf (mulf A A) A)))))))

/-- The layer's input to the experts, with their sum added. -/
def sumUp (W : FVec Ideal S16384x16384 .f32) : FVec Ideal S16384x1024 .f32 :=
  addf (transpose S16384x1024 [1, 0] H transposes_S1024x16384_S16384x1024_1_0)
    (Host.dotGeneral dot_S16384x16384_S16384x1024_S16384x1024_0_0_1_1_n_n none W V)

def result : FVec Ideal S16384x1024 .f32 := sumUp H V (mulf (gate C P R Q) (act (pre N U)))

theorem half : Ideal.ofBits .f32 0x3F000000#32 = ((1 / 2 : ℝ) : EReal) := by
  simp [Ideal.ofBits, Ideal.ieee, -EReal.coe_mul]; norm_num
theorem root : Ideal.ofBits .f32 0x3F4C422A#32 = (Cert.Ffn.c1 : EReal) := by
  unfold Cert.Ffn.c1; simp [Ideal.ofBits, Ideal.ieee, -EReal.coe_mul]; norm_num
theorem cubic : Ideal.ofBits .f32 0x3D372713#32 = (Cert.Ffn.c3 : EReal) := by
  unfold Cert.Ffn.c3; simp [Ideal.ofBits, Ideal.ieee, -EReal.coe_mul]; norm_num

theorem gate_at (i j : Fin 128) (t : Fin 16384) :
    gate C P R Q (ix2 ⟨128 * i.val + j.val, by omega⟩ t)
      = ∑ h : Fin 8, if R (ix3 h j t) < C (ix3 h i t) then P (ix3 h i t) * Q (ix3 h j t) else 0 := by
  pointwise [gate]
  refine Finset.sum_congr rfl fun h _ => ?_
  have hz : id (constant (F := Ideal) S_ .f32 0x00000000#32) ix0 = 0 := Ideal.ofBits_zero .f32
  rw [hz]

theorem pre_at (e t : Fin 16384) : pre N U (ix2 e t) = ∑ k : Fin 1024, U (ix2 e k) * N (ix2 k t) := by
  pointwise [pre]

theorem act_at (A : FVec Ideal S16384x16384 .f32) (e t : Fin 16384) : act A (ix2 e t) = Cert.Ffn.gelu (A (ix2 e t)) := by
  pointwise [act, Cert.Ffn.gelu]
  rw [half, root, cubic]

theorem sumUp_at (W : FVec Ideal S16384x16384 .f32) (t : Fin 16384) (d : Fin 1024) :
    sumUp H V W (ix2 t d) = H (ix2 d t) + ∑ e : Fin 16384, W (ix2 e t) * V (ix2 e d) := by
  pointwise [sumUp]

theorem result_at (t : Fin 16384) (d : Fin 1024) :
    result N H U V C P R Q (ix2 t d) = H (ix2 d t)
      + ∑ e : Fin 16384, gate C P R Q (ix2 e t) * Cert.Ffn.gelu (pre N U (ix2 e t)) * V (ix2 e d) := by
  unfold result
  rw [sumUp_at]
  refine congrArg _ (Finset.sum_congr rfl fun e _ => ?_)
  rw [← act_at]
  rfl

end Cert.Reference3Ideal.At
-- ==== Proof.Ffn.Block.lean ====
/- A block of 2048 experts in the reference's terms: what a point of the experts' call adds to a token's sum. -/
module

public import proofs.«01_k».proof.Proof.Ffn.Point
public import proofs.«01_k».proof.Proof.Ffn.RefAt

@[expose] public section

set_option maxRecDepth 16384

noncomputable section

namespace Cert.Kernel3Ideal.At

open Idealize.ShloMosaic Idealize.ShloMosaic.TcCoe
open Cert.Kernel3Ideal Cert.Kernel3Ideal.Gen
open Cert.Reference3Ideal.At (gate gate_at pre)

theorem ldU_at (x : Vec Ideal S2048x1024 .bf16) (n : Fin 16) (j : Fin 128) (k : Fin 1024) :
    ldU x n (ix2 j k) = x (ix2 ⟨128 * n.val + j.val, by omega⟩ k) := by
  pointwise [ldU]

theorem ldHead_at (x : Vec Ideal S8x128x512 .bf16) (h : Fin 8) (j : Fin 128) (l : Fin 512) :
    ldHead x h (ix3 0 j l) = x (ix3 h j l) := by
  pointwise [ldHead]

theorem ldRow_at (x : Vec Ideal S8x16x512 .bf16) (n : Fin 16) (h : Fin 8) (l : Fin 512) :
    ldRow x n h (ix3 0 0 l) = x (ix3 h n l) := by
  pointwise [ldRow]

variable (N : FVec Ideal S1024x16384 .bf16) (U V : FVec Ideal S16384x1024 .f32) (C P R Q : FVec Ideal S8x128x16384 .bf16)

/-- One expert's part of a token's sum, by the expert's number. -/
def part (t : Fin 16384) (d : Fin 1024) (e : ℕ) : EReal :=
  if h : e < 16384 then gate C P R Q (ix2 ⟨e, h⟩ t) * Cert.Ffn.gelu (pre N U (ix2 ⟨e, h⟩ t)) * V (ix2 ⟨e, h⟩ d) else 0

theorem block_at (acc : FVec Ideal S1024x512 .f32) (x0 : Vec Ideal S1024x512 .bf16) (x2 : Vec Ideal S2048x1024 .bf16)
    (x3 : Vec Ideal S1024x2048 .bf16) (x4 x5 : Vec Ideal S8x16x512 .bf16) (x6 x7 : Vec Ideal S8x128x512 .bf16)
    (s : Fin 8) (t : Fin 16384) (l : Fin 512) (d : Fin 1024)
    (h0 : ∀ k : Fin 1024, x0 (ix2 k l) = N (ix2 k t))
    (h2 : ∀ (e : Fin 2048) (k : Fin 1024), x2 (ix2 e k) = U (ix2 ⟨2048 * s.val + e.val, by omega⟩ k))
    (h3 : ∀ e : Fin 2048, x3 (ix2 d e) = V (ix2 ⟨2048 * s.val + e.val, by omega⟩ d))
    (h4 : ∀ (h : Fin 8) (i : Fin 16), x4 (ix3 h i l) = C (ix3 h ⟨16 * s.val + i.val, by omega⟩ t))
    (h5 : ∀ (h : Fin 8) (i : Fin 16), x5 (ix3 h i l) = P (ix3 h ⟨16 * s.val + i.val, by omega⟩ t))
    (h6 : ∀ (h : Fin 8) (j : Fin 128), x6 (ix3 h j l) = R (ix3 h j t))
    (h7 : ∀ (h : Fin 8) (j : Fin 128), x7 (ix3 h j l) = Q (ix3 h j t)) :
    body acc x3 (weights x0 x2 x4 x5 x6 x7) (ix2 d l)
      = acc (ix2 d l) + ∑ e ∈ Finset.range 2048, part N U V C P R Q t d (2048 * s.val + e) := by
  rw [body_at, Finset.sum_range]
  refine congrArg _ (Finset.sum_congr rfl fun e _ => ?_)
  have he : 2048 * s.val + e.val < 16384 := by omega
  unfold weights part
  rw [dif_pos he, chunk_at, Cert.Kernel3Ideal.At.pre_at, Cert.Reference3Ideal.At.pre_at, h3, mul_comm]
  have hx : (⟨2048 * s.val + e.val, he⟩ : Fin 16384)
      = ⟨128 * (⟨16 * s.val + e.val / 128, by omega⟩ : Fin 128).val + (⟨e.val % 128, by omega⟩ : Fin 128).val, by dsimp only; omega⟩ :=
    Fin.ext (by dsimp only; omega)
  have hg : gate C P R Q (ix2 ⟨2048 * s.val + e.val, he⟩ t) = _ := (congrArg (fun x => gate C P R Q (ix2 x t)) hx).trans (gate_at C P R Q _ _ t)
  rw [hg]
  simp only [ldHead_at, ldRow_at, ldU_at, h0, h2, h4, h5, h6, h7]
  have hy : ∀ k : Fin 1024, U (ix2 ⟨2048 * s.val + (128 * (e.val / 128) + e.val % 128), by omega⟩ k) = U (ix2 ⟨2048 * s.val + e.val, he⟩ k) :=
    fun k => congrArg (fun x => U (ix2 x k)) (Fin.ext (by dsimp only; omega))
  simp only [hy]

end Cert.Kernel3Ideal.At
-- ==== Proof.Ffn.Final.lean ====
/- The experts' call's array is the reference's result: the blocks read in their arrays, the accumulator after every point,
   and the output block at the last block of experts. -/
module

public import proofs.«01_k».proof.Proof.Ffn.HostAt
public import proofs.«01_k».proof.Proof.Ffn.Block

@[expose] public section

set_option maxRecDepth 16384

noncomputable section

namespace Cert.Kernel3Ideal.Final

open Idealize.ShloMosaic Idealize.ShloMosaic.TcCoe Idealize.SL.Sem
open Cert.Kernel3Ideal Cert.Kernel3Ideal.Gen Cert.Kernel3Ideal.At
open Cert.Reference3Ideal.At (gate pre result result_at)

/-- The block of tokens of a point and its block of experts. -/
def I (t : Fin cfg0.N) : Fin 32 := ⟨t.val / 8, by have := t.isLt; have : cfg0.N = 256 := N_0
                                                  omega⟩
def S (t : Fin cfg0.N) : Fin 8 := ⟨t.val % 8, by omega⟩

theorem idx0 : ∀ t : Fin cfg0.N, win0_0.index t = ![0, (I t).val] := (by decide +kernel : ∀ t : Fin grid0.N, _)
theorem idx1 : ∀ t : Fin cfg0.N, win0_1.index t = ![0, (I t).val] := (by decide +kernel : ∀ t : Fin grid0.N, _)
theorem idx2 : ∀ t : Fin cfg0.N, win0_2.index t = ![(S t).val, 0] := (by decide +kernel : ∀ t : Fin grid0.N, _)
theorem idx3 : ∀ t : Fin cfg0.N, win0_3.index t = ![0, (S t).val] := (by decide +kernel : ∀ t : Fin grid0.N, _)
theorem idx4 : ∀ t : Fin cfg0.N, win0_4.index t = ![0, (S t).val, (I t).val] := (by decide +kernel : ∀ t : Fin grid0.N, _)
theorem idx5 : ∀ t : Fin cfg0.N, win0_5.index t = ![0, (S t).val, (I t).val] := (by decide +kernel : ∀ t : Fin grid0.N, _)
theorem idx6 : ∀ t : Fin cfg0.N, win0_6.index t = ![0, 0, (I t).val] := (by decide +kernel : ∀ t : Fin grid0.N, _)
theorem idx7 : ∀ t : Fin cfg0.N, win0_7.index t = ![0, 0, (I t).val] := (by decide +kernel : ∀ t : Fin grid0.N, _)
theorem idx8 : ∀ t : Fin cfg0.N, win0_8.index t = ![(I t).val, 0] := (by decide +kernel : ∀ t : Fin grid0.N, _)

/-- A token of a point's block. -/
def tok (i : Fin 32) (l : Fin 512) : Fin 16384 := ⟨512 * i.val + l.val, by omega⟩

/-- The blocks read in their arrays. -/
theorem blk0 (X : FVec Ideal S1024x16384 .bf16) (t : Fin cfg0.N) (k : Fin 1024) (l : Fin 512) :
    ((cfg0.win 0).blk t).view.read (Elt Ideal) X (ix2 k l) = X (ix2 k ⟨512 * (I t).val + l.val, by omega⟩) := by
  blk_ext [idx0 t]
theorem blk1 (X : FVec Ideal S1024x16384 .f32) (t : Fin cfg0.N) (k : Fin 1024) (l : Fin 512) :
    ((cfg0.win 1).blk t).view.read (Elt Ideal) X (ix2 k l) = X (ix2 k ⟨512 * (I t).val + l.val, by omega⟩) := by
  blk_ext [idx1 t]
theorem blk2 (X : FVec Ideal S16384x1024 .bf16) (t : Fin cfg0.N) (e : Fin 2048) (k : Fin 1024) :
    ((cfg0.win 2).blk t).view.read (Elt Ideal) X (ix2 e k) = X (ix2 ⟨2048 * (S t).val + e.val, by omega⟩ k) := by
  blk_ext [idx2 t]
theorem blk3 (X : FVec Ideal S1024x16384 .bf16) (t : Fin cfg0.N) (d : Fin 1024) (e : Fin 2048) :
    ((cfg0.win 3).blk t).view.read (Elt Ideal) X (ix2 d e) = X (ix2 d ⟨2048 * (S t).val + e.val, by omega⟩) := by
  blk_ext [idx3 t]
theorem blk4 (X : FVec Ideal S8x128x16384 .bf16) (t : Fin cfg0.N) (h : Fin 8) (i : Fin 16) (l : Fin 512) :
    ((cfg0.win 4).blk t).view.read (Elt Ideal) X (ix3 h i l) = X (ix3 h ⟨16 * (S t).val + i.val, by omega⟩ ⟨512 * (I t).val + l.val, by omega⟩) := by
  blk_ext [idx4 t]
theorem blk5 (X : FVec Ideal S8x128x16384 .bf16) (t : Fin cfg0.N) (h : Fin 8) (i : Fin 16) (l : Fin 512) :
    ((cfg0.win 5).blk t).view.read (Elt Ideal) X (ix3 h i l) = X (ix3 h ⟨16 * (S t).val + i.val, by omega⟩ ⟨512 * (I t).val + l.val, by omega⟩) := by
  blk_ext [idx5 t]
theorem blk6 (X : FVec Ideal S8x128x16384 .bf16) (t : Fin cfg0.N) (h : Fin 8) (j : Fin 128) (l : Fin 512) :
    ((cfg0.win 6).blk t).view.read (Elt Ideal) X (ix3 h j l) = X (ix3 h j ⟨512 * (I t).val + l.val, by omega⟩) := by
  blk_ext [idx6 t]
theorem blk7 (X : FVec Ideal S8x128x16384 .bf16) (t : Fin cfg0.N) (h : Fin 8) (j : Fin 128) (l : Fin 512) :
    ((cfg0.win 7).blk t).view.read (Elt Ideal) X (ix3 h j l) = X (ix3 h j ⟨512 * (I t).val + l.val, by omega⟩) := by
  blk_ext [idx7 t]

theorem emb8 (t : Fin cfg0.N) (l : Fin 512) (d : Fin 1024) :
    ((cfg0.win 8).blk t).view.emb (ix2 l d) = ix2 ⟨512 * (I t).val + l.val, by omega⟩ d := by
  blk_ext [idx8 t]

variable (m : (ℓ : Loc nD τ sig) → Buf (Elt Ideal) ℓ) (c : Dev nD)

/-- One expert's part of a token's sum, of the arguments. -/
abbrev partOf (t : Fin 16384) (d : Fin 1024) (e : ℕ) : EReal :=
  part (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) t d e

/-- What a point adds to the accumulator. -/
theorem point_at (t : Fin cfg0.N) (acc : FVec Ideal S1024x512 .f32) (l : Fin 512) (d : Fin 1024) :
    body acc (iblk m c 3 t) (At.weights (iblk m c 0 t) (iblk m c 2 t) (iblk m c 4 t) (iblk m c 5 t) (iblk m c 6 t) (iblk m c 7 t)) (ix2 d l)
      = acc (ix2 d l) + ∑ e ∈ Finset.range 2048, partOf m c (tok (I t) l) d (2048 * (S t).val + e) :=
  block_at _ _ _ _ _ _ _ acc _ _ _ _ _ _ _ (S t) (tok (I t) l) l d
    (fun k => (blk0 (V m c main_arg0) t k l).trans (congrFun (V_main_arg0 m c) _))
    (fun e k => (blk2 (V m c main_v0) t e k).trans ((congrFun (read_u m c) _).trans (up_at _ _ _)))
    (fun e => (blk3 (V m c main_v2) t d e).trans ((congrFun (read_v m c) _).trans (down_at _ _ _)))
    (fun h i => (blk4 (V m c main_arg4) t h i l).trans (congrFun (V_main_arg4 m c) _))
    (fun h i => (blk5 (V m c main_arg5) t h i l).trans (congrFun (V_main_arg5 m c) _))
    (fun h j => (blk6 (V m c main_arg6) t h j l).trans (congrFun (V_main_arg6 m c) _))
    (fun h j => (blk7 (V m c main_arg7) t h j l).trans (congrFun (V_main_arg7 m c) _))

/-- The accumulator after a point that is not its block's last: the experts up to the point's block. -/
theorem sum_at (l : Fin 512) (d : Fin 1024) : ∀ (n : ℕ) (hn : n < cfg0.N), ¬n % 8 = 7 →
    (outsAt0 m c n hn).2 (ix2 d l) = ∑ e ∈ Finset.range (2048 * (n % 8 + 1)), partOf m c (tok (I ⟨n, hn⟩) l) d e := by
  intro n
  induction n with
  | zero =>
    intro hn h1
    rw [show outsAt0 m c 0 hn = _ from outsAt0_A m c ⟨0, hn⟩ rfl h1]
    dsimp only
    rw [first_eq, point_at, zero_at, zero_add]
    refine Finset.sum_congr rfl fun e _ => congrArg _ ?_
    show 2048 * (0 % 8) + e = e
    omega
  | succ n ih =>
    intro hn h1
    by_cases h0 : (n + 1) % 8 = 0
    · rw [show outsAt0 m c (n + 1) hn = _ from outsAt0_A m c ⟨n + 1, hn⟩ h0 h1]
      dsimp only
      rw [first_eq, point_at, zero_at, zero_add, h0]
      refine Finset.sum_congr rfl fun e _ => congrArg _ ?_
      show 2048 * ((n + 1) % 8) + e = e
      omega
    · rw [show outsAt0 m c (n + 1) hn = _ from outsAt0_B m c ⟨n + 1, hn⟩ h0 h1]
      dsimp only
      rw [next_eq, point_at]
      have hi := ih (Nat.lt_of_succ_lt hn) (by omega)
      have hI : I ⟨n, Nat.lt_of_succ_lt hn⟩ = I ⟨n + 1, hn⟩ := Fin.ext (show n / 8 = (n + 1) / 8 by omega)
      rw [hI] at hi
      have hs : n % 8 + 1 = (n + 1) % 8 := by omega
      rw [hs] at hi
      refine (congrArg (· + _) hi).trans ?_
      rw [Nat.mul_add, Nat.mul_one, Finset.sum_range_add]
      rfl

theorem final : (dats m 0 c).arrAt 8 (cfgs 0).N = result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) := by
  refine (dats m 0 c).arrAt_eq_of_covers 8 _ (by decide +kernel) fun t hf y => ?_
  blk_simp
  have h1 : t.val % 8 = 7 := (flush0_8 t).mp hf
  have h0 : ¬t.val % 8 = 0 := by omega
  rw [after0_8, outsAt0_C m c t h0 h1]
  dsimp only
  obtain ⟨l, d, rfl⟩ : ∃ (l : Fin 512) (d : Fin 1024), y = ix2 l d := ⟨y 0, y 1, eq_ix2 y⟩
  rw [emb8]
  refine Eq.trans ?_ (result_at _ _ _ _ _ _ _ _ (tok (I t) l) d).symm
  rw [last_eq, out_at, point_at]
  have hn : t.val - 1 < cfg0.N := Nat.lt_of_le_of_lt (Nat.sub_le _ _) t.isLt
  have hi := sum_at m c l d (t.val - 1) hn (by omega)
  have hI : I ⟨t.val - 1, hn⟩ = I t := Fin.ext (show (t.val - 1) / 8 = t.val / 8 by omega)
  rw [hI] at hi
  have hs : (t.val - 1) % 8 + 1 = t.val % 8 := by omega
  rw [hs] at hi
  refine congrArg₂ (· + ·) ((blk1 (V m c main_arg1) t d l).trans (congrFun (V_main_arg1 m c) _)) ?_
  refine (congrArg (· + _) hi).trans ?_
  refine (Finset.sum_range_add (partOf m c (tok (I t) l) d) (2048 * (t.val % 8)) 2048).symm.trans ?_
  rw [h1, Finset.sum_range]
  refine Finset.sum_congr rfl fun e _ => ?_
  exact dif_pos e.isLt

end Cert.Kernel3Ideal.Final
-- ==== Proof.Ffn.Algebraic.lean ====
/- The experts' call: the frames of its three programs, its two named constants, and the equality of its result with the
   reference's as extended reals. -/
module

public import proofs.«01_k».proof.Defs
public import proofs.«01_k».proof.Proof.Gen.Kernel3.Frame
public import proofs.«01_k».proof.Proof.Gen.Kernel3Ideal.Value
public import proofs.«01_k».proof.Proof.Ffn.Final
public import Idealize.ShloMosaic.Lib.Claim

@[expose] public section

set_option maxRecDepth 16384

noncomputable section

namespace Cert.Proof.Ffn

open Idealize.ShloMosaic Idealize.ShloMosaic.TcCoe Idealize.SL.Sem

theorem frame_P : Cert.quiescent_Kernel3 (hKernel3 := Cert.Kernel3.Gen.facts) := fun m g _ => Cert.Kernel3.Gen.frame m g

theorem frame_PI : Cert.quiescent_Kernel3Ideal (hKernel3Ideal := Cert.Kernel3Ideal.Gen.facts) := fun m g _ => Cert.Kernel3Ideal.Gen.frame m g

theorem frame_RI : Cert.quiescent_Reference3Ideal (hReference3Ideal := Cert.Reference3Ideal.Gen.facts) := fun m g _ =>
  (θ_run _ _ _).mono (fun r h => ⟨fun c => (h c).2, sem_eq_zero_of_no_sems rfl r.2⟩) (Cert.Reference3Ideal.Value.run m g)

theorem preserves : Cert.preserves_Kernel3_Kernel3Ideal :=
  ⟨IdealRules.named_const.statement Cert.Kernel3Ideal.κ "gelu_3" .f32 0xBDD2D3E8#32 (((-((2 * (6693141 / 8388608)) * (Real.log 2)⁻¹)) * (12003091 / 268435456) : ℝ) : EReal) rfl,
   IdealRules.named_const.statement Cert.Kernel3Ideal.κ "gelu_1" .f32 0xC0135761#32 ((-((2 * (6693141 / 8388608)) * (Real.log 2)⁻¹) : ℝ) : EReal) rfl⟩

open Cert.Kernel3Ideal in
theorem algebraic : Cert.algebraic_Kernel3Ideal_Reference3Ideal (hKernel3Ideal := Cert.Kernel3Ideal.Gen.facts)
    (hReference3Ideal := Cert.Reference3Ideal.Gen.facts) := fun m g m' g' _ hagree => by
  refine ⟨fun c => Cert.Reference3Ideal.At.result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)), ?_, ?_⟩
  · refine (θ_run _ _ _).mono (fun r h c => ?_) (θ_run_and (Cert.Kernel3Ideal.Gen.frame m g) (Cert.Kernel3Ideal.Gen.run_main m g))
    exact ⟨(h.2.out_eq c 8).trans (Cert.Kernel3Ideal.Final.final m c), h.1.1 c⟩
  · refine (θ_run _ _ _).mono (fun r h c => ⟨(h c).1.trans ?_, (h c).2⟩) (Cert.Reference3Ideal.Value.run m' g')
    obtain ⟨h0, h1, h2, h3, h4, h5, h6, h7⟩ := hagree c
    rw [h0, h1, h2, h3, h4, h5, h6, h7]
    rfl

end Cert.Proof.Ffn
-- ==== Proof.lean ====
/- The claims, assembled behind the witnesses of the programs' stated facts: the frames and the ledger (Proof/Frames.lean), the
   equality of the results at the extended reals (Proof/Algebraic.lean), and both for the output projection
   (Proof/Out/Algebraic.lean). -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_finite_qk
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Frames
public import proofs.«01_k».proof.Proof.Algebraic
public import proofs.«01_k».proof.Proof.Out.Algebraic
public import proofs.«01_k».proof.Proof.Ffn.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Pre_finite_qk.Gen.facts, frame_P, frame_PI, (fun m g _ => frame_PI m g trivial), frame_RI, (fun m g _ => frame_RI m g trivial),
  Out.frame_P, Out.frame_PI, Out.frame_RI, Ffn.frame_P, Ffn.frame_PI, Ffn.frame_RI, preserves, algebraic,
  Out.preserves, Out.algebraic, Ffn.preserves, Ffn.algebraic⟩

end Cert.Proof

end
